-- ==== Defs.lean ====
def Pre_Kernel [hPre_full_groups : Cert.Pre_full_groups.Facts] (m : (ℓ : Loc Cert.Kernel.nD Cert.Kernel.τ Cert.Kernel.sig) → Buf (Elt Bits) ℓ) : Prop :=
  ∀ c : Dev Cert.Kernel.nD,
    (Cert.Pre_full_groups.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_full_groups : Cert.Pre_full_groups.Facts] (m : (ℓ : Loc Cert.KernelIdeal.nD Cert.KernelIdeal.τ Cert.KernelIdeal.sig) → Buf (Elt Ideal) ℓ) : Prop :=
  ∀ c : Dev Cert.KernelIdeal.nD,
    (Cert.Pre_full_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_groups [hPre_full_groups : Cert.Pre_full_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_full_groups : Cert.Pre_full_groups.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_full_groups : Cert.Pre_full_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_full_groups [hReferenceIdeal : Cert.ReferenceIdeal.Facts] [hPre_full_groups : Cert.Pre_full_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_full_groups : Cert.Pre_full_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_full_groups : Cert.Pre_full_groups.Facts),
    quiescent_Kernel (hKernel := hKernel) (hPre_full_groups := hPre_full_groups)
    ∧ quiescent_KernelIdeal (hKernelIdeal := hKernelIdeal) (hPre_full_groups := hPre_full_groups)
    ∧ quiescent_ReferenceIdeal (hReferenceIdeal := hReferenceIdeal)
    ∧ quiescent_ReferenceIdeal_pre_full_groups (hReferenceIdeal := hReferenceIdeal) (hPre_full_groups := hPre_full_groups)
    ∧ preserves_Kernel_KernelIdeal
    ∧ algebraic_KernelIdeal_ReferenceIdeal (hKernelIdeal := hKernelIdeal) (hReferenceIdeal := hReferenceIdeal) (hPre_full_groups := hPre_full_groups)
-- ==== Pre_full_groups.lean ====
abbrev S24576x6144 : Shape := ⟨2, ![24576, 6144]⟩
abbrev S16 : Shape := ⟨1, ![16]⟩
abbrev S16x6144x2048 : Shape := ⟨3, ![16, 6144, 2048]⟩
abbrev S16x48x16 : Shape := ⟨3, ![16, 48, 16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S24576x6144 .bf16) (main_arg1 : IVec S16 32) (main_arg2 : FVec F S16x6144x2048 .fp8e4m3) (main_arg3 : FVec F S16x48x16 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 24576#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 24576#32
  let main_v7 : IVec S_ 1 := cmpi .eq main_v6 main_c_3
  let main_v8 : IVec S_ 1 := andi main_v5 main_v7
  main_v8
-- ==== Kernel.lean ====
abbrev S24576x6144 : Shape := ⟨2, ![24576, 6144]⟩
abbrev S16 : Shape := ⟨1, ![16]⟩
abbrev S16x6144x2048 : Shape := ⟨3, ![16, 6144, 2048]⟩
abbrev S16x48x16 : Shape := ⟨3, ![16, 48, 16]⟩
abbrev S_ : Shape := ⟨0, ![]⟩
abbrev S111 : Shape := ⟨1, ![111]⟩
abbrev S1 : Shape := ⟨1, ![1]⟩
abbrev S111x1 : Shape := ⟨2, ![111, 1]⟩
abbrev S1x16 : Shape := ⟨2, ![1, 16]⟩
abbrev S111x16 : Shape := ⟨2, ![111, 16]⟩
abbrev S16x48x16x128 : Shape := ⟨4, ![16, 48, 16, 128]⟩
abbrev S16x48x2048 : Shape := ⟨3, ![16, 48, 2048]⟩
abbrev S24576x2048 : Shape := ⟨2, ![24576, 2048]⟩
abbrev S256x6144 : Shape := ⟨2, ![256, 6144]⟩
abbrev S1x6144x2048 : Shape := ⟨3, ![1, 6144, 2048]⟩
abbrev S1x48x2048 : Shape := ⟨3, ![1, 48, 2048]⟩
abbrev S256x2048 : Shape := ⟨2, ![256, 2048]⟩
abbrev S6144x512 : Shape := ⟨2, ![6144, 512]⟩
abbrev S256x128 : Shape := ⟨2, ![256, 128]⟩
abbrev S256 : Shape := ⟨1, ![256]⟩
abbrev S256x1 : Shape := ⟨2, ![256, 1]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S256x512 : Shape := ⟨2, ![256, 512]⟩

abbrev nBuf : Space → Nat
  | .hbm => 116
  | .vmem => 10
  | .smem => 4
  | _ => 0

abbrev bufTy : (tb : Table) → Fin (tcTables nBuf tb) → BufTy
  | .hbm, ⟨0, _⟩ => ⟨S24576x6144, .bf16⟩
  | .hbm, ⟨1, _⟩ => ⟨S16, .i32⟩
  | .hbm, ⟨2, _⟩ => ⟨S16x6144x2048, .fp8e4m3⟩
  | .hbm, ⟨3, _⟩ => ⟨S16x48x16, .f32⟩
  | .hbm, ⟨4, _⟩ => ⟨S_, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i1⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S_, .i32⟩
  | .hbm, ⟨33, _⟩ => ⟨S16, .i32⟩
  | .hbm, ⟨34, _⟩ => ⟨S16, .i32⟩
  | .hbm, ⟨35, _⟩ => ⟨S_, .i32⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S16, .i32⟩
  | .hbm, ⟨44, _⟩ => ⟨S16, .i32⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S16, .i1⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S16, .i32⟩
  | .hbm, ⟨53, _⟩ => ⟨S16, .i32⟩
  | .hbm, ⟨54, _⟩ => ⟨S_, .i32⟩
  | .hbm, ⟨55, _⟩ => ⟨S_, .i32⟩
  | .hbm, ⟨56, _⟩ => ⟨S16, .i32⟩
  | .hbm, ⟨57, _⟩ => ⟨S16, .i32⟩
  | .hbm, ⟨58, _⟩ => ⟨S_, .i32⟩
  | .hbm, ⟨59, _⟩ => ⟨S_, .i32⟩
  | .hbm, ⟨60, _⟩ => ⟨S16, .i32⟩
  | .hbm, ⟨61, _⟩ => ⟨S111, .i32⟩
  | .hbm, ⟨62, _⟩ => ⟨S1, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S111, .i32⟩
  | .hbm, ⟨67, _⟩ => ⟨S111, .i32⟩
  | .hbm, ⟨68, _⟩ => ⟨S111x1, .i32⟩
  | .hbm, ⟨69, _⟩ => ⟨S1x16, .i32⟩
  | .hbm, ⟨70, _⟩ => ⟨S111x16, .i32⟩
  | .hbm, ⟨71, _⟩ => ⟨S111x16, .i32⟩
  | .hbm, ⟨72, _⟩ => ⟨S111x16, .i1⟩
  | .hbm, ⟨73, _⟩ => ⟨S111x16, .i32⟩
  | .hbm, ⟨74, _⟩ => ⟨S_, .i32⟩
  | .hbm, ⟨75, _⟩ => ⟨S_, .i32⟩
  | .hbm, ⟨76, _⟩ => ⟨S111, .i32⟩
  | .hbm, ⟨77, _⟩ => ⟨S111, .i1⟩
  | .hbm, ⟨78, _⟩ => ⟨S_, .i32⟩
  | .hbm, ⟨79, _⟩ => ⟨S111, .i32⟩
  | .hbm, ⟨80, _⟩ => ⟨S111, .i32⟩
  | .hbm, ⟨81, _⟩ => ⟨S111, .i32⟩
  | .hbm, ⟨82, _⟩ => ⟨S111x1, .i32⟩
  | .hbm, ⟨83, _⟩ => ⟨S111, .i32⟩
  | .hbm, ⟨84, _⟩ => ⟨S111, .i32⟩
  | .hbm, ⟨85, _⟩ => ⟨S16, .i32⟩
  | .hbm, ⟨86, _⟩ => ⟨S_, .i32⟩
  | .hbm, ⟨87, _⟩ => ⟨S111, .i32⟩
  | .hbm, ⟨88, _⟩ => ⟨S111, .i1⟩
  | .hbm, ⟨89, _⟩ => ⟨S_, .i32⟩
  | .hbm, ⟨90, _⟩ => ⟨S111, .i32⟩
  | .hbm, ⟨91, _⟩ => ⟨S111, .i32⟩
  | .hbm, ⟨92, _⟩ => ⟨S111, .i32⟩
  | .hbm, ⟨93, _⟩ => ⟨S111x1, .i32⟩
  | .hbm, ⟨94, _⟩ => ⟨S111, .i32⟩
  | .hbm, ⟨95, _⟩ => ⟨S16x48x16, .bf16⟩
  | .hbm, ⟨96, _⟩ => ⟨S16x48x16x128, .bf16⟩
  | .hbm, ⟨97, _⟩ => ⟨S16x48x2048, .bf16⟩
  | .hbm, ⟨98, _⟩ => ⟨S16x48x2048, .f32⟩
  | .hbm, ⟨99, _⟩ => ⟨S_, .i32⟩
  | .hbm, ⟨100, _⟩ => ⟨S111, .i32⟩
  | .hbm, ⟨101, _⟩ => ⟨S111, .i1⟩
  | .hbm, ⟨102, _⟩ => ⟨S_, .i32⟩
  | .hbm, ⟨103, _⟩ => ⟨S111, .i32⟩
  | .hbm, ⟨104, _⟩ => ⟨S111, .i32⟩
  | .hbm, ⟨105, _⟩ => ⟨S111, .i32⟩
  | .hbm, ⟨106, _⟩ => ⟨S111x1, .i32⟩
  | .hbm, ⟨107, _⟩ => ⟨S_, .i32⟩
  | .hbm, ⟨108, _⟩ => ⟨S111, .i32⟩
  | .hbm, ⟨109, _⟩ => ⟨S111, .i1⟩
  | .hbm, ⟨110, _⟩ => ⟨S_, .i32⟩
  | .hbm, ⟨111, _⟩ => ⟨S111, .i32⟩
  | .hbm, ⟨112, _⟩ => ⟨S111, .i32⟩
  | .hbm, ⟨113, _⟩ => ⟨S111, .i32⟩
  | .hbm, ⟨114, _⟩ => ⟨S111x1, .i32⟩
  | .hbm, ⟨115, _⟩ => ⟨S24576x2048, .bf16⟩
  | .local _ .vmem, ⟨0, _⟩ => ⟨S256x6144, .bf16⟩
  | .local _ .vmem, ⟨1, _⟩ => ⟨S256x6144, .bf16⟩
  | .local _ .vmem, ⟨2, _⟩ => ⟨S1x6144x2048, .fp8e4m3⟩
  | .local _ .vmem, ⟨3, _⟩ => ⟨S1x6144x2048, .fp8e4m3⟩
  | .local _ .vmem, ⟨4, _⟩ => ⟨S1x48x2048, .f32⟩
  | .local _ .vmem, ⟨5, _⟩ => ⟨S1x48x2048, .f32⟩
  | .local _ .vmem, ⟨6, _⟩ => ⟨S256x2048, .bf16⟩
  | .local _ .vmem, ⟨7, _⟩ => ⟨S256x2048, .bf16⟩
  | .local _ .vmem, ⟨8, _⟩ => ⟨S256x6144, .bf16⟩
  | .local _ .vmem, ⟨9, _⟩ => ⟨S6144x512, .bf16⟩
  | .local _ .smem, ⟨0, _⟩ => ⟨S111, .i32⟩
  | .local _ .smem, ⟨1, _⟩ => ⟨S111, .i32⟩
  | .local _ .smem, ⟨2, _⟩ => ⟨S111, .i32⟩
  | .local _ .smem, ⟨3, _⟩ => ⟨S111, .i32⟩
  | _, _ => ⟨S24576x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_5 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_c_6 : Ref sig .tc := ⟨.hbm, 74, rfl⟩
abbrev main_c_7 : Ref sig .tc := ⟨.hbm, 75, rfl⟩
abbrev main_v26 : Ref sig .tc := ⟨.hbm, 76, rfl⟩
abbrev main_v27 : Ref sig .tc := ⟨.hbm, 77, rfl⟩
abbrev main_c_8 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_c_9 : Ref sig .tc := ⟨.hbm, 86, rfl⟩
abbrev main_v35 : Ref sig .tc := ⟨.hbm, 87, rfl⟩
abbrev main_v36 : Ref sig .tc := ⟨.hbm, 88, rfl⟩
abbrev main_c_10 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_c_11 : Ref sig .tc := ⟨.hbm, 99, rfl⟩
abbrev main_v47 : Ref sig .tc := ⟨.hbm, 100, rfl⟩
abbrev main_v48 : Ref sig .tc := ⟨.hbm, 101, rfl⟩
abbrev main_c_12 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_c_13 : Ref sig .tc := ⟨.hbm, 107, rfl⟩
abbrev main_v54 : Ref sig .tc := ⟨.hbm, 108, rfl⟩
abbrev main_v55 : Ref sig .tc := ⟨.hbm, 109, rfl⟩
abbrev main_c_14 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v61 : Ref sig .tc := ⟨.hbm, 115, rfl⟩
abbrev main_v42 : Ref sig .tc := ⟨.smem, 0, rfl⟩
abbrev main_v25 : Ref sig .tc := ⟨.smem, 1, rfl⟩
abbrev main_v53 : Ref sig .tc := ⟨.smem, 2, rfl⟩
abbrev main_v60 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![111], ![false]⟩

abbrev pre0 : Pipeline.Prefetch sig := ⟨4, ![main_v42.idx, main_v25.idx, main_v53.idx, main_v60.idx], fun | 0 => main_v42.names | 1 => main_v25.names | 2 => main_v53.names | 3 => main_v60.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
@[reducible] def k0_t1_loop : Scf.Loop 32 :=
  let c0_i32_48 : BitVec 32 := 0#32
  let c48_i32_49 : BitVec 32 := 48#32
  let v72 : BitVec 32 := Scalar.addi c0_i32_48 c48_i32_49
  let c1_i32_50 : BitVec 32 := 1#32
  ⟨c0_i32_48, v72, c1_i32_50⟩
def k0_mult1 (k0_t1 : Fin k0_t1_loop.trips) : BitVec 32 :=
  let c0_i32_48 : BitVec 32 := 0#32
  let c1_i32_50 : BitVec 32 := 1#32
  let arg11 : BitVec 32 := Scf.iv c0_i32_48 c1_i32_50 k0_t1
  let c128_i32 : BitVec 32 := 128#32
  let v73 : BitVec 32 := Scalar.muli arg11 c128_i32
  v73
def k0_off3 (k0_t1 : Fin k0_t1_loop.trips) : Fin 2 → Nat :=
  let c0_52 : Index := 0#32
  let c0_i32_48 : BitVec 32 := 0#32
  let c1_i32_50 : BitVec 32 := 1#32
  let arg11 : BitVec 32 := Scf.iv c0_i32_48 c1_i32_50 k0_t1
  let c128_i32 : BitVec 32 := 128#32
  let v73 : BitVec 32 := Scalar.muli arg11 c128_i32
  let v74 : BitVec 32 := v73
  let v75 : Index := Scalar.indexCast v74
  ![0, v75.toNat]
@[reducible] def k0_t2_loop : Scf.Loop 32 :=
  let c0_i32_57 : BitVec 32 := 0#32
  let c246_i32 : BitVec 32 := 246#32
  let v86 : BitVec 32 := Scalar.addi c0_i32_57 c246_i32
  let c1_i32_58 : BitVec 32 := 1#32
  ⟨c0_i32_57, v86, c1_i32_58⟩
def k0_off4 (i : grid0.Coords) : Fin 1 → Nat :=
  let arg0 : BitVec 32 := BitVec.ofNat 32 (i 0).val
  let v15 : Index := Scalar.indexCast arg0
  ![v15.toNat]
@[reducible] def k0_t3_loop : Scf.Loop 32 :=
  let c0_i32_2 : BitVec 32 := 0#32
  let c48_i32 : BitVec 32 := 48#32
  let v24 : BitVec 32 := Scalar.addi c0_i32_2 c48_i32
  let c1_i32_3 : BitVec 32 := 1#32
  ⟨c0_i32_2, v24, c1_i32_3⟩
def k0_mult2 (k0_t3 : Fin k0_t3_loop.trips) : BitVec 32 :=
  let c0_i32_2 : BitVec 32 := 0#32
  let c1_i32_3 : BitVec 32 := 1#32
  let arg11 : BitVec 32 := Scf.iv c0_i32_2 c1_i32_3 k0_t3
  let c128_i32 : BitVec 32 := 128#32
  let v72 : BitVec 32 := Scalar.muli arg11 c128_i32
  v72
def k0_off5 (k0_t3 : Fin k0_t3_loop.trips) : Fin 3 → Nat :=
  let c0_48 : Index := 0#32
  let c0_i32_2 : BitVec 32 := 0#32
  let c1_i32_3 : BitVec 32 := 1#32
  let arg11 : BitVec 32 := Scf.iv c0_i32_2 c1_i32_3 k0_t3
  let c128_i32 : BitVec 32 := 128#32
  let v72 : BitVec 32 := Scalar.muli arg11 c128_i32
  let v73 : BitVec 32 := v72
  let v74 : Index := Scalar.indexCast v73
  let c0_49 : Index := 0#32
  ![0, v74.toNat, 0]
def k0_off6 (k0_t3 : Fin k0_t3_loop.trips) : Fin 3 → Nat :=
  let c0_50 : Index := 0#32
  let c0_i32_2 : BitVec 32 := 0#32
  let c1_i32_3 : BitVec 32 := 1#32
  let arg11 : BitVec 32 := Scf.iv c0_i32_2 c1_i32_3 k0_t3
  let v78 : Index := Scalar.indexCast arg11
  let c0_51 : Index := 0#32
  ![0, v78.toNat, 0]
def k0_off7 (k0_t3 : Fin k0_t3_loop.trips) : Fin 2 → Nat :=
  let c0_i32_2 : BitVec 32 := 0#32
  let c1_i32_3 : BitVec 32 := 1#32
  let arg11 : BitVec 32 := Scf.iv c0_i32_2 c1_i32_3 k0_t3
  let c128_i32 : BitVec 32 := 128#32
  let v72 : BitVec 32 := Scalar.muli arg11 c128_i32
  let v73 : BitVec 32 := v72
  let v84 : Index := Scalar.indexCast v73
  let c0_52 : Index := 0#32
  ![v84.toNat, 0]
@[reducible] def k0_t4_loop : Scf.Loop 32 :=
  let c0_i32_12 : BitVec 32 := 0#32
  let c48_i32_13 : BitVec 32 := 48#32
  let v36 : BitVec 32 := Scalar.addi c0_i32_12 c48_i32_13
  let c1_i32_14 : BitVec 32 := 1#32
  ⟨c0_i32_12, v36, c1_i32_14⟩
def k0_mult3 (k0_t4 : Fin k0_t4_loop.trips) : BitVec 32 :=
  let c0_i32_12 : BitVec 32 := 0#32
  let c1_i32_14 : BitVec 32 := 1#32
  let arg11 : BitVec 32 := Scf.iv c0_i32_12 c1_i32_14 k0_t4
  let c128_i32 : BitVec 32 := 128#32
  let v72 : BitVec 32 := Scalar.muli arg11 c128_i32
  v72
def k0_off8 (k0_t4 : Fin k0_t4_loop.trips) : Fin 3 → Nat :=
  let c0_48 : Index := 0#32
  let c0_i32_12 : BitVec 32 := 0#32
  let c1_i32_14 : BitVec 32 := 1#32
  let arg11 : BitVec 32 := Scf.iv c0_i32_12 c1_i32_14 k0_t4
  let c128_i32 : BitVec 32 := 128#32
  let v72 : BitVec 32 := Scalar.muli arg11 c128_i32
  let v73 : BitVec 32 := v72
  let v74 : Index := Scalar.indexCast v73
  let c512_49 : Index := 512#32
  ![0, v74.toNat, 512]
def k0_off9 (k0_t4 : Fin k0_t4_loop.trips) : Fin 3 → Nat :=
  let c0_50 : Index := 0#32
  let c0_i32_12 : BitVec 32 := 0#32
  let c1_i32_14 : BitVec 32 := 1#32
  let arg11 : BitVec 32 := Scf.iv c0_i32_12 c1_i32_14 k0_t4
  let v78 : Index := Scalar.indexCast arg11
  let c512_51 : Index := 512#32
  ![0, v78.toNat, 512]
def k0_off10 (k0_t4 : Fin k0_t4_loop.trips) : Fin 2 → Nat :=
  let c0_i32_12 : BitVec 32 := 0#32
  let c1_i32_14 : BitVec 32 := 1#32
  let arg11 : BitVec 32 := Scf.iv c0_i32_12 c1_i32_14 k0_t4
  let c128_i32 : BitVec 32 := 128#32
  let v72 : BitVec 32 := Scalar.muli arg11 c128_i32
  let v73 : BitVec 32 := v72
  let v84 : Index := Scalar.indexCast v73
  let c0_52 : Index := 0#32
  ![v84.toNat, 0]
@[reducible] def k0_t5_loop : Scf.Loop 32 :=
  let c0_i32_24 : BitVec 32 := 0#32
  let c48_i32_25 : BitVec 32 := 48#32
  let v48 : BitVec 32 := Scalar.addi c0_i32_24 c48_i32_25
  let c1_i32_26 : BitVec 32 := 1#32
  ⟨c0_i32_24, v48, c1_i32_26⟩
def k0_mult4 (k0_t5 : Fin k0_t5_loop.trips) : BitVec 32 :=
  let c0_i32_24 : BitVec 32 := 0#32
  let c1_i32_26 : BitVec 32 := 1#32
  let arg11 : BitVec 32 := Scf.iv c0_i32_24 c1_i32_26 k0_t5
  let c128_i32 : BitVec 32 := 128#32
  let v72 : BitVec 32 := Scalar.muli arg11 c128_i32
  v72
def k0_off11 (k0_t5 : Fin k0_t5_loop.trips) : Fin 3 → Nat :=
  let c0_48 : Index := 0#32
  let c0_i32_24 : BitVec 32 := 0#32
  let c1_i32_26 : BitVec 32 := 1#32
  let arg11 : BitVec 32 := Scf.iv c0_i32_24 c1_i32_26 k0_t5
  let c128_i32 : BitVec 32 := 128#32
  let v72 : BitVec 32 := Scalar.muli arg11 c128_i32
  let v73 : BitVec 32 := v72
  let v74 : Index := Scalar.indexCast v73
  let c1024_49 : Index := 1024#32
  ![0, v74.toNat, 1024]
def k0_off12 (k0_t5 : Fin k0_t5_loop.trips) : Fin 3 → Nat :=
  let c0_50 : Index := 0#32
  let c0_i32_24 : BitVec 32 := 0#32
  let c1_i32_26 : BitVec 32 := 1#32
  let arg11 : BitVec 32 := Scf.iv c0_i32_24 c1_i32_26 k0_t5
  let v78 : Index := Scalar.indexCast arg11
  let c1024_51 : Index := 1024#32
  ![0, v78.toNat, 1024]
def k0_off13 (k0_t5 : Fin k0_t5_loop.trips) : Fin 2 → Nat :=
  let c0_i32_24 : BitVec 32 := 0#32
  let c1_i32_26 : BitVec 32 := 1#32
  let arg11 : BitVec 32 := Scf.iv c0_i32_24 c1_i32_26 k0_t5
  let c128_i32 : BitVec 32 := 128#32
  let v72 : BitVec 32 := Scalar.muli arg11 c128_i32
  let v73 : BitVec 32 := v72
  let v84 : Index := Scalar.indexCast v73
  let c0_52 : Index := 0#32
  ![v84.toNat, 0]
@[reducible] def k0_t6_loop : Scf.Loop 32 :=
  let c0_i32_36 : BitVec 32 := 0#32
  let c48_i32_37 : BitVec 32 := 48#32
  let v60 : BitVec 32 := Scalar.addi c0_i32_36 c48_i32_37
  let c1_i32_38 : BitVec 32 := 1#32
  ⟨c0_i32_36, v60, c1_i32_38⟩
def k0_mult5 (k0_t6 : Fin k0_t6_loop.trips) : BitVec 32 :=
  let c0_i32_36 : BitVec 32 := 0#32
  let c1_i32_38 : BitVec 32 := 1#32
  let arg11 : BitVec 32 := Scf.iv c0_i32_36 c1_i32_38 k0_t6
  let c128_i32 : BitVec 32 := 128#32
  let v72 : BitVec 32 := Scalar.muli arg11 c128_i32
  v72
def k0_off14 (k0_t6 : Fin k0_t6_loop.trips) : Fin 3 → Nat :=
  let c0_48 : Index := 0#32
  let c0_i32_36 : BitVec 32 := 0#32
  let c1_i32_38 : BitVec 32 := 1#32
  let arg11 : BitVec 32 := Scf.iv c0_i32_36 c1_i32_38 k0_t6
  let c128_i32 : BitVec 32 := 128#32
  let v72 : BitVec 32 := Scalar.muli arg11 c128_i32
  let v73 : BitVec 32 := v72
  let v74 : Index := Scalar.indexCast v73
  let c1536_49 : Index := 1536#32
  ![0, v74.toNat, 1536]
def k0_off15 (k0_t6 : Fin k0_t6_loop.trips) : Fin 3 → Nat :=
  let c0_50 : Index := 0#32
  let c0_i32_36 : BitVec 32 := 0#32
  let c1_i32_38 : BitVec 32 := 1#32
  let arg11 : BitVec 32 := Scf.iv c0_i32_36 c1_i32_38 k0_t6
  let v78 : Index := Scalar.indexCast arg11
  let c1536_51 : Index := 1536#32
  ![0, v78.toNat, 1536]
def k0_off16 (k0_t6 : Fin k0_t6_loop.trips) : Fin 2 → Nat :=
  let c0_i32_36 : BitVec 32 := 0#32
  let c1_i32_38 : BitVec 32 := 1#32
  let arg11 : BitVec 32 := Scf.iv c0_i32_36 c1_i32_38 k0_t6
  let c128_i32 : BitVec 32 := 128#32
  let v72 : BitVec 32 := Scalar.muli arg11 c128_i32
  let v73 : BitVec 32 := v72
  let v84 : Index := Scalar.indexCast v73
  let c0_52 : Index := 0#32
  ![v84.toNat, 0]
def cc0_transform_0 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6144x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x48x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S24576x6144 : Shape := ⟨2, ![24576, 6144]⟩
abbrev S16 : Shape := ⟨1, ![16]⟩
abbrev S16x6144x2048 : Shape := ⟨3, ![16, 6144, 2048]⟩
abbrev S16x48x16 : Shape := ⟨3, ![16, 48, 16]⟩
abbrev S24576x2048 : Shape := ⟨2, ![24576, 2048]⟩
abbrev S24576x48x128 : Shape := ⟨3, ![24576, 48, 128]⟩
abbrev S24576x48 : Shape := ⟨2, ![24576, 48]⟩
abbrev S24576x48x1 : Shape := ⟨3, ![24576, 48, 1]⟩
abbrev S24576x1 : Shape := ⟨2, ![24576, 1]⟩
abbrev S1x48x16 : Shape := ⟨3, ![1, 48, 16]⟩
abbrev S48x16 : Shape := ⟨2, ![48, 16]⟩
abbrev S48x16x1 : Shape := ⟨3, ![48, 16, 1]⟩
abbrev S48x16x128 : Shape := ⟨3, ![48, 16, 128]⟩
abbrev S48x2048 : Shape := ⟨2, ![48, 2048]⟩
abbrev S1x6144x2048 : Shape := ⟨3, ![1, 6144, 2048]⟩
abbrev S6144x2048 : Shape := ⟨2, ![6144, 2048]⟩
abbrev S48x128x2048 : Shape := ⟨3, ![48, 128, 2048]⟩
abbrev S48x1x2048 : Shape := ⟨3, ![48, 1, 2048]⟩
abbrev S1 : Shape := ⟨1, ![1]⟩

abbrev nBuf : Space → Nat
  | .hbm => 5
  | .vmem => 4
  | .smem => 1
  | _ => 0

abbrev bufTy : (tb : Table) → Fin (tcTables nBuf tb) → BufTy
  | .hbm, ⟨0, _⟩ => ⟨S24576x6144, .bf16⟩
  | .hbm, ⟨1, _⟩ => ⟨S16, .i32⟩
  | .hbm, ⟨2, _⟩ => ⟨S16x6144x2048, .fp8e4m3⟩
  | .hbm, ⟨3, _⟩ => ⟨S16x48x16, .f32⟩
  | .hbm, ⟨4, _⟩ => ⟨S24576x2048, .bf16⟩
  | .local _ .vmem, ⟨0, _⟩ => ⟨S24576x6144, .bf16⟩
  | .local _ .vmem, ⟨1, _⟩ => ⟨S16x6144x2048, .fp8e4m3⟩
  | .local _ .vmem, ⟨2, _⟩ => ⟨S16x48x16, .f32⟩
  | .local _ .vmem, ⟨3, _⟩ => ⟨S24576x2048, .bf16⟩
  | .local _ .smem, ⟨0, _⟩ => ⟨S16, .i32⟩
  | _, _ => ⟨S24576x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x6144x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x48x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.HostRun.lean ====
/-
  What the host operations before the kernel leave in the four prefetched tables and the expanded scales, as functions of
  the group sizes and the scales.
-/
module

public import proofs.«01_k».proof.Proof.Gen.Kernel.Launch
public import Idealize.ShloMosaic.Lib.StableHlo.RunRead

@[expose] public section

set_option maxRecDepth 16384

noncomputable section

namespace Cert.Kernel.Hand

open Cert.Kernel.Gen
open Idealize.ShloMosaic Idealize.ShloMosaic.TcCoe Idealize.ShloMosaic.Tactic
open Idealize.ShloMosaic.StableHlo (after)

variable {F : FTy → Type} [FloatOps F]

/-- The running sums of sixteen integers. -/
def cumsum (x : IVec S16 32) : IVec S16 32 :=
  Host.reduceWindow IntOp.addi ![16] ![1] ![15] ![0] x (broadcastInDim S_ ![] bcast_S_S_ (constantI S_ 32 0#32)) reduceWindows_S16_S16_w16s1p15_0 h_S_

/-- Sixteen copies of a constant. -/
def lit16 (b : BitVec 32) : IVec S16 32 := broadcastInDim S16 ![] bcast_S_S16 (constantI S_ 32 b)

/-- The quotient by 256, rounded down. -/
def floor256 (x : IVec S16 32) : IVec S16 32 :=
  select (andi (cmpi .ne (signi x) (broadcastInDim S16 ![] bcast_S_S16 (signi (constantI S_ 32 256#32)))) (cmpi .ne (Host.remsi x (lit16 256#32)) (lit16 0#32)))
    (subi (Host.divsi x (lit16 256#32)) (lit16 1#32)) (Host.divsi x (lit16 256#32))

/-- Where each group's rows end, and start. -/
def hEnd (gs : IVec S16 32) : IVec S16 32 := cumsum gs
def hStart (gs : IVec S16 32) : IVec S16 32 := subi (hEnd gs) gs
/-- Each group's first row tile. -/
def hFirst (gs : IVec S16 32) : IVec S16 32 := floor256 (hStart gs)
/-- How many row tiles each group touches. -/
def hCount (gs : IVec S16 32) : IVec S16 32 :=
  select (cmpi .sgt gs (lit16 0#32)) (subi (floor256 (subi (addi (hEnd gs) (lit16 256#32)) (lit16 1#32))) (hFirst gs)) (lit16 0#32)
def hCum (gs : IVec S16 32) : IVec S16 32 := cumsum (hCount gs)

/-- The work item of each grid point: its own number, or the last item's past the end; `cum` counts the items up to
    and with each group. -/
def itemOf (cum : IVec S16 32) : IVec S111 32 :=
  minsi (iotaInDim S111 32 0) (broadcastInDim S111 ![] bcast_S_S111
    (subi (shapeCast S_ (extractStridedSlice S1 ![15] cum slices_S16_S1_15) shapeCasts_S1_S_) (constantI S_ 32 1#32)))

/-- The group of each grid point: how many groups are over before its work item. -/
def groupOf (cum : IVec S16 32) : IVec S111 32 :=
  Host.reduce IntOp.addi (extui 32 (cmpi .sge (broadcastInDim S111x16 ![0, 1] bcast_S111x1_S111x16_0_1 (broadcastInDim S111x1 ![0] bcast_S111_S111x1_0 (itemOf cum)))
    (broadcastInDim S111x16 ![0, 1] bcast_S1x16_S111x16_0_1 (broadcastInDim S1x16 ![1] bcast_S16_S1x16_1 cum))) natLt_1_32)
    (constantI S_ 32 0#32) reducesTo_S111x16_S111_d1 h_S_

/-- A group table read at each grid point's group. -/
def pickOf (cum x : IVec S16 32) : IVec S111 32 :=
  Host.gather gather_S16_S111x1_S111_n_0_n_n_0_1_1 x (broadcastInDim S111x1 ![0] bcast_S111_S111x1_0
    (select (cmpi .slt (groupOf cum) (broadcastInDim S111 ![] bcast_S_S111 (constantI S_ 32 0#32)))
      (addi (groupOf cum) (broadcastInDim S111 ![] bcast_S_S111 (constantI S_ 32 16#32))) (groupOf cum)))

/-- The row tile of each grid point. -/
def tileOf (cum count first : IVec S16 32) : IVec S111 32 :=
  subi (addi (pickOf cum first) (itemOf cum)) (pickOf cum (subi cum count))

/-- The row tile of each grid point, its group, and the first row of that group and the row after the last. -/
def hTile (gs : IVec S16 32) : IVec S111 32 := tileOf (hCum gs) (hCount gs) (hFirst gs)
def hGroup (gs : IVec S16 32) : IVec S111 32 := groupOf (hCum gs)
def hLo (gs : IVec S16 32) : IVec S111 32 := pickOf (hCum gs) (hStart gs)
def hHi (gs : IVec S16 32) : IVec S111 32 := pickOf (hCum gs) (hEnd gs)

/-- The scales, one column per output column. -/
def hScale (s : FVec F S16x48x16 .f32) : FVec F S16x48x2048 .f32 :=
  extf .f32 (shapeCast S16x48x2048 (broadcastInDim S16x48x16x128 ![0, 1, 2] bcast_S16x48x16_S16x48x16x128_0_1_2 (truncf .bf16 s bitsLt_bf16_f32))
    shapeCasts_S16x48x16x128_S16x48x2048) bitsLt_bf16_f32

variable (m : (ℓ : Loc nD τ sig) → Buf (Elt F) ℓ)

/-- The host operations, stretch by stretch. -/
abbrev hostStretches : List (List (HloOp τ sig (Elt F))) :=
  [hostOps0, hostOps0_1, hostOps0_2, hostOps0_3, hostOps0_4, hostOps0_5, hostOps0_6, hostOps0_7, hostOps0_8]

/-- A core's buffers when the kernel is called. -/
def V (c : Dev nD) (b : DevRef τ sig) : Buf (Elt F) ((c, b) : Loc nD τ sig) := after hostStretches.flatten (fun b => m (c, b)) b

abbrev gsOf (c : Dev nD) : IVec S16 32 := m ((c.tc : Thread nD τ).loc main_arg1)
abbrev scOf (c : Dev nD) : FVec F S16x48x16 .f32 := m ((c.tc : Thread nD τ).loc main_arg3)

/-- Two stretches run one after the other. -/
theorem after_append' : ∀ (l₁ l₂ : List (HloOp τ sig (Elt F))) (W : Valuation τ sig (Elt F)), after (l₁ ++ l₂) W = after l₂ (after l₁ W)
  | [], _, _ => rfl
  | op :: l₁, l₂, W => by
    rw [List.cons_append, StableHlo.after_cons, StableHlo.after_cons, after_append' l₁ l₂]

section Last
variable (W : Valuation τ sig (Elt F))

theorem last_tile : after hostOps0_8 W (Proc.devRef .tc main_v42)
    = tileOf (W (Proc.devRef .tc main_v12)) (W (Proc.devRef .tc main_v11)) (W (Proc.devRef .tc main_v2)) := by
  after_reads_simp
  rfl
theorem last_group : after hostOps0_8 W (Proc.devRef .tc main_v25) = groupOf (W (Proc.devRef .tc main_v12)) := by
  after_reads_simp
  rfl
theorem last_lo : after hostOps0_8 W (Proc.devRef .tc main_v53)
    = pickOf (W (Proc.devRef .tc main_v12)) (W (Proc.devRef .tc main_v1)) := by
  after_reads_simp
  rfl
theorem last_hi : after hostOps0_8 W (Proc.devRef .tc main_v60)
    = pickOf (W (Proc.devRef .tc main_v12)) (W (Proc.devRef .tc main_v0)) := by
  after_reads_simp
  rfl
theorem last_scale : after hostOps0_8 W (Proc.devRef .tc main_v46) = hScale (W (Proc.devRef .tc main_arg3)) := by
  after_reads_simp
  rfl
end Last

/-- The buffers before the last stretch. -/
def W0 (c : Dev nD) : Valuation τ sig (Elt F) :=
  after [hostOps0, hostOps0_1, hostOps0_2, hostOps0_3, hostOps0_4, hostOps0_5, hostOps0_6, hostOps0_7].flatten (fun b => m (c, b))

theorem V_eq (c : Dev nD) (b : DevRef τ sig) : V m c b = after hostOps0_8 (W0 m c) b := by
  unfold V W0
  rw [← after_append']
  rfl

theorem W0_end (c : Dev nD) : W0 m c (Proc.devRef .tc main_v0) = hEnd (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_start (c : Dev nD) : W0 m c (Proc.devRef .tc main_v1) = hStart (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_first (c : Dev nD) : W0 m c (Proc.devRef .tc main_v2) = hFirst (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_count (c : Dev nD) : W0 m c (Proc.devRef .tc main_v11) = hCount (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_cum (c : Dev nD) : W0 m c (Proc.devRef .tc main_v12) = hCum (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_scale (c : Dev nD) : W0 m c (Proc.devRef .tc main_arg3) = scOf m c := by
  unfold W0; simp only [List.flatten_cons, List.flatten_nil, List.append_nil]
  after_reads_simp

theorem V_tile (c : Dev nD) : V m c (Proc.devRef .tc main_v42) = hTile (gsOf m c) := by
  rw [V_eq, last_tile, W0_cum, W0_count, W0_first]; rfl
theorem V_group (c : Dev nD) : V m c (Proc.devRef .tc main_v25) = hGroup (gsOf m c) := by
  rw [V_eq, last_group, W0_cum]; rfl
theorem V_lo (c : Dev nD) : V m c (Proc.devRef .tc main_v53) = hLo (gsOf m c) := by
  rw [V_eq, last_lo, W0_cum, W0_start]; rfl
theorem V_hi (c : Dev nD) : V m c (Proc.devRef .tc main_v60) = hHi (gsOf m c) := by
  rw [V_eq, last_hi, W0_cum, W0_end]; rfl
theorem V_scale (c : Dev nD) : V m c (Proc.devRef .tc main_v46) = hScale (scOf m c) := by
  rw [V_eq, last_scale, W0_scale]

theorem V_arg0 (c : Dev nD) : V m c (Proc.devRef .tc main_arg0) = m ((c.tc : Thread nD τ).loc main_arg0) := by
  unfold V; simp only [hostStretches, List.flatten_cons, List.flatten_nil, List.append_nil]
  after_reads_simp
theorem V_arg1 (c : Dev nD) : V m c (Proc.devRef .tc main_arg1) = m ((c.tc : Thread nD τ).loc main_arg1) := by
  unfold V; simp only [hostStretches, List.flatten_cons, List.flatten_nil, List.append_nil]
  after_reads_simp
theorem V_arg2 (c : Dev nD) : V m c (Proc.devRef .tc main_arg2) = m ((c.tc : Thread nD τ).loc main_arg2) := by
  unfold V; simp only [hostStretches, List.flatten_cons, List.flatten_nil, List.append_nil]
  after_reads_simp
theorem V_arg3 (c : Dev nD) : V m c (Proc.devRef .tc main_arg3) = m ((c.tc : Thread nD τ).loc main_arg3) := by
  unfold V; simp only [hostStretches, List.flatten_cons, List.flatten_nil, List.append_nil]
  after_reads_simp

end Cert.Kernel.Hand

end
-- ==== Proof.Schedule.lean ====
/-
  The schedule of the grouped product in natural numbers: from the sizes of sixteen groups of rows, the work items (one for
  each pair of a group and a tile of 256 rows that it meets), and the group and the tile of each. No program here.
-/
module

public import Idealize.ShloMosaic.Lib.Routing.Words

@[expose] public section

namespace Cert.Schedule

/-- The sum of the first `k` values. -/
def psum (f : ℕ → ℕ) (k : ℕ) : ℕ := ((List.range k).map f).sum

@[simp] theorem psum_zero (f : ℕ → ℕ) : psum f 0 = 0 := rfl
theorem psum_succ (f : ℕ → ℕ) (k : ℕ) : psum f (k + 1) = psum f k + f k := by
  unfold psum; rw [List.range_succ, List.map_append, List.sum_append]; simp
theorem psum_mono (f : ℕ → ℕ) {a b : ℕ} (h : a ≤ b) : psum f a ≤ psum f b := by
  induction b, h using Nat.le_induction with
  | base => exact le_rfl
  | succ n _ ih => rw [psum_succ]; omega

variable (g : ℕ → ℕ)

/-- How many tiles group `k` meets. -/
def cnt (k : ℕ) : ℕ := if 0 < g k then (psum g (k + 1) + 255) / 256 - psum g k / 256 else 0
/-- The work items of the groups before group `k`. -/
def cum (k : ℕ) : ℕ := psum (cnt g) k
/-- The work item of grid point `t`. -/
def item (t : ℕ) : ℕ := min t (cum g 16 - 1)
/-- The group of grid point `t`. -/
def grp (t : ℕ) : ℕ := (Finset.univ.filter fun q : Fin 16 => cum g (q.val + 1) ≤ item g t).card
/-- The tile of grid point `t`. -/
def tile (t : ℕ) : ℕ := psum g (grp g t) / 256 + item g t - cum g (grp g t)
/-- The first row of the group of grid point `t`, and the row after its last. -/
def lo (t : ℕ) : ℕ := psum g (grp g t)
def hi (t : ℕ) : ℕ := psum g (grp g t + 1)

theorem cum_succ (k : ℕ) : cum g (k + 1) = cum g k + cnt g k := psum_succ _ _
theorem cum_mono {a b : ℕ} (h : a ≤ b) : cum g a ≤ cum g b := psum_mono _ h

/-- A group meets at most as many tiles as it has rows over 256 and two more at its ends; never fewer than its rows fill. -/
theorem rows_le (k : ℕ) : g k ≤ 256 * cnt g k := by
  have h := psum_succ g k
  unfold cnt; split <;> omega

theorem rows_between {a b : ℕ} (h : a ≤ b) : psum g b + 256 * cum g a ≤ psum g a + 256 * cum g b := by
  induction b, h using Nat.le_induction with
  | base => exact le_rfl
  | succ n _ ih =>
    have h1 := rows_le g n
    rw [psum_succ, cum_succ]; omega

/-- Groups without work items have no rows. -/
theorem flat {a b : ℕ} (h : a ≤ b) (e : cum g a = cum g b) : psum g a = psum g b := by
  have h1 := rows_between g h
  have h2 := psum_mono g h
  omega

theorem cum_le (k : ℕ) : cum g (k + 1) ≤ (psum g (k + 1) + 255) / 256 + k := by
  induction k with
  | zero =>
    rw [cum_succ]; unfold cum cnt; simp only [psum_zero]; split <;> omega
  | succ n ih =>
    have h1 := psum_succ g (n + 1)
    rw [cum_succ]; unfold cnt; split <;> omega

variable {g}

section Total
variable (hg : psum g 16 = 24576)
include hg

theorem cum_pos : 0 < cum g 16 := by
  have h := rows_between g (Nat.zero_le 16)
  simp only [psum_zero, hg] at h; unfold cum at h ⊢; simp only [psum_zero] at h; omega

theorem cum_le_grid : cum g 16 ≤ 111 := by
  have h := cum_le g 15
  simp only [Nat.reduceAdd, hg] at h; omega

theorem item_lt (t : ℕ) : item g t < cum g 16 := by
  have h := cum_pos hg; unfold item; omega

/-- The group of a grid point is the one whose work items hold its item. -/
theorem grp_spec (t : ℕ) : grp g t < 16 ∧ cum g (grp g t) ≤ item g t ∧ item g t < cum g (grp g t + 1) := by
  have hex : ∃ q, item g t < cum g (q + 1) := ⟨15, item_lt hg t⟩
  obtain ⟨q, hq⟩ : ∃ q, q = Nat.find hex := ⟨_, rfl⟩
  have hspec : item g t < cum g (q + 1) := hq ▸ Nat.find_spec hex
  have hlt : q ≤ 15 := by rw [hq]; exact Nat.find_min' hex (item_lt hg t)
  have hmin : ∀ p, p < q → cum g (p + 1) ≤ item g t := fun p hp => not_lt.1 (Nat.find_min hex (hq ▸ hp))
  have hset : (Finset.univ.filter fun p : Fin 16 => cum g (p.val + 1) ≤ item g t) = Finset.univ.filter fun p : Fin 16 => p.val < q := by
    refine Finset.filter_congr fun p _ => ⟨fun h => ?_, fun h => hmin _ h⟩
    by_contra hc
    have := cum_mono g (show q + 1 ≤ p.val + 1 by omega)
    omega
  have hcard : grp g t = q := by
    unfold grp; rw [hset]
    clear hset hmin hspec hq
    interval_cases q <;> rfl
  rw [hcard]
  refine ⟨by omega, ?_, hspec⟩
  rcases Nat.eq_zero_or_pos q with h0 | h0
  · rw [h0]; exact Nat.zero_le _
  · have := hmin (q - 1) (by omega)
    rwa [Nat.sub_add_cancel h0] at this

/-- A grid point's tile meets its group. -/
theorem tile_spec (t : ℕ) : tile g t = lo g t / 256 + (item g t - cum g (grp g t)) ∧ (tile g t + 1) * 256 < hi g t + 256 ∧ 256 * tile g t + 256 > lo g t
    ∧ hi g t ≤ 24576 ∧ cum g (grp g t + 1) = cum g (grp g t) + ((hi g t + 255) / 256 - lo g t / 256) := by
  obtain ⟨h1, h2, h3⟩ := grp_spec hg t
  have hc := cum_succ g (grp g t)
  have hps := psum_mono g (show grp g t + 1 ≤ 16 by omega)
  have hle := psum_mono g (show grp g t ≤ grp g t + 1 by omega)
  unfold tile lo hi
  unfold cnt at hc
  split at hc <;> omega

theorem tile_lt (t : ℕ) : tile g t < 96 := by
  have := tile_spec hg t; omega

theorem first_point : tile g 0 = 0 ∧ lo g 0 = 0 := by
  obtain ⟨h1, h2, h3⟩ := grp_spec hg 0
  have h0 : item g 0 = 0 := by unfold item; omega
  have hf := flat g (Nat.zero_le (grp g 0)) (by have : cum g 0 = 0 := rfl; omega)
  have hs := tile_spec hg 0
  have : lo g 0 = 0 := hf.symm
  omega

theorem last_point : tile g 110 = 95 ∧ hi g 110 = 24576 := by
  obtain ⟨h1, h2, h3⟩ := grp_spec hg 110
  have hgrid := cum_le_grid hg
  have hpos := cum_pos hg
  have h0 : item g 110 = cum g 16 - 1 := by unfold item; omega
  have hm := cum_mono g (show grp g 110 + 1 ≤ 16 by omega)
  have hf := flat g (show grp g 110 + 1 ≤ 16 by omega) (by omega)
  have hh : hi g 110 = 24576 := hf.trans hg
  have hs := tile_spec hg 110
  omega

/-- From one grid point to the next: the rows of a tile are taken in order and without a gap. -/
theorem step (t : ℕ) : (tile g (t + 1) = tile g t → lo g (t + 1) ≤ hi g t)
    ∧ (tile g (t + 1) ≠ tile g t → lo g (t + 1) ≤ tile g (t + 1) * 256 ∧ (tile g t + 1) * 256 ≤ hi g t ∧ tile g (t + 1) = tile g t + 1) := by
  obtain ⟨h1, h2, h3⟩ := grp_spec hg t
  obtain ⟨k1, k2, k3⟩ := grp_spec hg (t + 1)
  have hs := tile_spec hg t
  have ks := tile_spec hg (t + 1)
  have hi1 : item g t ≤ item g (t + 1) ∧ item g (t + 1) ≤ item g t + 1 := by unfold item; omega
  have hle : grp g t ≤ grp g (t + 1) := by
    by_contra hc
    have := cum_mono g (show grp g (t + 1) + 1 ≤ grp g t by omega)
    omega
  rcases Nat.lt_or_eq_of_le hle with hlt | heq
  · have hm := cum_mono g (show grp g t + 1 ≤ grp g (t + 1) by omega)
    have hf := flat g (show grp g t + 1 ≤ grp g (t + 1) by omega) (by omega)
    have hlh : lo g (t + 1) = hi g t := hf.symm
    refine ⟨fun _ => hlh.le, fun hne => ?_⟩
    have hp : lo g t ≤ hi g t := psum_mono g (Nat.le_succ _)
    omega
  · have e1 : lo g (t + 1) = lo g t := by unfold lo; rw [heq]
    have e2 : hi g (t + 1) = hi g t := by unfold hi; rw [heq]
    have e3 : cum g (grp g (t + 1)) = cum g (grp g t) := by rw [heq]
    have hp : lo g t ≤ hi g t := psum_mono g (Nat.le_succ _)
    refine ⟨fun _ => by omega, fun hne => ?_⟩
    omega

/-- Every tile has a last grid point. -/
theorem cover {u : ℕ} (hu : u < 96) : ∃ t, t < 111 ∧ tile g t = u ∧ (t < 110 → tile g (t + 1) ≠ tile g t) := by
  obtain ⟨t, ht⟩ : ∃ t, t = Nat.findGreatest (fun t => tile g t ≤ u) 110 := ⟨_, rfl⟩
  have h0 := first_point hg
  have hle : t ≤ 110 := ht ▸ Nat.findGreatest_le 110
  have hP : tile g t ≤ u := by
    rw [ht]; exact Nat.findGreatest_spec (P := fun t => tile g t ≤ u) (Nat.zero_le 110) (by omega)
  have hl := last_point hg
  rcases Nat.lt_or_eq_of_le hle with hlt | heq
  · have hn : ¬ tile g (t + 1) ≤ u := Nat.findGreatest_is_greatest (P := fun t => tile g t ≤ u) (n := 110) (by omega) (by omega)
    have hst := (step hg t).2 (by omega)
    exact ⟨t, by omega, by omega, fun _ => by omega⟩
  · subst heq
    exact ⟨110, by omega, by omega, fun h => absurd h (by omega)⟩

end Total

end Cert.Schedule
-- ==== Proof.Sizes.lean ====
/-
  What the precondition says of the group sizes: each is the word of a number of rows, and the numbers sum to the rows of x.
-/
module

public import proofs.«01_k».proof.Pre_full_groups
public import proofs.«01_k».proof.Proof.Schedule
public import Idealize.ShloMosaic.Lib.ReduceAll

@[expose] public section

namespace Cert.Schedule

open Idealize.ShloMosaic Idealize.ShloMosaic.ValueIdx Idealize.ShloMosaic.Routing Idealize.ShloMosaic.WordCmp

/-- Sixteen words that hold the sizes `g`, which sum to the number of rows. -/
structure Sizes (gs : IVec ⟨1, ![16]⟩ 32) (g : ℕ → ℕ) : Prop where
  word : ∀ i : Fin 16, gs (ix1 i) = BitVec.ofNat 32 (g i.val)
  total : psum g 16 = 24576

/-- The sizes that words hold. -/
def sizesOf (gs : IVec ⟨1, ![16]⟩ 32) : ℕ → ℕ := fun i => if h : i < 16 then (gs (ix1 ⟨i, h⟩)).toNat else 0

theorem psum_le {f : ℕ → ℕ} {b : ℕ} : ∀ k, (∀ i, i < k → f i ≤ b) → psum f k ≤ k * b
  | 0, _ => by simp
  | k + 1, h => by
    have h1 := psum_le k fun i hi => h i (by omega)
    have h2 := h k (by omega)
    rw [psum_succ, Nat.succ_mul]; omega

theorem sizes_of_pre {F : FTy → Type} [FloatOps F] [Pre_full_groups.Facts] (x : FVec F Pre_full_groups.S24576x6144 .bf16) (gs : IVec Pre_full_groups.S16 32)
    (w : FVec F Pre_full_groups.S16x6144x2048 .fp8e4m3) (s : FVec F Pre_full_groups.S16x48x16 .f32)
    (h : Pre_full_groups.fn x gs w s = fun _ => 1#1) : Sizes gs (sizesOf gs) := by
  have e := congrFun h ix0
  unfold Pre_full_groups.fn at e
  dsimp only at e
  rw [andi_at] at e
  obtain ⟨e1, e2⟩ : _ ∧ _ := (show ∀ a b : BitVec 1, IntOp.andi a b = 1#1 → a = 1#1 ∧ b = 1#1 by decide) _ _ e
  have word : ∀ i : Fin 16, gs (ix1 i) = BitVec.ofNat 32 (sizesOf gs i.val) := fun i => by
    unfold sizesOf; rw [dif_pos i.isLt]; simp
  have hle : ∀ i : Fin 16, (gs (ix1 i)).toNat ≤ 24576 := fun i => by
    have hi := Host.reduce_andi_eq_one _ _ _ _ _ e1 (ix1 i) (funext fun a => a.elim0)
    rw [andi_at, cmpi_at, cmpi_at, bc0, bc0, constantI_at, constantI_at] at hi
    obtain ⟨h1, h2⟩ := (show ∀ a b : BitVec 1, IntOp.andi a b = 1#1 → a = 1#1 ∧ b = 1#1 by decide) _ _ hi
    simp only [IntOp.cmpi, WordCmp.ofBool_eq_one_iff, BitVec.sle, decide_eq_true_eq] at h1 h2
    rw [show (0#32 : BitVec 32).toInt = 0 by decide] at h1
    rw [show (24576#32 : BitVec 32).toInt = 24576 by decide] at h2
    rw [BitVec.toInt_eq_toNat_cond] at h1 h2
    split at h1 <;> omega
  have hsz : ∀ i, i < 16 → sizesOf gs i ≤ 24576 := fun i hi => by
    unfold sizesOf; rw [dif_pos hi]; exact hle _
  have hsum := psum_le 16 hsz
  rw [cmpi_at, constantI_at, StableHlo.Predicate.cmpi_eq_iff] at e2
  have e3 := (reduce_sum gs (sizesOf gs) word _ _).symm.trans e2
  have e4 := congrArg BitVec.toNat e3
  rw [BitVec.toNat_ofNat] at e4
  refine ⟨word, ?_⟩
  change psum (sizesOf gs) 16 % 2 ^ 32 = 24576 at e4
  omega

end Cert.Schedule
-- ==== Proof.Tables.lean ====
/-
  The four prefetched tables under the precondition: at each grid point the tile, the group, and the group's first row and
  the row after its last, as the words of the schedule's numbers.
-/
module

public import proofs.«01_k».proof.Proof.HostRun
public import proofs.«01_k».proof.Proof.Sizes
public import Idealize.ShloMosaic.Lib.PlanTiles.Rows
public import Idealize.ShloMosaic.Lib.Routing.OpsSet

@[expose] public section

set_option maxRecDepth 16384

noncomputable section

namespace Cert.Kernel.Hand

open Cert.Kernel.Gen Cert.Schedule
open Idealize.ShloMosaic Idealize.ShloMosaic.ValueIdx Idealize.ShloMosaic.Routing Idealize.ShloMosaic.WordCmp

variable {F : FTy → Type} [FloatOps F]

theorem cumsum_word (x : IVec S16 32) (f : ℕ → ℕ) (hx : ∀ i : Fin 16, x (ix1 i) = BitVec.ofNat 32 (f i.val)) (j : Fin 16) :
    cumsum x (ix1 j) = BitVec.ofNat 32 (psum f (j.val + 1)) :=
  cumsum1 (N := 16) (Nm1 := 15) rfl x f hx _ (by rw [bc0]; rfl) _ _ j

theorem lit16_word (b : BitVec 32) (i : S16.Idx) : lit16 b i = b := by
  unfold lit16; rw [bc0]; rfl

theorem floor256_word (x : IVec S16 32) (i : S16.Idx) {a : ℕ} (hx : x i = BitVec.ofNat 32 a) (ha : a < 2 ^ 31) :
    floor256 x i = BitVec.ofNat 32 (a / 256) :=
  pyDiv_ap bcast_S_S16 x (constantI S_ 32 256#32) i hx rfl ha (by decide) (by decide)

theorem one_idx (i j : S1.Idx) : i = j := by
  funext a
  match a with
  | ⟨0, _⟩ =>
    have h1 := (i 0).isLt
    have h2 := (j 0).isLt
    change (i 0).val < 1 at h1
    change (j 0).val < 1 at h2
    exact Fin.ext (show (i 0).val = (j 0).val by omega)

section
variable {gs : IVec S16 32} {g : ℕ → ℕ} (h : Sizes gs g)
include h

theorem psum_lt (k : ℕ) (hk : k ≤ 16) : psum g k ≤ 24576 := h.total ▸ psum_mono g hk

theorem hEnd_word (j : Fin 16) : hEnd gs (ix1 j) = BitVec.ofNat 32 (psum g (j.val + 1)) := cumsum_word gs g h.word j
theorem hStart_word (j : Fin 16) : hStart gs (ix1 j) = BitVec.ofNat 32 (psum g j.val) := by
  unfold hStart
  rw [subi_ap, hEnd_word h, h.word, psum_succ, ofNat32_sub (Nat.le_add_left _ _), Nat.add_sub_cancel]
theorem hFirst_word (j : Fin 16) : hFirst gs (ix1 j) = BitVec.ofNat 32 (psum g j.val / 256) :=
  floor256_word _ _ (hStart_word h j) (by have := psum_lt h j.val j.isLt.le; omega)
theorem hCount_word (j : Fin 16) : hCount gs (ix1 j) = BitVec.ofNat 32 (cnt g j.val) := by
  have hp := psum_lt h (j.val + 1) j.isLt
  have hs := psum_succ g j.val
  have e : floor256 (subi (addi (hEnd gs) (lit16 256#32)) (lit16 1#32)) (ix1 j) = BitVec.ofNat 32 ((psum g (j.val + 1) + 255) / 256) := by
    refine floor256_word _ _ ?_ (by omega)
    rw [subi_ap, addi_ap, lit16_word, lit16_word, hEnd_word h, show (256#32 : BitVec 32) = BitVec.ofNat 32 256 from rfl, show (1#32 : BitVec 32) = BitVec.ofNat 32 1 from rfl,
      BitVec.ofNat_add_ofNat, ofNat32_sub (by omega)]
    congr 1
  unfold hCount
  rw [select_at, cmpi_at, subi_ap, e, hFirst_word h, lit16_word, h.word, ofNat32_sub (by omega), show (0#32 : BitVec 32) = BitVec.ofNat 32 0 from rfl,
    cmpi_sgt_ofNat (w := 32) (show g j.val < 2 ^ 31 by omega) (by decide), select_decide]
  unfold cnt
  split <;> rfl
theorem hCum_word (j : Fin 16) : hCum gs (ix1 j) = BitVec.ofNat 32 (cum g (j.val + 1)) := cumsum_word _ _ (hCount_word h) j

theorem hTotal_word : shapeCast S_ (extractStridedSlice S1 ![15] (hCum gs) slices_S16_S1_15) shapeCasts_S1_S_ ValueIdx.ix0 = BitVec.ofNat 32 (cum g 16) := by
  refine Eq.trans ?_ (hCum_word h 15)
  refine Eq.trans ?_ (slice1 (m := 16) (n := 1) 15 (hCum gs) slices_S16_S1_15 0 (by decide))
  generalize extractStridedSlice S1 ![15] (hCum gs) slices_S16_S1_15 = y
  unfold shapeCast
  exact congrArg y (one_idx _ _)

theorem hItem_word (p : Fin 111) : itemOf (hCum gs) (ix1 p) = BitVec.ofNat 32 (item g p.val) := by
  have hc := cum_le_grid h.total
  have hp := cum_pos h.total
  have hpl := p.isLt
  have e := hTotal_word h
  have hm : ∀ x y : IVec S111 32, minsi x y (ix1 p) = IntOp.minsi (x (ix1 p)) (y (ix1 p)) := fun _ _ => rfl
  unfold itemOf item
  generalize shapeCast S_ (extractStridedSlice S1 ![15] (hCum gs) slices_S16_S1_15) shapeCasts_S1_S_ = z at e ⊢
  generalize cum g 16 = n at *
  rw [hm, bc0, subi_ap, e, constantI_at, show (1#32 : BitVec 32) = BitVec.ofNat 32 1 from rfl, ofNat32_sub (by omega)]
  rw [show iotaInDim S111 32 0 (ix1 p) = BitVec.ofNat 32 p.val from rfl, Idealize.ShloMosaic.PlanTiles.minsi_word (by omega) (by omega), Nat.min_comm]

theorem hGroup_word (p : Fin 111) : hGroup gs (ix1 p) = BitVec.ofNat 32 (grp g p.val) := by
  have hc := cum_le_grid h.total
  have hit := item_lt h.total p.val
  unfold hGroup groupOf
  rw [reduce_count (n := 111) (m := 16) (by decide) _ _ _ _ p (fun q => cum g (q + 1) ≤ item g p.val) (fun q => ?_)]
  · congr 1
    exact (card_filter_fin 16 fun q => cum g (q + 1) ≤ item g p.val).symm
  · have hcq := cum_mono g (show q.val + 1 ≤ 16 from q.isLt)
    rw [← ij_eq_ix2, cmpi_at, StableHlo.Predicate.bcast_rows, StableHlo.Predicate.bcast_cols, ofFin_eq_ix1, ofFin_eq_ix1, hItem_word h, hCum_word h,
      cmpi_sge_ofNat (w := 32) (by omega) (by omega), StableHlo.Predicate.ofBool_eq_one_iff, decide_eq_true_eq]

theorem pick_word (x : IVec S16 32) (p : Fin 111) : pickOf (hCum gs) x (ix1 p) = x (ix1 ⟨grp g p.val, (grp_spec h.total p.val).1⟩) := by
  have hl := (grp_spec h.total p.val).1
  refine gather_take1 (N := 16) (n := 111) _ rfl rfl rfl rfl x _ p ⟨grp g p.val, hl⟩ ?_ (by decide)
  have e := hGroup_word h p
  rw [bcCol, select_at, cmpi_at, bc0, constantI_at]
  change Scalar.select (IntOp.cmpi .slt (hGroup gs (ix1 p)) 0#32) _ (hGroup gs (ix1 p)) = _
  rw [e, show (0#32 : BitVec 32) = BitVec.ofNat 32 0 from rfl, cmpi_slt_ofNat (w := 32) (by omega) (by decide), select_decide, if_neg (Nat.not_lt_zero _)]

theorem hLo_word (p : Fin 111) : hLo gs (ix1 p) = BitVec.ofNat 32 (lo g p.val) := by
  unfold hLo; rw [pick_word h, hStart_word h]; rfl
theorem hHi_word (p : Fin 111) : hHi gs (ix1 p) = BitVec.ofNat 32 (hi g p.val) := by
  unfold hHi; rw [pick_word h, hEnd_word h]; rfl
theorem hTile_word (p : Fin 111) : hTile gs (ix1 p) = BitVec.ofNat 32 (tile g p.val) := by
  have hs := grp_spec h.total p.val
  have hc := cum_succ g (grp g p.val)
  unfold hTile tileOf
  rw [subi_ap, addi_ap, pick_word h, pick_word h, hItem_word h, hFirst_word h, subi_ap, hCum_word h, hCount_word h]
  dsimp only
  rw [hc, ofNat32_sub (Nat.le_add_left _ _), Nat.add_sub_cancel, BitVec.ofNat_add_ofNat, ofNat32_sub (by omega)]
  rfl
end

end Cert.Kernel.Hand

end
-- ==== Proof.Adm.lean ====
/-
  The prefetched tables' contents under the precondition, and the side condition the pipeline checks of them: every block
  lies inside its array.
-/
module

public import proofs.«01_k».proof.Proof.Tables
public import proofs.«01_k».proof.Proof.Gen.Kernel.Launch

@[expose] public section

set_option maxRecDepth 16384

noncomputable section

namespace Cert.Kernel.Hand

open Cert.Kernel.Gen Cert.Schedule
open Idealize.ShloMosaic Idealize.ShloMosaic.TcCoe
open Idealize.ShloMosaic.ValueIdx (ix1 ix2 ix3)

variable {F : FTy → Type} [FloatOps F]

/-- The tables' contents, of the group sizes. -/
def pfOf (gs : IVec S16 32) : pre0.Contents (Elt F) := fun
  | ⟨0, _⟩ => hTile gs
  | ⟨1, _⟩ => hGroup gs
  | ⟨2, _⟩ => hLo gs
  | ⟨3, _⟩ => hHi gs
  | ⟨_ + 4, h⟩ => absurd h (Nat.not_lt.2 (Nat.le_add_left _ _))

theorem k0_off1_val : ∀ i : grid0.Coords, k0_off1 i = ![(i 0).val] := by decide +kernel

/-- The word an index map reads of table 0, -/
theorem at_tile (pf : pre0.Contents (Elt F)) (i : grid0.Coords) (h : ∀ a, k0_off1 i a + S1.size a ≤ S111.size a) :
    (Pipeline.Prefetch.Contents.at pf 0 (Rect.unit (s := S111) (k0_off1 i) S1.size h) numel1_S1 : BitVec 32) = pf 0 (ix1 (n := 111) (i 0)) := by
  refine congrArg (pf 0) (funext fun a => Fin.ext ?_)
  fin_cases a
  have e := congrFun (k0_off1_val i) 0
  show k0_off1 i 0 + 1 * 0 = (i 0).val
  rw [e]; simp

/-- and of table 1. -/
theorem at_group (pf : pre0.Contents (Elt F)) (i : grid0.Coords) (h : ∀ a, k0_off1 i a + S1.size a ≤ S111.size a) :
    (Pipeline.Prefetch.Contents.at pf 1 (Rect.unit (s := S111) (k0_off1 i) S1.size h) numel1_S1 : BitVec 32) = pf 1 (ix1 (n := 111) (i 0)) := by
  refine congrArg (pf 1) (funext fun a => Fin.ext ?_)
  fin_cases a
  have e := congrFun (k0_off1_val i) 0
  show k0_off1 i 0 + 1 * 0 = (i 0).val
  rw [e]; simp

theorem tr0_eq (pf : pre0.Contents (Elt F)) (i : grid0.Coords) :
    cc0_transform_0 k0_off1_inb numel1_S1 pf i = ![(pf 0 (ix1 (n := 111) (i 0)) : BitVec 32).toNat, 0] := by
  have h := at_tile pf i (k0_off1_inb i)
  unfold cc0_transform_0
  exact congrArg (fun w : BitVec 32 => (![w.toNat, 0] : Fin 2 → ℕ)) h
theorem tr3_eq (pf : pre0.Contents (Elt F)) (i : grid0.Coords) :
    cc0_transform_3 k0_off1_inb numel1_S1 pf i = ![(pf 0 (ix1 (n := 111) (i 0)) : BitVec 32).toNat, 0] := by
  have h := at_tile pf i (k0_off1_inb i)
  unfold cc0_transform_3
  exact congrArg (fun w : BitVec 32 => (![w.toNat, 0] : Fin 2 → ℕ)) h
theorem tr1_eq (pf : pre0.Contents (Elt F)) (i : grid0.Coords) :
    cc0_transform_1 k0_off1_inb numel1_S1 pf i = ![(pf 1 (ix1 (n := 111) (i 0)) : BitVec 32).toNat, 0, 0] := by
  have h := at_group pf i (k0_off1_inb i)
  unfold cc0_transform_1
  exact congrArg (fun w : BitVec 32 => (![w.toNat, 0, 0] : Fin 3 → ℕ)) h
theorem tr2_eq (pf : pre0.Contents (Elt F)) (i : grid0.Coords) :
    cc0_transform_2 k0_off1_inb numel1_S1 pf i = ![(pf 1 (ix1 (n := 111) (i 0)) : BitVec 32).toNat, 0, 0] := by
  have h := at_group pf i (k0_off1_inb i)
  unfold cc0_transform_2
  exact congrArg (fun w : BitVec 32 => (![w.toNat, 0, 0] : Fin 3 → ℕ)) h

/-- The side condition holds of tables whose tiles are below 96 and whose groups are below 16. -/
theorem ok_of_lt (pf : pre0.Contents (Elt F)) (ht : ∀ p : Fin 111, (pf 0 (ix1 (n := 111) p) : BitVec 32).toNat < 96)
    (hg : ∀ p : Fin 111, (pf 1 (ix1 (n := 111) p) : BitVec 32).toNat < 16) : ok0 pf := by
  unfold ok0
  refine ⟨fun i => ?_, fun i => ?_, fun i => ?_, fun i => ?_⟩
  · rw [tr0_eq]
    have hi := ht (i 0)
    generalize (pf 0 (ix1 (n := 111) (i 0)) : BitVec 32).toNat = n at hi
    refine ⟨fun a => ?_, .inr (.inl (.inr ⟨by decide, rfl, .inl ⟨?_, ?_⟩⟩))⟩
    · fin_cases a
      · show (n + 1) * 256 ≤ 24576; omega
      · show (0 + 1) * 6144 ≤ 6144; omega
    · show 2 ∣ n * 256; omega
    · show 2 ∣ 256; omega
  · rw [tr1_eq]
    have hi := hg (i 0)
    generalize (pf 1 (ix1 (n := 111) (i 0)) : BitVec 32).toNat = n at hi
    refine ⟨fun a => ?_, .inr (.inr ⟨by decide, rfl, ?_, rfl⟩)⟩
    · fin_cases a
      · show (n + 1) * 1 ≤ 16; omega
      · show (0 + 1) * 6144 ≤ 6144; omega
      · show (0 + 1) * 2048 ≤ 2048; omega
    · show 0 * 6144 = 0; omega
  · rw [tr2_eq]
    have hi := hg (i 0)
    generalize (pf 1 (ix1 (n := 111) (i 0)) : BitVec 32).toNat = n at hi
    refine ⟨fun a => ?_, .inl rfl⟩
    fin_cases a
    · show (n + 1) * 1 ≤ 16; omega
    · show (0 + 1) * 48 ≤ 48; omega
    · show (0 + 1) * 2048 ≤ 2048; omega
  · rw [tr3_eq]
    have hi := ht (i 0)
    generalize (pf 0 (ix1 (n := 111) (i 0)) : BitVec 32).toNat = n at hi
    refine ⟨fun a => ?_, .inr (.inl (.inr ⟨by decide, rfl, .inl ⟨?_, ?_⟩⟩))⟩
    · fin_cases a
      · show (n + 1) * 256 ≤ 24576; omega
      · show (0 + 1) * 2048 ≤ 2048; omega
    · show 2 ∣ n * 256; omega
    · show 2 ∣ 256; omega

theorem toNat_lt_of {w : BitVec 32} {n b : ℕ} (e : w = BitVec.ofNat 32 n) (h : n < b) (hb : b < 2 ^ 32) : w.toNat < b := by
  rw [e, BitVec.toNat_ofNat]; omega

theorem pf_tile {gs : IVec S16 32} {g : ℕ → ℕ} (h : Sizes gs g) (p : Fin 111) : (pfOf (F := F) gs 0 (ix1 (n := 111) p) : BitVec 32).toNat < 96 :=
  toNat_lt_of (hTile_word h p) (tile_lt h.total p.val) (by decide)
theorem pf_group {gs : IVec S16 32} {g : ℕ → ℕ} (h : Sizes gs g) (p : Fin 111) : (pfOf (F := F) gs 1 (ix1 (n := 111) p) : BitVec 32).toNat < 16 :=
  toNat_lt_of (hGroup_word h p) (grp_spec h.total p.val).1 (by decide)

/-- The tables' contents, admissible under the precondition. -/
def admOf {gs : IVec S16 32} {g : ℕ → ℕ} (h : Sizes gs g) : (pcfg0 (F := F)).Adm :=
  ⟨pfOf gs, ok_of_lt _ (pf_tile h) (pf_group h)⟩

end Cert.Kernel.Hand

end
-- ==== Proof.Quantise.lean ====
/-
  The quantising loop of the body (`k0_t1_loop`): one trip reads one block of 128 columns of the activation tile, finds
  that block's scales row by row, and stores the block's quantised and dequantised values into the scratch. Stated as the
  generated loops of the kernel are: a trip's pieces, the pieces of the trips before `k`, and the invariant over them.
-/
module

public import proofs.«01_k».proof.Proof.Gen.Kernel.Loops

@[expose] public section

set_option maxRecDepth 8192

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances. -/
local notation "𝕄G" => MT nD τ sig Unit (Elt F) ℕ (UR sig nD τ) ℕ

/-! ### `k0_t1_loop`: the invariant -/

/-- One trip's resources: what the region reads (arg5) at its contents, what it writes (arg9)
   at any. -/
abbrev Trip_k0_t1 (c : Dev nD) (arg5 : Memref sig .tc .vmem S256x6144 .bf16) (arg9 : Memref sig .tc .vmem S256x6144 .bf16) (X_arg5 : BufTy.Contents (Elt F) arg5.view.ty) (f_arg9 : BufTy.Contents (Elt F) arg9.view.ty) : sProp 𝕄G :=
  iprop((arg5.view.loc (c : Thread nD τ) ↦[arg5.view.set]{fullShare} X_arg5) ∗ (arg9.view.loc (c : Thread nD τ) ↦[arg9.view.set]{fullShare} f_arg9))

/-- ONE TRIP of `k0_t1_loop` at a symbolic `k`, run by `sl_exec` (its rectangles' offsets closed
   forms of `k`, their geometry linear arithmetic): the pieces it writes into arg9 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (k : Fin k0_t1_loop.trips) :
    { L_arg9 : List (View.Piece (Elt F) S256x6144 .bf16) // ∀ (E : Set ℕ) (f_arg9 : BufTy.Contents (Elt F) arg9.view.ty),
      Trip_k0_t1 (F := F) c arg5 arg9 X_arg5 f_arg9
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k PUnit.unit)
          (fun _ => Trip_k0_t1 (F := F) c arg5 arg9 X_arg5 (arg9.view.writes (Elt F) f_arg9 L_arg9)) } := by
  have hk : k.val < 48 := Nat.lt_of_lt_of_le k.isLt k0_t1_abs.2.1
  refine ⟨?_, fun E f_arg9 => ?run⟩
  case run =>
    unfold k0_t1_body
    iintro ⟨HR_arg5, HW_arg9⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (k : Fin k0_t1_loop.trips) : List (View.Piece (Elt F) S256x6144 .bf16) :=
  (trip_k0_t1 (F := F) 𝒱 c bd i arg1 harg1 arg2 harg2 arg3 harg3 arg4 harg4 arg5 harg5 arg6 harg6 arg7 harg7 arg8 harg8 arg9 harg9 arg10 harg10 X_arg5 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (k : ℕ) (prev : List (View.Piece (Elt F) S256x6144 .bf16)) : List (View.Piece (Elt F) S256x6144 .bf16) :=
  if h : k < k0_t1_loop.trips then
    (tripL_k0_t1 (F := F) 𝒱 c bd i arg1 harg1 arg2 harg2 arg3 harg3 arg4 harg4 arg5 harg5 arg6 harg6 arg7 harg7 arg8 harg8 arg9 harg9 arg10 harg10 X_arg5 ⟨k, h⟩) ++ prev
  else prev

/-- The pieces of the trips before `k` (last first), per written memref. -/
def pb_k0_t1 (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) : ℕ → List (View.Piece (Elt F) S256x6144 .bf16)
  | 0 => []
  | k + 1 => pb_k0_t1Step 𝒱 c bd i arg1 harg1 arg2 harg2 arg3 harg3 arg4 harg4 arg5 harg5 arg6 harg6 arg7 harg7 arg8 harg8 arg9 harg9 arg10 harg10 X_arg5 k (pb_k0_t1 𝒱 c bd i arg1 harg1 arg2 harg2 arg3 harg3 arg4 harg4 arg5 harg5 arg6 harg6 arg7 harg7 arg8 harg8 arg9 harg9 arg10 harg10 X_arg5 k)

theorem pb_k0_t1_succ (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 X_arg5 (k.val + 1)
      = (tripL_k0_t1 (F := F) 𝒱 c bd i arg1 harg1 arg2 harg2 arg3 harg3 arg4 harg4 arg5 harg5 arg6 harg6 arg7 harg7 arg8 harg8 arg9 harg9 arg10 harg10 X_arg5 k) ++ (pb_k0_t1 (F := F) 𝒱 c bd i arg1 harg1 arg2 harg2 arg3 harg3 arg4 harg4 arg5 harg5 arg6 harg6 arg7 harg7 arg8 harg8 arg9 harg9 arg10 harg10 X_arg5 k.val) := by
  rw [pb_k0_t1.eq_2]; unfold pb_k0_t1Step; exact dif_pos k.isLt

/-- THE INVARIANT before trip `k`: arg5 read at `X_·`; arg9 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (G_arg9 : BufTy.Contents (Elt F) arg9.view.ty) (k : ℕ) (_u : PUnit) : sProp 𝕄G :=
  iprop((arg5.view.loc (c : Thread nD τ) ↦[arg5.view.set]{fullShare} X_arg5) ∗ (∃ f, (arg9.view.loc (c : Thread nD τ) ↦[arg9.view.set]{fullShare} f) ∗ ⌜f = arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 X_arg5 k)⌝))

set_option warn.classDefReducibility false in
/-- THE LOOP BY ITS INVARIANT — (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (G_arg9 : BufTy.Contents (Elt F) arg9.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 where
  inv := inv_k0_t1 (F := F) 𝒱 c bd i arg1 harg1 arg2 harg2 arg3 harg3 arg4 harg4 arg5 harg5 arg6 harg6 arg7 harg7 arg8 harg8 arg9 harg9 arg10 harg10 X_arg5 G_arg9
  step k acc := by
    iintro ⟨HR_arg5, ⟨%f_arg9, HW_arg9, %h_arg9⟩⟩
    iapply (wp_wand_r Idealize.ShloMosaic.frame (wpE (defs₀ (F := F)) 𝒱 (c : Thread nD τ) bd) E)
    isplitl [HR_arg5 HW_arg9]
    · iapply ((trip_k0_t1 (F := F) 𝒱 c bd i arg1 harg1 arg2 harg2 arg3 harg3 arg4 harg4 arg5 harg5 arg6 harg6 arg7 harg7 arg8 harg8 arg9 harg9 arg10 harg10 X_arg5 k).2 E f_arg9)
      isplitl [HR_arg5]; · iexact HR_arg5
      iexact HW_arg9
    · iintro %_ ⟨HR_arg5, HW_arg9⟩
      isplitl [HR_arg5]; · iexact HR_arg5
      rw [pb_k0_t1_succ]
      iexists _; isplitl [HW_arg9]; · iexact HW_arg9
      ipureintro; rw [h_arg9, ← View.writes_append]

end Cert.Kernel.Hand

end
-- ==== Proof.Vals.lean ====
/-
  What the body's counted loops leave, as functions of the buffers they read: the quantised activation tile, and the
  dequantised weight column blocks.
-/
module

public import proofs.«01_k».proof.Proof.Quantise
public import Idealize.ShloMosaic.Lib.Pipeline.FrameBody
public import Idealize.ShloMosaic.Lib.Pointwise.Index
public import Idealize.ShloMosaic.Lib.WholeRead

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces a counted loop has listed after its last trip are the pieces of its trips. -/
theorem mem_loop {α : Type} {N : ℕ} (T : Fin N → List α) (P : ℕ → List α) (h0 : P 0 = [])
    (hs : ∀ k : Fin N, P (k.val + 1) = T k ++ P k.val) (x : α) : x ∈ P N ↔ ∃ k, x ∈ T k := by
  have key : ∀ n, n ≤ N → (x ∈ P n ↔ ∃ k : Fin N, k.val < n ∧ x ∈ T k) := by
    intro n
    induction n with
    | zero => intro _; simp [h0]
    | succ n ih =>
      intro hn
      rw [hs ⟨n, hn⟩, List.mem_append, ih (by omega)]
      constructor
      · rintro (h | ⟨k, hk, h⟩)
        · exact ⟨⟨n, hn⟩, by simp, h⟩
        · exact ⟨k, by omega, h⟩
      · rintro ⟨k, hk, h⟩
        rcases Nat.lt_succ_iff_lt_or_eq.mp hk with hk | hk
        · exact Or.inr ⟨k, hk, h⟩
        · left; have : k = ⟨n, hn⟩ := Fin.ext hk
          rwa [this] at h
  rw [key N le_rfl]
  exact ⟨fun ⟨k, _, h⟩ => ⟨k, h⟩, fun ⟨k, h⟩ => ⟨k, k.isLt, h⟩⟩

/-- What a loop's writes leave where its trips' one piece each cover the shape and agree with one function. -/
theorem read_loop {κ : Kind} {sp : Space} {s : Shape} {e : EltTy} (v : View sig κ sp s e) (f : v.ty.Contents (Elt F)) {N : ℕ}
    (T : Fin N → List (View.Piece (Elt F) s e)) (P : ℕ → List (View.Piece (Elt F) s e)) (h0 : P 0 = [])
    (hs : ∀ k : Fin N, P (k.val + 1) = T k ++ P k.val) (R : Fin N → Rect s) (w : (k : Fin N) → (R k).shape.Idx → Elt F e)
    (hT : ∀ k, T k = [⟨R k, w k⟩]) (G : s.Idx → Elt F e) (hG : ∀ k x, w k x = G ((R k).emb x)) (hc : ∀ y, ∃ k, y ∈ (R k).set)
    (L : List (View.Piece (Elt F) s e)) :
    v.read (Elt F) (v.writes (Elt F) f (P N ++ L)) = G := by
  funext y
  rw [View.writes_append]
  refine View.read_writes_apply_of_pieces v _ G (P N) (fun p hp x => ?_) y ?_
  · obtain ⟨k, hk⟩ := (mem_loop T P h0 hs p).mp hp
    rw [hT k, List.mem_singleton] at hk
    subst hk; exact hG k x
  · obtain ⟨k, hk⟩ := hc y
    exact ⟨⟨R k, w k⟩, (mem_loop T P h0 hs _).mpr ⟨k, by rw [hT k]; exact List.mem_singleton_self _⟩, hk⟩

/-- One 128-column block of an activation tile. -/
def colBlock (X : Vec F S256x6144 .bf16) (k : Fin 48) : Vec F S256x128 .bf16 :=
  fun j => X (ix2 (n0 := 256) (n1 := 6144) (j 0) ⟨128 * k.val + (j 1).val, by have h := (j 1).isLt; have := k.isLt; change (j 1).val < 128 at h; omega⟩)

/-- The scale and its reciprocal of every entry of a block, by repeated doubling. -/
def scales (v : Vec F S256x128 .bf16) : FVec F S256x128 .bf16 × FVec F S256x128 .bf16 :=
  Scf.fold (fun (_ : Fin k0_t2_loop.trips) a => (k0_pay5 v a.1, k0_pay6 v a.1 a.2)) (k0_pay2, k0_pay3)

/-- A block quantised and dequantised. -/
def quantBlock (v : Vec F S256x128 .bf16) : FVec F S256x128 .bf16 := k0_pay7 v (scales v).1 (scales v).2

/-- A whole activation tile quantised and dequantised. -/
def quantTile (X : Vec F S256x6144 .bf16) : Vec F S256x6144 .bf16 := fun y =>
  quantBlock (colBlock X ⟨(y 1).val / 128, by have h := (y 1).isLt; change (y 1).val < 6144 at h; omega⟩)
    (ix2 (n0 := 256) (n1 := 128) (y 0) ⟨(y 1).val % 128, Nat.mod_lt _ (by decide)⟩)

/-- One block of a quarter of the weights: 128 rows, 512 columns. -/
def wBlock (W : Vec F S1x6144x2048 .fp8e4m3) (q : Fin 4) (k : Fin 48) : Vec F S1x128x512 .fp8e4m3 :=
  fun j => W (ix3 (n0 := 1) (n1 := 6144) (n2 := 2048) 0 ⟨128 * k.val + (j 1).val, by have h := (j 1).isLt; have := k.isLt; change (j 1).val < 128 at h; omega⟩
    ⟨512 * q.val + (j 2).val, by have h := (j 2).isLt; have := q.isLt; change (j 2).val < 512 at h; omega⟩)

/-- The row of scales over such a block. -/
def sBlock (S : Vec F S1x48x2048 .f32) (q : Fin 4) (k : Fin 48) : Vec F S1x1x512 .f32 :=
  fun j => S (ix3 (n0 := 1) (n1 := 48) (n2 := 2048) 0 k
    ⟨512 * q.val + (j 2).val, by have h := (j 2).isLt; have := q.isLt; change (j 2).val < 512 at h; omega⟩)

/-- A quarter of the weights dequantised. -/
def deqQuarter (W : Vec F S1x6144x2048 .fp8e4m3) (S : Vec F S1x48x2048 .f32) (q : Fin 4) : Vec F S6144x512 .bf16 := fun y =>
  k0_pay9 (wBlock W q ⟨(y 0).val / 128, by have h := (y 0).isLt; change (y 0).val < 6144 at h; omega⟩)
    (sBlock S q ⟨(y 0).val / 128, by have h := (y 0).isLt; change (y 0).val < 6144 at h; omega⟩)
    (ix2 (n0 := 128) (n1 := 512) ⟨(y 0).val % 128, Nat.mod_lt _ (by decide)⟩ (y 1))

/-! ### The activation tile's loop -/

theorem trip1_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X5 : Vec F S256x6144 .bf16) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 (harg5.unread X5) k
      = [⟨Rect.unit (s := S256x6144) (k0_off3 k) S256x128.size (k0_off3_inb k), quantBlock (colBlock X5 (k.castLE k0_t1_abs.2.1))⟩] := by
  have e : View.readAt (Elt F) arg5.view (Rect.unit (s := S256x6144) (k0_off3 k) S256x128.size (k0_off3_inb k)).toLoadRect (harg5.unread X5)
      = colBlock X5 (k.castLE k0_t1_abs.2.1) := by
    funext j
    rw [harg5.readAt_unread]
    refine congrArg X5 (funext fun a => Fin.ext ?_)
    have ho := congrFun (k0_off3_eq k) a
    fin_cases a
    · change k0_off3 k 0 + 1 * (j 0).val = (j 0).val
      change k0_off3 k 0 = 0 at ho; omega
    · change k0_off3 k 1 + 1 * (j 1).val = 128 * k.val + (j 1).val
      change k0_off3 k 1 = 128 * k.val at ho; omega
  rw [← e]
  unfold tripL_k0_t1 trip_k0_t1
  rfl

/-- After the loop the scratch holds the tile quantised, whatever it held before. -/
theorem read_loop1 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X5 : Vec F S256x6144 .bf16) (f : arg9.view.ty.Contents (Elt F))
    (L : List (View.Piece (Elt F) S256x6144 .bf16)) :
    arg9.view.read (Elt F) (arg9.view.writes (Elt F) f (pb_k0_t1 (F := F) Variants.none c none i arg1 harg1 arg2 harg2 arg3 harg3 arg4 harg4 arg5 harg5 arg6 harg6 arg7 harg7 arg8 harg8 arg9 harg9 arg10 harg10 (harg5.unread X5) k0_t1_loop.trips ++ L))
      = quantTile X5 := by
  refine read_loop arg9.view f (fun k => tripL_k0_t1 (F := F) Variants.none c none i arg1 harg1 arg2 harg2 arg3 harg3 arg4 harg4 arg5 harg5 arg6 harg6 arg7 harg7 arg8 harg8 arg9 harg9 arg10 harg10 (harg5.unread X5) k) _ rfl
    (fun k => pb_k0_t1_succ (F := F) Variants.none c none i arg1 harg1 arg2 harg2 arg3 harg3 arg4 harg4 arg5 harg5 arg6 harg6 arg7 harg7 arg8 harg8 arg9 harg9 arg10 harg10 (harg5.unread X5) k) _ _ (fun k => trip1_eq c i arg1 harg1 arg2 harg2 arg3 harg3 arg4 harg4 arg5 harg5 arg6 harg6 arg7 harg7 arg8 harg8 arg9 harg9 arg10 harg10 X5 k) _ (fun k x => ?_) (fun y => ?_) L
  · have ho := k0_off3_eq k
    have h0 : (((Rect.unit (s := S256x6144) (k0_off3 k) S256x128.size (k0_off3_inb k)).emb x) 0).val = (x 0).val := by
      have := congrFun ho 0; change k0_off3 k 0 = 0 at this
      change k0_off3 k 0 + 1 * (x 0).val = _; omega
    have h1 : (((Rect.unit (s := S256x6144) (k0_off3 k) S256x128.size (k0_off3_inb k)).emb x) 1).val = 128 * k.val + (x 1).val := by
      have := congrFun ho 1; change k0_off3 k 1 = 128 * k.val at this
      change k0_off3 k 1 + 1 * (x 1).val = _; omega
    have hx : (x 1).val < 128 := (x 1).isLt
    have hk : k.val < 48 := Nat.lt_of_lt_of_le k.isLt k0_t1_abs.2.1
    unfold quantTile
    have ek : (⟨(((Rect.unit (s := S256x6144) (k0_off3 k) S256x128.size (k0_off3_inb k)).emb x) 1).val / 128, by omega⟩ : Fin 48) = k.castLE k0_t1_abs.2.1 :=
      Fin.ext (by change _ / 128 = k.val; omega)
    rw [ek]
    refine congrArg _ (funext fun a => Fin.ext ?_)
    fin_cases a
    · change (x 0).val = _; exact h0.symm
    · change (x 1).val = _ % 128; omega
  · have hy0 : (y 0).val < 256 := (y 0).isLt
    have hy1 : (y 1).val < 6144 := (y 1).isLt
    obtain ⟨k, hk⟩ : ∃ k : Fin k0_t1_loop.trips, k.val = (y 1).val / 128 :=
      ⟨⟨(y 1).val / 128, by rw [show k0_t1_loop.trips = 48 by decide +kernel]; omega⟩, rfl⟩
    refine ⟨k, Rect.mem_set_unit.mpr fun a => ?_⟩
    have ho := congrFun (k0_off3_eq k) a
    fin_cases a
    · change k0_off3 k 0 = 0 at ho
      change k0_off3 k 0 ≤ (y 0).val ∧ (y 0).val < k0_off3 k 0 + 256; omega
    · change k0_off3 k 1 = 128 * k.val at ho
      change k0_off3 k 1 ≤ (y 1).val ∧ (y 1).val < k0_off3 k 1 + 128; omega

/-! ### Quarter 0 of the weights -/

theorem trip3_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X6 : Vec F S1x6144x2048 .fp8e4m3) (X7 : Vec F S1x48x2048 .f32) (k : Fin k0_t3_loop.trips) :
    tripL_k0_t3 (F := F) Variants.none c none i arg1 harg1 arg2 harg2 arg3 harg3 arg4 harg4 arg5 harg5 arg6 harg6 arg7 harg7 arg8 harg8 arg9 harg9 arg10 harg10 (harg6.unread X6) (harg7.unread X7) k
      = [⟨Rect.unit (s := S6144x512) (k0_off7 k) S128x512.size (k0_off7_inb k), k0_pay9 (wBlock X6 0 (k.castLE k0_t3_abs.2.1)) (sBlock X7 0 (k.castLE k0_t3_abs.2.1))⟩] := by
  have e6 : View.readAt (Elt F) arg6.view (Rect.unit (s := S1x6144x2048) (k0_off5 k) S1x128x512.size (k0_off5_inb k)).toLoadRect (harg6.unread X6)
      = wBlock X6 0 (k.castLE k0_t3_abs.2.1) := by
    funext j
    rw [harg6.readAt_unread]
    refine congrArg X6 (funext fun a => Fin.ext ?_)
    have ho := congrFun (k0_off5_eq k) a
    fin_cases a
    · have hj : (j 0).val < 1 := (j 0).isLt
      change k0_off5 k 0 + 1 * (j 0).val = 0
      change k0_off5 k 0 = 0 at ho; omega
    · change k0_off5 k 1 + 1 * (j 1).val = 128 * k.val + (j 1).val
      change k0_off5 k 1 = 128 * k.val at ho; omega
    · change k0_off5 k 2 + 1 * (j 2).val = 512 * 0 + (j 2).val
      change k0_off5 k 2 = 0 at ho; omega
  have e7 : View.readAt (Elt F) arg7.view (Rect.unit (s := S1x48x2048) (k0_off6 k) S1x1x512.size (k0_off6_inb k)).toLoadRect (harg7.unread X7)
      = sBlock X7 0 (k.castLE k0_t3_abs.2.1) := by
    funext j
    rw [harg7.readAt_unread]
    refine congrArg X7 (funext fun a => Fin.ext ?_)
    have ho := congrFun (k0_off6_eq k) a
    fin_cases a
    · have hj : (j 0).val < 1 := (j 0).isLt
      change k0_off6 k 0 + 1 * (j 0).val = 0
      change k0_off6 k 0 = 0 at ho; omega
    · have hj : (j 1).val < 1 := (j 1).isLt
      change k0_off6 k 1 + 1 * (j 1).val = k.val
      change k0_off6 k 1 = k.val at ho; omega
    · change k0_off6 k 2 + 1 * (j 2).val = 512 * 0 + (j 2).val
      change k0_off6 k 2 = 0 at ho; omega
  rw [← e6, ← e7]
  unfold tripL_k0_t3 trip_k0_t3
  rfl

/-- After the loop the second scratch holds the quarter dequantised, whatever it held before. -/
theorem read_loop3 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X6 : Vec F S1x6144x2048 .fp8e4m3) (X7 : Vec F S1x48x2048 .f32) (f : arg10.view.ty.Contents (Elt F))
    (L : List (View.Piece (Elt F) S6144x512 .bf16)) :
    arg10.view.read (Elt F) (arg10.view.writes (Elt F) f (pb_k0_t3 (F := F) Variants.none c none i arg1 harg1 arg2 harg2 arg3 harg3 arg4 harg4 arg5 harg5 arg6 harg6 arg7 harg7 arg8 harg8 arg9 harg9 arg10 harg10 (harg6.unread X6) (harg7.unread X7) k0_t3_loop.trips ++ L))
      = deqQuarter X6 X7 0 := by
  refine read_loop arg10.view f (fun k => tripL_k0_t3 (F := F) Variants.none c none i arg1 harg1 arg2 harg2 arg3 harg3 arg4 harg4 arg5 harg5 arg6 harg6 arg7 harg7 arg8 harg8 arg9 harg9 arg10 harg10 (harg6.unread X6) (harg7.unread X7) k) _ rfl
    (fun k => pb_k0_t3_succ (F := F) Variants.none c none i arg1 harg1 arg2 harg2 arg3 harg3 arg4 harg4 arg5 harg5 arg6 harg6 arg7 harg7 arg8 harg8 arg9 harg9 arg10 harg10 (harg6.unread X6) (harg7.unread X7) k) _ _ (fun k => trip3_eq c i arg1 harg1 arg2 harg2 arg3 harg3 arg4 harg4 arg5 harg5 arg6 harg6 arg7 harg7 arg8 harg8 arg9 harg9 arg10 harg10 X6 X7 k) _ (fun k x => ?_) (fun y => ?_) L
  · have ho := k0_off7_eq k
    have h0 : (((Rect.unit (s := S6144x512) (k0_off7 k) S128x512.size (k0_off7_inb k)).emb x) 0).val = 128 * k.val + (x 0).val := by
      have := congrFun ho 0; change k0_off7 k 0 = 128 * k.val at this
      change k0_off7 k 0 + 1 * (x 0).val = _; omega
    have h1 : (((Rect.unit (s := S6144x512) (k0_off7 k) S128x512.size (k0_off7_inb k)).emb x) 1).val = (x 1).val := by
      have := congrFun ho 1; change k0_off7 k 1 = 0 at this
      change k0_off7 k 1 + 1 * (x 1).val = _; omega
    have hx : (x 0).val < 128 := (x 0).isLt
    have hk : k.val < 48 := Nat.lt_of_lt_of_le k.isLt k0_t3_abs.2.1
    unfold deqQuarter
    have ek : (⟨(((Rect.unit (s := S6144x512) (k0_off7 k) S128x512.size (k0_off7_inb k)).emb x) 0).val / 128, by omega⟩ : Fin 48) = k.castLE k0_t3_abs.2.1 :=
      Fin.ext (by change _ / 128 = k.val; omega)
    rw [ek]
    refine congrArg _ (funext fun a => Fin.ext ?_)
    fin_cases a
    · change (x 0).val = _ % 128; omega
    · change (x 1).val = _; exact h1.symm
  · have hy0 : (y 0).val < 6144 := (y 0).isLt
    have hy1 : (y 1).val < 512 := (y 1).isLt
    obtain ⟨k, hk⟩ : ∃ k : Fin k0_t3_loop.trips, k.val = (y 0).val / 128 :=
      ⟨⟨(y 0).val / 128, by rw [show k0_t3_loop.trips = 48 by decide +kernel]; omega⟩, rfl⟩
    refine ⟨k, Rect.mem_set_unit.mpr fun a => ?_⟩
    have ho := congrFun (k0_off7_eq k) a
    fin_cases a
    · change k0_off7 k 0 = 128 * k.val at ho
      change k0_off7 k 0 ≤ (y 0).val ∧ (y 0).val < k0_off7 k 0 + 128; omega
    · change k0_off7 k 1 = 0 at ho
      change k0_off7 k 1 ≤ (y 1).val ∧ (y 1).val < k0_off7 k 1 + 512; omega

/-! ### Quarter 1 of the weights -/

theorem trip4_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (k : Fin k0_t4_loop.trips) :
    tripL_k0_t4 (F := F) Variants.none c none i arg1 harg1 arg2 harg2 arg3 harg3 arg4 harg4 arg5 harg5 arg6 harg6 arg7 harg7 arg8 harg8 arg9 harg9 arg10 harg10 v23 c1 c2 (harg6.unread X6) (harg7.unread X7) k
      = [⟨Rect.unit (s := S6144x512) (k0_off10 k) S128x512.size (k0_off10_inb k), k0_pay9 (wBlock X6 1 (k.castLE k0_t4_abs.2.1)) (sBlock X7 1 (k.castLE k0_t4_abs.2.1))⟩] := by
  have e6 : View.readAt (Elt F) arg6.view (Rect.unit (s := S1x6144x2048) (k0_off8 k) S1x128x512.size (k0_off8_inb k)).toLoadRect (harg6.unread X6)
      = wBlock X6 1 (k.castLE k0_t4_abs.2.1) := by
    funext j
    rw [harg6.readAt_unread]
    refine congrArg X6 (funext fun a => Fin.ext ?_)
    have ho := congrFun (k0_off8_eq k) a
    fin_cases a
    · have hj : (j 0).val < 1 := (j 0).isLt
      change k0_off8 k 0 + 1 * (j 0).val = 0
      change k0_off8 k 0 = 0 at ho; omega
    · change k0_off8 k 1 + 1 * (j 1).val = 128 * k.val + (j 1).val
      change k0_off8 k 1 = 128 * k.val at ho; omega
    · change k0_off8 k 2 + 1 * (j 2).val = 512 * 1 + (j 2).val
      change k0_off8 k 2 = 512 at ho; omega
  have e7 : View.readAt (Elt F) arg7.view (Rect.unit (s := S1x48x2048) (k0_off9 k) S1x1x512.size (k0_off9_inb k)).toLoadRect (harg7.unread X7)
      = sBlock X7 1 (k.castLE k0_t4_abs.2.1) := by
    funext j
    rw [harg7.readAt_unread]
    refine congrArg X7 (funext fun a => Fin.ext ?_)
    have ho := congrFun (k0_off9_eq k) a
    fin_cases a
    · have hj : (j 0).val < 1 := (j 0).isLt
      change k0_off9 k 0 + 1 * (j 0).val = 0
      change k0_off9 k 0 = 0 at ho; omega
    · have hj : (j 1).val < 1 := (j 1).isLt
      change k0_off9 k 1 + 1 * (j 1).val = k.val
      change k0_off9 k 1 = k.val at ho; omega
    · change k0_off9 k 2 + 1 * (j 2).val = 512 * 1 + (j 2).val
      change k0_off9 k 2 = 512 at ho; omega
  rw [← e6, ← e7]
  unfold tripL_k0_t4 trip_k0_t4
  rfl

/-- After the loop the second scratch holds the quarter dequantised, whatever it held before. -/
theorem read_loop4 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (f : arg10.view.ty.Contents (Elt F))
    (L : List (View.Piece (Elt F) S6144x512 .bf16)) :
    arg10.view.read (Elt F) (arg10.view.writes (Elt F) f (pb_k0_t4 (F := F) Variants.none c none i arg1 harg1 arg2 harg2 arg3 harg3 arg4 harg4 arg5 harg5 arg6 harg6 arg7 harg7 arg8 harg8 arg9 harg9 arg10 harg10 v23 c1 c2 (harg6.unread X6) (harg7.unread X7) k0_t4_loop.trips ++ L))
      = deqQuarter X6 X7 1 := by
  refine read_loop arg10.view f (fun k => tripL_k0_t4 (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ rfl
    (fun k => pb_k0_t4_succ (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ _ (fun k => trip4_eq c i arg1 harg1 arg2 harg2 arg3 harg3 arg4 harg4 arg5 harg5 arg6 harg6 arg7 harg7 arg8 harg8 arg9 harg9 arg10 harg10 v23 c1 c2 X6 X7 k) _ (fun k x => ?_) (fun y => ?_) L
  · have ho := k0_off10_eq k
    have h0 : (((Rect.unit (s := S6144x512) (k0_off10 k) S128x512.size (k0_off10_inb k)).emb x) 0).val = 128 * k.val + (x 0).val := by
      have := congrFun ho 0; change k0_off10 k 0 = 128 * k.val at this
      change k0_off10 k 0 + 1 * (x 0).val = _; omega
    have h1 : (((Rect.unit (s := S6144x512) (k0_off10 k) S128x512.size (k0_off10_inb k)).emb x) 1).val = (x 1).val := by
      have := congrFun ho 1; change k0_off10 k 1 = 0 at this
      change k0_off10 k 1 + 1 * (x 1).val = _; omega
    have hx : (x 0).val < 128 := (x 0).isLt
    have hk : k.val < 48 := Nat.lt_of_lt_of_le k.isLt k0_t4_abs.2.1
    unfold deqQuarter
    have ek : (⟨(((Rect.unit (s := S6144x512) (k0_off10 k) S128x512.size (k0_off10_inb k)).emb x) 0).val / 128, by omega⟩ : Fin 48) = k.castLE k0_t4_abs.2.1 :=
      Fin.ext (by change _ / 128 = k.val; omega)
    rw [ek]
    refine congrArg _ (funext fun a => Fin.ext ?_)
    fin_cases a
    · change (x 0).val = _ % 128; omega
    · change (x 1).val = _; exact h1.symm
  · have hy0 : (y 0).val < 6144 := (y 0).isLt
    have hy1 : (y 1).val < 512 := (y 1).isLt
    obtain ⟨k, hk⟩ : ∃ k : Fin k0_t4_loop.trips, k.val = (y 0).val / 128 :=
      ⟨⟨(y 0).val / 128, by rw [show k0_t4_loop.trips = 48 by decide +kernel]; omega⟩, rfl⟩
    refine ⟨k, Rect.mem_set_unit.mpr fun a => ?_⟩
    have ho := congrFun (k0_off10_eq k) a
    fin_cases a
    · change k0_off10 k 0 = 128 * k.val at ho
      change k0_off10 k 0 ≤ (y 0).val ∧ (y 0).val < k0_off10 k 0 + 128; omega
    · change k0_off10 k 1 = 0 at ho
      change k0_off10 k 1 ≤ (y 1).val ∧ (y 1).val < k0_off10 k 1 + 512; omega

/-! ### Quarter 2 of the weights -/

theorem trip5_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (k : Fin k0_t5_loop.trips) :
    tripL_k0_t5 (F := F) Variants.none c none i arg1 harg1 arg2 harg2 arg3 harg3 arg4 harg4 arg5 harg5 arg6 harg6 arg7 harg7 arg8 harg8 arg9 harg9 arg10 harg10 v23 c1 c2 (harg6.unread X6) (harg7.unread X7) k
      = [⟨Rect.unit (s := S6144x512) (k0_off13 k) S128x512.size (k0_off13_inb k), k0_pay9 (wBlock X6 2 (k.castLE k0_t5_abs.2.1)) (sBlock X7 2 (k.castLE k0_t5_abs.2.1))⟩] := by
  have e6 : View.readAt (Elt F) arg6.view (Rect.unit (s := S1x6144x2048) (k0_off11 k) S1x128x512.size (k0_off11_inb k)).toLoadRect (harg6.unread X6)
      = wBlock X6 2 (k.castLE k0_t5_abs.2.1) := by
    funext j
    rw [harg6.readAt_unread]
    refine congrArg X6 (funext fun a => Fin.ext ?_)
    have ho := congrFun (k0_off11_eq k) a
    fin_cases a
    · have hj : (j 0).val < 1 := (j 0).isLt
      change k0_off11 k 0 + 1 * (j 0).val = 0
      change k0_off11 k 0 = 0 at ho; omega
    · change k0_off11 k 1 + 1 * (j 1).val = 128 * k.val + (j 1).val
      change k0_off11 k 1 = 128 * k.val at ho; omega
    · change k0_off11 k 2 + 1 * (j 2).val = 512 * 2 + (j 2).val
      change k0_off11 k 2 = 1024 at ho; omega
  have e7 : View.readAt (Elt F) arg7.view (Rect.unit (s := S1x48x2048) (k0_off12 k) S1x1x512.size (k0_off12_inb k)).toLoadRect (harg7.unread X7)
      = sBlock X7 2 (k.castLE k0_t5_abs.2.1) := by
    funext j
    rw [harg7.readAt_unread]
    refine congrArg X7 (funext fun a => Fin.ext ?_)
    have ho := congrFun (k0_off12_eq k) a
    fin_cases a
    · have hj : (j 0).val < 1 := (j 0).isLt
      change k0_off12 k 0 + 1 * (j 0).val = 0
      change k0_off12 k 0 = 0 at ho; omega
    · have hj : (j 1).val < 1 := (j 1).isLt
      change k0_off12 k 1 + 1 * (j 1).val = k.val
      change k0_off12 k 1 = k.val at ho; omega
    · change k0_off12 k 2 + 1 * (j 2).val = 512 * 2 + (j 2).val
      change k0_off12 k 2 = 1024 at ho; omega
  rw [← e6, ← e7]
  unfold tripL_k0_t5 trip_k0_t5
  rfl

/-- After the loop the second scratch holds the quarter dequantised, whatever it held before. -/
theorem read_loop5 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (f : arg10.view.ty.Contents (Elt F))
    (L : List (View.Piece (Elt F) S6144x512 .bf16)) :
    arg10.view.read (Elt F) (arg10.view.writes (Elt F) f (pb_k0_t5 (F := F) Variants.none c none i arg1 harg1 arg2 harg2 arg3 harg3 arg4 harg4 arg5 harg5 arg6 harg6 arg7 harg7 arg8 harg8 arg9 harg9 arg10 harg10 v23 c1 c2 (harg6.unread X6) (harg7.unread X7) k0_t5_loop.trips ++ L))
      = deqQuarter X6 X7 2 := by
  refine read_loop arg10.view f (fun k => tripL_k0_t5 (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ rfl
    (fun k => pb_k0_t5_succ (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ _ (fun k => trip5_eq c i arg1 harg1 arg2 harg2 arg3 harg3 arg4 harg4 arg5 harg5 arg6 harg6 arg7 harg7 arg8 harg8 arg9 harg9 arg10 harg10 v23 c1 c2 X6 X7 k) _ (fun k x => ?_) (fun y => ?_) L
  · have ho := k0_off13_eq k
    have h0 : (((Rect.unit (s := S6144x512) (k0_off13 k) S128x512.size (k0_off13_inb k)).emb x) 0).val = 128 * k.val + (x 0).val := by
      have := congrFun ho 0; change k0_off13 k 0 = 128 * k.val at this
      change k0_off13 k 0 + 1 * (x 0).val = _; omega
    have h1 : (((Rect.unit (s := S6144x512) (k0_off13 k) S128x512.size (k0_off13_inb k)).emb x) 1).val = (x 1).val := by
      have := congrFun ho 1; change k0_off13 k 1 = 0 at this
      change k0_off13 k 1 + 1 * (x 1).val = _; omega
    have hx : (x 0).val < 128 := (x 0).isLt
    have hk : k.val < 48 := Nat.lt_of_lt_of_le k.isLt k0_t5_abs.2.1
    unfold deqQuarter
    have ek : (⟨(((Rect.unit (s := S6144x512) (k0_off13 k) S128x512.size (k0_off13_inb k)).emb x) 0).val / 128, by omega⟩ : Fin 48) = k.castLE k0_t5_abs.2.1 :=
      Fin.ext (by change _ / 128 = k.val; omega)
    rw [ek]
    refine congrArg _ (funext fun a => Fin.ext ?_)
    fin_cases a
    · change (x 0).val = _ % 128; omega
    · change (x 1).val = _; exact h1.symm
  · have hy0 : (y 0).val < 6144 := (y 0).isLt
    have hy1 : (y 1).val < 512 := (y 1).isLt
    obtain ⟨k, hk⟩ : ∃ k : Fin k0_t5_loop.trips, k.val = (y 0).val / 128 :=
      ⟨⟨(y 0).val / 128, by rw [show k0_t5_loop.trips = 48 by decide +kernel]; omega⟩, rfl⟩
    refine ⟨k, Rect.mem_set_unit.mpr fun a => ?_⟩
    have ho := congrFun (k0_off13_eq k) a
    fin_cases a
    · change k0_off13 k 0 = 128 * k.val at ho
      change k0_off13 k 0 ≤ (y 0).val ∧ (y 0).val < k0_off13 k 0 + 128; omega
    · change k0_off13 k 1 = 0 at ho
      change k0_off13 k 1 ≤ (y 1).val ∧ (y 1).val < k0_off13 k 1 + 512; omega

/-! ### Quarter 3 of the weights -/

theorem trip6_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (k : Fin k0_t6_loop.trips) :
    tripL_k0_t6 (F := F) Variants.none c none i arg1 harg1 arg2 harg2 arg3 harg3 arg4 harg4 arg5 harg5 arg6 harg6 arg7 harg7 arg8 harg8 arg9 harg9 arg10 harg10 v23 c1 c2 (harg6.unread X6) (harg7.unread X7) k
      = [⟨Rect.unit (s := S6144x512) (k0_off16 k) S128x512.size (k0_off16_inb k), k0_pay9 (wBlock X6 3 (k.castLE k0_t6_abs.2.1)) (sBlock X7 3 (k.castLE k0_t6_abs.2.1))⟩] := by
  have e6 : View.readAt (Elt F) arg6.view (Rect.unit (s := S1x6144x2048) (k0_off14 k) S1x128x512.size (k0_off14_inb k)).toLoadRect (harg6.unread X6)
      = wBlock X6 3 (k.castLE k0_t6_abs.2.1) := by
    funext j
    rw [harg6.readAt_unread]
    refine congrArg X6 (funext fun a => Fin.ext ?_)
    have ho := congrFun (k0_off14_eq k) a
    fin_cases a
    · have hj : (j 0).val < 1 := (j 0).isLt
      change k0_off14 k 0 + 1 * (j 0).val = 0
      change k0_off14 k 0 = 0 at ho; omega
    · change k0_off14 k 1 + 1 * (j 1).val = 128 * k.val + (j 1).val
      change k0_off14 k 1 = 128 * k.val at ho; omega
    · change k0_off14 k 2 + 1 * (j 2).val = 512 * 3 + (j 2).val
      change k0_off14 k 2 = 1536 at ho; omega
  have e7 : View.readAt (Elt F) arg7.view (Rect.unit (s := S1x48x2048) (k0_off15 k) S1x1x512.size (k0_off15_inb k)).toLoadRect (harg7.unread X7)
      = sBlock X7 3 (k.castLE k0_t6_abs.2.1) := by
    funext j
    rw [harg7.readAt_unread]
    refine congrArg X7 (funext fun a => Fin.ext ?_)
    have ho := congrFun (k0_off15_eq k) a
    fin_cases a
    · have hj : (j 0).val < 1 := (j 0).isLt
      change k0_off15 k 0 + 1 * (j 0).val = 0
      change k0_off15 k 0 = 0 at ho; omega
    · have hj : (j 1).val < 1 := (j 1).isLt
      change k0_off15 k 1 + 1 * (j 1).val = k.val
      change k0_off15 k 1 = k.val at ho; omega
    · change k0_off15 k 2 + 1 * (j 2).val = 512 * 3 + (j 2).val
      change k0_off15 k 2 = 1536 at ho; omega
  rw [← e6, ← e7]
  unfold tripL_k0_t6 trip_k0_t6
  rfl

/-- After the loop the second scratch holds the quarter dequantised, whatever it held before. -/
theorem read_loop6 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (f : arg10.view.ty.Contents (Elt F))
    (L : List (View.Piece (Elt F) S6144x512 .bf16)) :
    arg10.view.read (Elt F) (arg10.view.writes (Elt F) f (pb_k0_t6 (F := F) Variants.none c none i arg1 harg1 arg2 harg2 arg3 harg3 arg4 harg4 arg5 harg5 arg6 harg6 arg7 harg7 arg8 harg8 arg9 harg9 arg10 harg10 v23 c1 c2 (harg6.unread X6) (harg7.unread X7) k0_t6_loop.trips ++ L))
      = deqQuarter X6 X7 3 := by
  refine read_loop arg10.view f (fun k => tripL_k0_t6 (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ rfl
    (fun k => pb_k0_t6_succ (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ _ (fun k => trip6_eq c i arg1 harg1 arg2 harg2 arg3 harg3 arg4 harg4 arg5 harg5 arg6 harg6 arg7 harg7 arg8 harg8 arg9 harg9 arg10 harg10 v23 c1 c2 X6 X7 k) _ (fun k x => ?_) (fun y => ?_) L
  · have ho := k0_off16_eq k
    have h0 : (((Rect.unit (s := S6144x512) (k0_off16 k) S128x512.size (k0_off16_inb k)).emb x) 0).val = 128 * k.val + (x 0).val := by
      have := congrFun ho 0; change k0_off16 k 0 = 128 * k.val at this
      change k0_off16 k 0 + 1 * (x 0).val = _; omega
    have h1 : (((Rect.unit (s := S6144x512) (k0_off16 k) S128x512.size (k0_off16_inb k)).emb x) 1).val = (x 1).val := by
      have := congrFun ho 1; change k0_off16 k 1 = 0 at this
      change k0_off16 k 1 + 1 * (x 1).val = _; omega
    have hx : (x 0).val < 128 := (x 0).isLt
    have hk : k.val < 48 := Nat.lt_of_lt_of_le k.isLt k0_t6_abs.2.1
    unfold deqQuarter
    have ek : (⟨(((Rect.unit (s := S6144x512) (k0_off16 k) S128x512.size (k0_off16_inb k)).emb x) 0).val / 128, by omega⟩ : Fin 48) = k.castLE k0_t6_abs.2.1 :=
      Fin.ext (by change _ / 128 = k.val; omega)
    rw [ek]
    refine congrArg _ (funext fun a => Fin.ext ?_)
    fin_cases a
    · change (x 0).val = _ % 128; omega
    · change (x 1).val = _; exact h1.symm
  · have hy0 : (y 0).val < 6144 := (y 0).isLt
    have hy1 : (y 1).val < 512 := (y 1).isLt
    obtain ⟨k, hk⟩ : ∃ k : Fin k0_t6_loop.trips, k.val = (y 0).val / 128 :=
      ⟨⟨(y 0).val / 128, by rw [show k0_t6_loop.trips = 48 by decide +kernel]; omega⟩, rfl⟩
    refine ⟨k, Rect.mem_set_unit.mpr fun a => ?_⟩
    have ho := congrFun (k0_off16_eq k) a
    fin_cases a
    · change k0_off16 k 0 = 128 * k.val at ho
      change k0_off16 k 0 ≤ (y 0).val ∧ (y 0).val < k0_off16 k 0 + 128; omega
    · change k0_off16 k 1 = 0 at ho
      change k0_off16 k 1 ≤ (y 1).val ∧ (y 1).val < k0_off16 k 1 + 512; omega

end Cert.Kernel.Hand

end
-- ==== Proof.Body.lean ====
/-
  The body of the kernel, run once at a symbolic grid point, in its two control cases: the point that quantises a new
  activation tile into the scratch, and the point that finds its tile already quantised there.
-/
module

public import proofs.«01_k».proof.Proof.Vals
public import Idealize.ShloMosaic.Lib.Pipeline.FrameBody
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word of a table a one-word load reads, through the memref that holds it. -/
abbrev wordOf (m : Memref sig .tc .smem S111 .i32) (hm : m.IsWhole) (T : Vec F S111 .i32) (o : Fin 1 → ℕ) (h : ∀ a, o a + S1.size a ≤ S111.size a) : BitVec 32 :=
  ((m.access (Rect.unit (s := S111) o S1.size h) : View sig .tc _ _ _).read (Elt F) (hm.unread T)) (Shape.Idx.first (s := S1) (numel1_S1.symm ▸ Nat.one_pos))

/-- The body's test of whether the point quantises its tile, of the point's coordinate word and the two tile words. -/
abbrev testOf (a w w' : BitVec 32) : BitVec 1 :=
  Scalar.cmpi .ne (Scalar.extui (Scalar.ori (Scalar.cmpi .eq a 0#32) (Scalar.cmpi .ne w w')) : BitVec 32) 0#32

/-- The word a table holds for a grid point. -/
abbrev tab (T : Vec F S111 .i32) (n : ℕ) (h : n < 111) : BitVec 32 := T (ix1 (n0 := 111) ⟨n, h⟩)

theorem wordOf_eq (m : Memref sig .tc .smem S111 .i32) (hm : m.IsWhole) (T : Vec F S111 .i32) (o : Fin 1 → ℕ) (h : ∀ a, o a + S1.size a ≤ S111.size a)
    (n : ℕ) (hn : n < 111) (ho : o = ![n]) : wordOf m hm T o h = tab T n hn := by
  subst ho
  unfold wordOf
  refine (congrFun (hm.read_unread T) _).trans (congrArg T (funext fun a => Fin.ext ?_))
  fin_cases a; rfl

theorem k0_off2_eq : ∀ i : grid0.Coords, k0_off2 i = ![(i 0).val - 1] := by decide +kernel

/-- Whether a point quantises its tile: the first point, or a point whose tile is not the one before. -/
def Fresh (T : Vec F S111 .i32) (i : grid0.Coords) : Prop :=
  (i 0).val = 0 ∨ tab T (i 0).val (i 0).isLt ≠ tab T ((i 0).val - 1) (lt_of_le_of_lt (Nat.sub_le _ _) (i 0).isLt)

theorem testOf_iff (a w w' : BitVec 32) : testOf a w w' = 1#1 ↔ a = 0#32 ∨ w ≠ w' := by
  have key : ∀ p q : Bool, (BitVec.ofBool (BitVec.setWidth 32 (IntOp.ori (BitVec.ofBool p) (BitVec.ofBool q)) != 0#32) = 1#1) ↔ (p = true ∨ q = true) := by
    decide
  exact (key (a == 0#32) (w != w')).trans (by simp)

theorem fresh_iff (m : Memref sig .tc .smem S111 .i32) (hm : m.IsWhole) (T : Vec F S111 .i32) (i : grid0.Coords) :
    testOf (BitVec.ofNat 32 (i 0).val) (wordOf m hm T (k0_off1 i) (k0_off1_inb i)) (wordOf m hm T (k0_off2 i) (k0_off2_inb i)) = 1#1 ↔ Fresh T i := by
  have hi : (i 0).val < 111 := (i 0).isLt
  rw [testOf_iff, wordOf_eq m hm T _ _ _ hi (k0_off1_eq i), wordOf_eq m hm T _ _ _ (by omega) (k0_off2_eq i)]
  unfold Fresh
  refine or_congr ⟨fun h => ?_, fun h => by rw [h]⟩ Iff.rfl
  have := congrArg BitVec.toNat h
  simp only [BitVec.toNat_ofNat] at this
  omega

/-- A quarter of an output tile's columns. -/
def quarterOf (Y : Vec F S256x2048 .bf16) (q : Fin 4) : Vec F S256x512 .bf16 :=
  fun j => Y (ix2 (n0 := 256) (n1 := 2048) (j 0) ⟨512 * q.val + (j 1).val, by have h := (j 1).isLt; have := q.isLt; change (j 1).val < 512 at h; omega⟩)

/-- A point's output tile, of what it held before: the masked rows of each quarter replaced by the product of the quantised
    activations and the quarter of the dequantised weights. -/
def outStep (M : IVec S256x1 1) (Q : Vec F S256x6144 .bf16) (W : Vec F S1x6144x2048 .fp8e4m3) (S : Vec F S1x48x2048 .f32) (Y : Vec F S256x2048 .bf16) :
    Vec F S256x2048 .bf16 := fun y =>
  k0_pay12 M Q (deqQuarter W S ⟨(y 1).val / 512, by have h := (y 1).isLt; change (y 1).val < 2048 at h; omega⟩)
    (quarterOf Y ⟨(y 1).val / 512, by have h := (y 1).isLt; change (y 1).val < 2048 at h; omega⟩)
    (ix2 (n0 := 256) (n1 := 512) (y 0) ⟨(y 1).val % 512, Nat.mod_lt _ (by decide)⟩)

theorem outStep_emb (M : IVec S256x1 1) (Q : Vec F S256x6144 .bf16) (W : Vec F S1x6144x2048 .fp8e4m3) (S : Vec F S1x48x2048 .f32) (Y : Vec F S256x2048 .bf16)
    (q : Fin 4) (o : Fin 2 → ℕ) (ho : o = ![0, 512 * q.val]) (h : ∀ a, o a + S256x512.size a ≤ S256x2048.size a) (x : S256x512.Idx) :
    k0_pay12 M Q (deqQuarter W S q) (quarterOf Y q) x = outStep M Q W S Y ((Rect.unit (s := S256x2048) o S256x512.size h).emb x) := by
  subst ho
  have hx : (x 1).val < 512 := (x 1).isLt
  have h0 : (((Rect.unit (s := S256x2048) ![0, 512 * q.val] S256x512.size h).emb x) 0).val = (x 0).val := by
    change 0 + 1 * (x 0).val = _; omega
  have h1 : (((Rect.unit (s := S256x2048) ![0, 512 * q.val] S256x512.size h).emb x) 1).val = 512 * q.val + (x 1).val := by
    change 512 * q.val + 1 * (x 1).val = _; omega
  unfold outStep
  have ek : (⟨(((Rect.unit (s := S256x2048) ![0, 512 * q.val] S256x512.size h).emb x) 1).val / 512, by omega⟩ : Fin 4) = q :=
    Fin.ext (by change _ / 512 = q.val; omega)
  rw [ek]
  refine congrArg _ (funext fun a => Fin.ext ?_)
  fin_cases a
  · change (x 0).val = _; exact h0.symm
  · change (x 1).val = _ % 512; omega

/-- The four stores of a point leave its output tile. -/
theorem read_out (arg8 : Memref sig .tc .vmem S256x2048 .bf16) (f : arg8.view.ty.Contents (Elt F))
    (M : IVec S256x1 1) (Q : Vec F S256x6144 .bf16) (W : Vec F S1x6144x2048 .fp8e4m3) (S : Vec F S1x48x2048 .f32) (Y : Vec F S256x2048 .bf16)
    (p0 p1 p2 p3 : Vec F S256x512 .bf16)
    (h0 : p0 = k0_pay12 M Q (deqQuarter W S 0) (quarterOf Y 0)) (h1 : p1 = k0_pay12 M Q (deqQuarter W S 1) (quarterOf Y 1))
    (h2 : p2 = k0_pay12 M Q (deqQuarter W S 2) (quarterOf Y 2)) (h3 : p3 = k0_pay12 M Q (deqQuarter W S 3) (quarterOf Y 3)) :
    arg8.view.read (Elt F) (arg8.view.writes (Elt F) f
      [⟨Rect.unit (s := S256x2048) ![0, 1536] S256x512.size inb_S256x2048_S256x512_0_1536, p3⟩,
       ⟨Rect.unit (s := S256x2048) ![0, 1024] S256x512.size inb_S256x2048_S256x512_0_1024, p2⟩,
       ⟨Rect.unit (s := S256x2048) ![0, 512] S256x512.size inb_S256x2048_S256x512_0_512, p1⟩,
       ⟨Rect.unit (s := S256x2048) ![0, 0] S256x512.size inb_S256x2048_S256x512_0_0, p0⟩]) = outStep M Q W S Y := by
  subst h0 h1 h2 h3
  funext y
  refine View.read_writes_apply_of_pieces arg8.view _ (outStep M Q W S Y) _ (fun p hp x => ?_) y ?_
  · simp only [List.mem_cons, List.not_mem_nil, or_false] at hp
    rcases hp with rfl | rfl | rfl | rfl
    · exact outStep_emb M Q W S Y 3 _ rfl inb_S256x2048_S256x512_0_1536 x
    · exact outStep_emb M Q W S Y 2 _ rfl inb_S256x2048_S256x512_0_1024 x
    · exact outStep_emb M Q W S Y 1 _ rfl inb_S256x2048_S256x512_0_512 x
    · exact outStep_emb M Q W S Y 0 _ rfl inb_S256x2048_S256x512_0_0 x
  · have hy0 : (y 0).val < 256 := (y 0).isLt
    have hy1 : (y 1).val < 2048 := (y 1).isLt
    have key : ∀ (q : ℕ) (hb : ∀ a, (![0, q] : Fin 2 → ℕ) a + S256x512.size a ≤ S256x2048.size a), q ≤ (y 1).val → (y 1).val < q + 512 →
        y ∈ (Rect.unit (s := S256x2048) ![0, q] S256x512.size hb).set := fun q hb h1 h2 => Rect.mem_set_unit.mpr fun a => by
      fin_cases a
      · change 0 ≤ (y 0).val ∧ (y 0).val < 0 + 256; omega
      · change q ≤ (y 1).val ∧ (y 1).val < q + 512; omega
    by_cases c3 : 1536 ≤ (y 1).val
    · exact ⟨_, .head _, key 1536 inb_S256x2048_S256x512_0_1536 c3 (by omega)⟩
    by_cases c2 : 1024 ≤ (y 1).val
    · exact ⟨_, .tail _ (.head _), key 1024 inb_S256x2048_S256x512_0_1024 c2 (by omega)⟩
    by_cases c1 : 512 ≤ (y 1).val
    · exact ⟨_, .tail _ (.tail _ (.head _)), key 512 inb_S256x2048_S256x512_0_512 c1 (by omega)⟩
    · exact ⟨_, .tail _ (.tail _ (.tail _ (.head _))), key 0 inb_S256x2048_S256x512_0_0 (by omega) (by omega)⟩

theorem read_quarter (arg8 : Memref sig .tc .vmem S256x2048 .bf16) (harg8 : arg8.IsWhole) (Y : Vec F S256x2048 .bf16) (q : Fin 4) (o : Fin 2 → ℕ)
    (ho : o = ![0, 512 * q.val]) (h : ∀ a, o a + S256x512.size a ≤ S256x2048.size a) :
    View.readAt (Elt F) arg8.view (Rect.unit (s := S256x2048) o S256x512.size h).toLoadRect (harg8.unread Y) = quarterOf Y q := by
  subst ho
  funext j
  rw [harg8.readAt_unread]
  refine congrArg Y (funext fun a => Fin.ext ?_)
  fin_cases a
  · change 0 + 1 * (j 0).val = (j 0).val; omega
  · change 512 * q.val + 1 * (j 1).val = 512 * q.val + (j 1).val; omega

theorem pay_congr {M M' : IVec S256x1 1} {Q Q' : Vec F S256x6144 .bf16} {D D' : Vec F S6144x512 .bf16} {O O' : Vec F S256x512 .bf16}
    (hM : M = M') (hQ : Q = Q') (hD : D = D') (hO : O = O') : k0_pay12 M Q D O = k0_pay12 M' Q' D' O' := by
  subst hM hQ hD hO; rfl

/-- The rows a point writes, of its three words: tile, first row, end row. -/
abbrev rowMask (w lo hi : BitVec 32) : IVec S256x1 1 := k0_pay8 (F := F) w lo hi

set_option maxHeartbeats 4000000 in
/-- A point whose tile is already quantised in the scratch. -/
theorem runKeep (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole)
    (T1 T2 T3 T4 : Vec F S111 .i32) (X5 : Vec F S256x6144 .bf16) (X6 : Vec F S1x6144x2048 .fp8e4m3) (X7 : Vec F S1x48x2048 .f32) (Y8 : Vec F S256x2048 .bf16) (Q9 : Vec F S256x6144 .bf16)
    (hfresh : ¬ Fresh T1 i) (E : Set ℕ) (K : PUnit → sProp 𝕄) :
    iprop(owns (c : Thread nD τ) arg1 fullShare.right T1 ∗ owns (c : Thread nD τ) arg2 fullShare.right T2 ∗ owns (c : Thread nD τ) arg3 fullShare.right T3 ∗ owns (c : Thread nD τ) arg4 fullShare.right T4 ∗ owns (c : Thread nD τ) arg5 fullShare X5 ∗ owns (c : Thread nD τ) arg6 fullShare X6 ∗ owns (c : Thread nD τ) arg7 fullShare X7 ∗ owns (c : Thread nD τ) arg8 fullShare Y8
        ∗ owns (c : Thread nD τ) arg9 fullShare Q9 ∗ (∃ d, owns (c : Thread nD τ) arg10 fullShare d)
        ∗ (iprop(owns (c : Thread nD τ) arg1 fullShare.right T1 ∗ owns (c : Thread nD τ) arg2 fullShare.right T2 ∗ owns (c : Thread nD τ) arg3 fullShare.right T3 ∗ owns (c : Thread nD τ) arg4 fullShare.right T4 ∗ owns (c : Thread nD τ) arg5 fullShare X5 ∗ owns (c : Thread nD τ) arg6 fullShare X6 ∗ owns (c : Thread nD τ) arg7 fullShare X7 ∗ owns (c : Thread nD τ) arg8 fullShare (outStep (rowMask (F := F) (tab T1 (i 0).val (i 0).isLt) (tab T3 (i 0).val (i 0).isLt) (tab T4 (i 0).val (i 0).isLt)) Q9 X6 X7 Y8)
          ∗ owns (c : Thread nD τ) arg9 fullShare Q9 ∗ (∃ d, owns (c : Thread nD τ) arg10 fullShare d)) -∗ K ⟨⟩))
      ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10) K := by
    have hc := (not_congr (fresh_iff arg1 harg1 T1 i)).mpr hfresh
    simp only [cc0_grouped_fp8_matmul_eq_skeleton]; unfold cc0_grouped_fp8_matmul_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9
    sl_exec
    have hc' : ¬ (runKeep.sl.v10 c i arg1 harg1 T1 = 1#1) := hc
    sl_exec
    sl_step
    iapply Hk
    isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      swap
      · iexact H8
      ipureintro
      have hi : (i 0).val < 111 := (i 0).isLt
      have w1 : runKeep.sl.r c i arg1 harg1 T1 = tab T1 (i 0).val hi := wordOf_eq arg1 harg1 T1 _ (k0_off1_inb i) _ hi (k0_off1_eq i)
      have w3 : runKeep.sl.r_2 c i arg3 harg3 T3 = tab T3 (i 0).val hi := wordOf_eq arg3 harg3 T3 _ (k0_off4_inb i) _ hi (k0_off4_eq i)
      have w4 : runKeep.sl.r_3 c i arg4 harg4 T4 = tab T4 (i 0).val hi := wordOf_eq arg4 harg4 T4 _ (k0_off4_inb i) _ hi (k0_off4_eq i)
      have e9 : View.readAt (Elt F) arg9.view (Rect.unit (s := S256x6144) ![0, 0] S256x6144.size inb_S256x6144_S256x6144_0_0).toLoadRect (harg9.unread Q9) = Q9 := by
        rw [View.readAt_full]; exact harg9.read_unread _
      refine read_out arg8 _ _ _ _ _ _ _ _ _ _ ?_ ?_ ?_ ?_
      · change k0_pay12 (k0_pay8 _ _ _) _ _ _ = _
        rw [w1, w3, w4]
        exact pay_congr rfl e9 (by have h := read_loop3 c i arg1 harg1 arg2 harg2 arg3 harg3 arg4 harg4 arg5 harg5 arg6 harg6 arg7 harg7 arg8 harg8 arg9 harg9 arg10 harg10 X6 X7 f10 []; rw [List.append_nil] at h; exact (View.readAt_full arg10.view _ _).trans h) (read_quarter arg8 harg8 Y8 0 _ rfl _)
      · exact pay_congr (by change k0_pay8 _ _ _ = _; rw [w1, w3, w4]) e9 ((View.readAt_full arg10.view _ _).trans (read_loop4 c i arg1 harg1 arg2 harg2 arg3 harg3 arg4 harg4 arg5 harg5 arg6 harg6 arg7 harg7 arg8 harg8 arg9 harg9 arg10 harg10 _ _ _ X6 X7 f10 _)) (read_quarter arg8 harg8 Y8 1 _ rfl _)
      · exact pay_congr (by change k0_pay8 _ _ _ = _; rw [w1, w3, w4]) e9 ((View.readAt_full arg10.view _ _).trans (read_loop5 c i arg1 harg1 arg2 harg2 arg3 harg3 arg4 harg4 arg5 harg5 arg6 harg6 arg7 harg7 arg8 harg8 arg9 harg9 arg10 harg10 _ _ _ X6 X7 f10 _)) (read_quarter arg8 harg8 Y8 2 _ rfl _)
      · exact pay_congr (by change k0_pay8 _ _ _ = _; rw [w1, w3, w4]) e9 ((View.readAt_full arg10.view _ _).trans (read_loop6 c i arg1 harg1 arg2 harg2 arg3 harg3 arg4 harg4 arg5 harg5 arg6 harg6 arg7 harg7 arg8 harg8 arg9 harg9 arg10 harg10 _ _ _ X6 X7 f10 _)) (read_quarter arg8 harg8 Y8 3 _ rfl _)
    isplitl [H9]
    · iexists _; isplitr
      swap
      · iexact H9
      ipureintro
      exact harg9.read_unread _
    iexists _, _
    isplitr
    swap
    · iexact H10
    ipureintro
    rfl

set_option maxHeartbeats 4000000 in
/-- A point that quantises its tile into the scratch. -/
theorem runFresh (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole)
    (T1 T2 T3 T4 : Vec F S111 .i32) (X5 : Vec F S256x6144 .bf16) (X6 : Vec F S1x6144x2048 .fp8e4m3) (X7 : Vec F S1x48x2048 .f32) (Y8 : Vec F S256x2048 .bf16)
    (hfresh : Fresh T1 i) (E : Set ℕ) (K : PUnit → sProp 𝕄) :
    iprop(owns (c : Thread nD τ) arg1 fullShare.right T1 ∗ owns (c : Thread nD τ) arg2 fullShare.right T2 ∗ owns (c : Thread nD τ) arg3 fullShare.right T3 ∗ owns (c : Thread nD τ) arg4 fullShare.right T4 ∗ owns (c : Thread nD τ) arg5 fullShare X5 ∗ owns (c : Thread nD τ) arg6 fullShare X6 ∗ owns (c : Thread nD τ) arg7 fullShare X7 ∗ owns (c : Thread nD τ) arg8 fullShare Y8
        ∗ (∃ d, owns (c : Thread nD τ) arg9 fullShare d) ∗ (∃ d, owns (c : Thread nD τ) arg10 fullShare d)
        ∗ (iprop(owns (c : Thread nD τ) arg1 fullShare.right T1 ∗ owns (c : Thread nD τ) arg2 fullShare.right T2 ∗ owns (c : Thread nD τ) arg3 fullShare.right T3 ∗ owns (c : Thread nD τ) arg4 fullShare.right T4 ∗ owns (c : Thread nD τ) arg5 fullShare X5 ∗ owns (c : Thread nD τ) arg6 fullShare X6 ∗ owns (c : Thread nD τ) arg7 fullShare X7 ∗ owns (c : Thread nD τ) arg8 fullShare (outStep (rowMask (F := F) (tab T1 (i 0).val (i 0).isLt) (tab T3 (i 0).val (i 0).isLt) (tab T4 (i 0).val (i 0).isLt)) (quantTile X5) X6 X7 Y8)
          ∗ owns (c : Thread nD τ) arg9 fullShare (quantTile X5) ∗ (∃ d, owns (c : Thread nD τ) arg10 fullShare d)) -∗ K ⟨⟩))
      ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10) K := by
    have hc := (fresh_iff arg1 harg1 T1 i).mpr hfresh
    simp only [cc0_grouped_fp8_matmul_eq_skeleton]; unfold cc0_grouped_fp8_matmul_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    have hc' : (runFresh.sl.v10 c i arg1 harg1 T1 = 1#1) := hc
    sl_exec
    sl_step
    iapply Hk
    isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      swap
      · iexact H8
      ipureintro
      have hi : (i 0).val < 111 := (i 0).isLt
      have w1 : runFresh.sl.r c i arg1 harg1 T1 = tab T1 (i 0).val hi := wordOf_eq arg1 harg1 T1 _ (k0_off1_inb i) _ hi (k0_off1_eq i)
      have w3 : runFresh.sl.r_2 c i arg3 harg3 T3 = tab T3 (i 0).val hi := wordOf_eq arg3 harg3 T3 _ (k0_off4_inb i) _ hi (k0_off4_eq i)
      have w4 : runFresh.sl.r_3 c i arg4 harg4 T4 = tab T4 (i 0).val hi := wordOf_eq arg4 harg4 T4 _ (k0_off4_inb i) _ hi (k0_off4_eq i)
      have e9 : View.readAt (Elt F) arg9.view (Rect.unit (s := S256x6144) ![0, 0] S256x6144.size inb_S256x6144_S256x6144_0_0).toLoadRect (arg9.view.writes (Elt F) f9 (pb_k0_t1 (F := F) Variants.none c none i arg1 harg1 arg2 harg2 arg3 harg3 arg4 harg4 arg5 harg5 arg6 harg6 arg7 harg7 arg8 harg8 arg9 harg9 arg10 harg10 (harg5.unread X5) k0_t1_loop.trips)) = (quantTile X5) := by
        rw [View.readAt_full]; have := read_loop1 c i arg1 harg1 arg2 harg2 arg3 harg3 arg4 harg4 arg5 harg5 arg6 harg6 arg7 harg7 arg8 harg8 arg9 harg9 arg10 harg10 X5 f9 []; rw [List.append_nil] at this; exact this
      refine read_out arg8 _ _ _ _ _ _ _ _ _ _ ?_ ?_ ?_ ?_
      · change k0_pay12 (k0_pay8 _ _ _) _ _ _ = _
        rw [w1, w3, w4]
        exact pay_congr rfl e9 (by have h := read_loop3 c i arg1 harg1 arg2 harg2 arg3 harg3 arg4 harg4 arg5 harg5 arg6 harg6 arg7 harg7 arg8 harg8 arg9 harg9 arg10 harg10 X6 X7 f10 []; rw [List.append_nil] at h; exact (View.readAt_full arg10.view _ _).trans h) (read_quarter arg8 harg8 Y8 0 _ rfl _)
      · exact pay_congr (by change k0_pay8 _ _ _ = _; rw [w1, w3, w4]) e9 ((View.readAt_full arg10.view _ _).trans (read_loop4 c i arg1 harg1 arg2 harg2 arg3 harg3 arg4 harg4 arg5 harg5 arg6 harg6 arg7 harg7 arg8 harg8 arg9 harg9 arg10 harg10 _ _ _ X6 X7 f10 _)) (read_quarter arg8 harg8 Y8 1 _ rfl _)
      · exact pay_congr (by change k0_pay8 _ _ _ = _; rw [w1, w3, w4]) e9 ((View.readAt_full arg10.view _ _).trans (read_loop5 c i arg1 harg1 arg2 harg2 arg3 harg3 arg4 harg4 arg5 harg5 arg6 harg6 arg7 harg7 arg8 harg8 arg9 harg9 arg10 harg10 _ _ _ X6 X7 f10 _)) (read_quarter arg8 harg8 Y8 2 _ rfl _)
      · exact pay_congr (by change k0_pay8 _ _ _ = _; rw [w1, w3, w4]) e9 ((View.readAt_full arg10.view _ _).trans (read_loop6 c i arg1 harg1 arg2 harg2 arg3 harg3 arg4 harg4 arg5 harg5 arg6 harg6 arg7 harg7 arg8 harg8 arg9 harg9 arg10 harg10 _ _ _ X6 X7 f10 _)) (read_quarter arg8 harg8 Y8 3 _ rfl _)
    isplitl [H9]
    · iexists _; isplitr
      swap
      · iexact H9
      ipureintro
      have := read_loop1 c i arg1 harg1 arg2 harg2 arg3 harg3 arg4 harg4 arg5 harg5 arg6 harg6 arg7 harg7 arg8 harg8 arg9 harg9 arg10 harg10 X5 f9 []; rw [List.append_nil] at this; exact this
    iexists _, _
    isplitr
    swap
    · iexact H10
    ipureintro
    rfl

end Cert.Kernel.Hand

end
-- ==== Proof.Run.lean ====
/-
  The pipeline's data — the blocks the input windows find, what the body leaves in the output's staging buffer, the tile the
  scratch carries from one point to the next — and the body obligation at every point.
-/
module

public import proofs.«01_k».proof.Proof.Adm
public import proofs.«01_k».proof.Proof.Body
public import Idealize.ShloMosaic.Lib.Pipeline.Frame
public import Idealize.ShloMosaic.Lib.Pipeline.FrameBody

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- The pipeline at the tables' contents. -/
abbrev cfgA : Pipeline.Cfg sig Λ₀ := cfg0 a

/-- The activation block at a point, -/
def xAt (c : Dev nD) (t : Fin (cfgA a).N) : Vec F S256x6144 .bf16 :=
  ((win0 a 0).blk t).view.read (Elt F) (V m c (Proc.devRef .tc main_arg0))
/-- the weight block, -/
def wAt (c : Dev nD) (t : Fin (cfgA a).N) : Vec F S1x6144x2048 .fp8e4m3 :=
  ((win0 a 1).blk t).view.read (Elt F) (V m c (Proc.devRef .tc main_arg2))
/-- and the scale block. -/
def sAt (c : Dev nD) (t : Fin (cfgA a).N) : Vec F S1x48x2048 .f32 :=
  ((win0 a 2).blk t).view.read (Elt F) (V m c (Proc.devRef .tc main_v46))

/-- The rows of the tile a point owns, as the body's mask. -/
def maskAt (t : Fin (cfgA a).N) : IVec S256x1 1 :=
  rowMask (F := F) (tab (F := F) (a.1 0) (grid0.coords t 0).val (grid0.coords t 0).isLt) (tab (F := F) (a.1 2) (grid0.coords t 0).val (grid0.coords t 0).isLt)
    (tab (F := F) (a.1 3) (grid0.coords t 0).val (grid0.coords t 0).isLt)

/-- What the body leaves in the output's staging buffer, of what it found there. -/
def leftAt (c : Dev nD) (t : Fin (cfgA a).N) (Y : Vec F S256x2048 .bf16) : Vec F S256x2048 .bf16 :=
  outStep (maskAt a t) (quantTile (xAt m a c t)) (wAt m a c t) (sAt m a c t) Y

/-- The body's invariant before a point: the tables, the tile in the scratch quantised at the point before, the other scratch
    and the generator register at anything. -/
def invAt (c : Dev nD) (n : ℕ) : sProp 𝕄 :=
  iprop(owns (c : Thread nD τ) (Memref.whole main_v42) fullShare.right (a.1 0) ∗ owns (c : Thread nD τ) (Memref.whole main_v25) fullShare.right (a.1 1)
    ∗ owns (c : Thread nD τ) (Memref.whole main_v53) fullShare.right (a.1 2) ∗ owns (c : Thread nD τ) (Memref.whole main_v60) fullShare.right (a.1 3)
    ∗ (∃ Q : Vec F S256x6144 .bf16, ⌜∀ h : 0 < n, ∀ h' : n - 1 < (cfgA a).N, Q = quantTile (xAt m a c ⟨n - 1, h'⟩)⌝ ∗ owns (c : Thread nD τ) (Memref.whole cc0_scratch0) fullShare Q)
    ∗ (∃ d, owns (c : Thread nD τ) (Memref.whole cc0_scratch1) fullShare d) ∗ ∃ r, prngReg c r)

/-- The pipeline's data on a core. -/
def rdat (c : Dev nD) : RDat τ (Elt F) Unit ℕ (UR sig nD τ) ℕ (cfgA a) c where
  A w := V m c (Proc.devRef .tc (Pipeline.arrRef spec0 w))
  after := fun
    | ⟨0, _⟩ => fun _ Y X => X = Y
    | ⟨1, _⟩ => fun _ Y X => X = Y
    | ⟨2, _⟩ => fun _ Y X => X = Y
    | ⟨3, _⟩ => fun t Y X => X = leftAt m a c t Y
    | ⟨_ + 4, h⟩ => absurd h (Nat.not_lt.2 (Nat.le_add_left _ _))
  Φ n := invAt m a c n.val
  q _ := fullShare
  owed _ := 0

theorem clip_none (w : Fin (cfgA a).W) (i : (cfgA a).grid.Coords) (x) : ((cfgA a).win w).clip i x = none := by
  fin_cases w <;> rfl

theorem fetched0 (c : Dev nD) (t : Fin (cfgA a).N) (d) : (rdat m a c).fetched 0 t d = xAt m a c t := rfl

theorem find0 (c : Dev nD) (t : Fin (cfgA a).N) (Y) (h : (rdat m a c).Finds 0 t Y) : Y = xAt m a c t := by
  obtain ⟨d, hd⟩ := (rdat m a c).finds_in_eq_fetched 0 rfl (fun _ _ _ => rfl) (fun _ _ _ h => h) t Y h
  rw [hd]; rfl
theorem find1 (c : Dev nD) (t : Fin (cfgA a).N) (Y) (h : (rdat m a c).Finds 1 t Y) : Y = wAt m a c t := by
  obtain ⟨d, hd⟩ := (rdat m a c).finds_in_eq_fetched 1 rfl (fun _ _ _ => rfl) (fun _ _ _ h => h) t Y h
  rw [hd]; rfl
theorem find2 (c : Dev nD) (t : Fin (cfgA a).N) (Y) (h : (rdat m a c).Finds 2 t Y) : Y = sAt m a c t := by
  obtain ⟨d, hd⟩ := (rdat m a c).finds_in_eq_fetched 2 rfl (fun _ _ _ => rfl) (fun _ _ _ h => h) t Y h
  rw [hd]; rfl

theorem coords_val : ∀ t : Fin grid0.N, (grid0.coords t 0).val = t.val := by decide +kernel

theorem xAt_congr (c : Dev nD) (t t' : Fin (cfgA a).N) (h : (win0 a 0).index t = (win0 a 0).index t') : xAt m a c t = xAt m a c t' := by
  have e : (rdat m a c).fetched 0 t (xAt m a c t) = (rdat m a c).fetched 0 t' (xAt m a c t) :=
    (rdat m a c).fetched_congr 0 h (funext fun x => by rw [clip_none]) _
  exact (fetched0 m a c t _).symm.trans (e.trans (fetched0 m a c t' _))

/-- The tile word at a point. -/
def tileW (t : Fin (cfgA a).N) : BitVec 32 := a.1 0 (ValueIdx.ix1 (n := 111) (grid0.coords t 0))

theorem index0_eq (t : Fin (cfgA a).N) : (win0 a 0).index t = ![(tileW a t).toNat, 0] := tr0_eq a.1 (grid0.coords t)

/-- A point that does not quantise has the tile of the point before. -/
theorem keep_tile (c : Dev nD) (t : Fin (cfgA a).N) (h : ¬ Fresh (F := F) (a.1 0) (grid0.coords t)) :
    0 < t.val ∧ ∀ h' : t.val - 1 < (cfgA a).N, xAt m a c ⟨t.val - 1, h'⟩ = xAt m a c t := by
  unfold Fresh at h
  rw [not_or, not_not] at h
  obtain ⟨h0, h1⟩ := h
  have hv := coords_val t
  refine ⟨by omega, fun h' => xAt_congr m a c _ _ ?_⟩
  rw [index0_eq, index0_eq]
  have e : tileW a ⟨t.val - 1, h'⟩ = tileW a t := by
    refine Eq.trans (congrArg (a.1 0) (funext fun x => Fin.ext ?_)) h1.symm
    fin_cases x
    have hv' := coords_val ⟨t.val - 1, h'⟩
    show (grid0.coords ⟨t.val - 1, h'⟩ 0).val = (grid0.coords t 0).val - 1
    rw [hv', hv]
  rw [e]

/-- The kernel's body at a point, on the current staging buffers. -/
abbrev bodyAt (t : Fin (cfgA a).N) : Prog (TpuEff nD τ sig (Elt F) Λ₀ .tc) PUnit :=
  cc0_grouped_fp8_matmul (grid0.coords t) (Memref.whole main_v42) (Memref.isWhole_whole _) (Memref.whole main_v25) (Memref.isWhole_whole _) (Memref.whole main_v53) (Memref.isWhole_whole _) (Memref.whole main_v60) (Memref.isWhole_whole _)
    (spec0_0.stage ((cfgA a).slots t 0)) (hstage0_0 (((cfgA a).slots t 0).cast nbuf0_0)) (spec0_1.stage ((cfgA a).slots t 1)) (hstage0_1 (((cfgA a).slots t 1).cast nbuf0_1))
    (spec0_2.stage ((cfgA a).slots t 2)) (hstage0_2 (((cfgA a).slots t 2).cast nbuf0_2)) (spec0_3.stage ((cfgA a).slots t 3)) (hstage0_3 (((cfgA a).slots t 3).cast nbuf0_3))
    (Memref.whole cc0_scratch0) (Memref.isWhole_whole _) (Memref.whole cc0_scratch1) (Memref.isWhole_whole _)

theorem defs₀_row (t : Fin (cfgA a).N) : defs₀ (F := F) .tc (cfgA a).body ((cfgA a).bodyArgs t ((cfgA a).slots t)) = bodyAt a t := by
  unfold defs₀; rw [Defs.onTc_tc]

/-- The body at a point, from the invariant and the staging buffers at their blocks, to the invariant at the next point. -/
theorem sound_body (c : Dev nD) (t : Fin (cfgA a).N) (Y : Vec F S256x2048 .bf16) :
    iprop(invAt m a c t.val ∗ (rdat m a c).owesAt () t.castSucc
      ∗ owns (c : Thread nD τ) (spec0_0.stage ((cfgA a).slots t 0)) fullShare (xAt m a c t) ∗ owns (c : Thread nD τ) (spec0_1.stage ((cfgA a).slots t 1)) fullShare (wAt m a c t)
      ∗ owns (c : Thread nD τ) (spec0_2.stage ((cfgA a).slots t 2)) fullShare (sAt m a c t) ∗ owns (c : Thread nD τ) (spec0_3.stage ((cfgA a).slots t 3)) fullShare Y)
    ⊢ wp frame (wpE (defs₀ (F := F)) Variants.none c none) Set.univ (bodyAt a t) fun _ =>
      iprop(invAt m a c (t.val + 1) ∗ (rdat m a c).owesAt () t.succ
        ∗ owns (c : Thread nD τ) (spec0_0.stage ((cfgA a).slots t 0)) fullShare (xAt m a c t) ∗ owns (c : Thread nD τ) (spec0_1.stage ((cfgA a).slots t 1)) fullShare (wAt m a c t)
        ∗ owns (c : Thread nD τ) (spec0_2.stage ((cfgA a).slots t 2)) fullShare (sAt m a c t) ∗ owns (c : Thread nD τ) (spec0_3.stage ((cfgA a).slots t 3)) fullShare (leftAt m a c t Y)) := by
  rw [show (rdat m a c).owesAt () t.succ = (rdat m a c).owesAt () t.castSucc from rfl]
  have hq : ∀ h' : t.val + 1 - 1 < (cfgA a).N, xAt m a c ⟨t.val + 1 - 1, h'⟩ = xAt m a c t := fun _ => rfl
  unfold invAt
  by_cases hf : Fresh (F := F) (a.1 0) (grid0.coords t)
  · iintro ⟨⟨HT1, HT2, HT3, HT4, ⟨%Q, %hQ, HQ⟩, HD, HG⟩, HO, H0, H1, H2, H3⟩
    iapply (runFresh c (grid0.coords t) _ _ _ _ _ _ _ _ _ _ _ _ _ _ _ _ _ _ _ _ (a.1 0) (a.1 1) (a.1 2) (a.1 3) (xAt m a c t) (wAt m a c t) (sAt m a c t) Y hf Set.univ _)
    isplitl [HT1]; · iexact HT1
    isplitl [HT2]; · iexact HT2
    isplitl [HT3]; · iexact HT3
    isplitl [HT4]; · iexact HT4
    isplitl [H0]; · iexact H0
    isplitl [H1]; · iexact H1
    isplitl [H2]; · iexact H2
    isplitl [H3]; · iexact H3
    isplitl [HQ]; · iexists Q; iexact HQ
    isplitl [HD]; · iexact HD
    iintro ⟨HT1, HT2, HT3, HT4, H0, H1, H2, H3, HQ, HD⟩
    isplitl [HT1 HT2 HT3 HT4 HQ HD HG]
    · isplitl [HT1]; · iexact HT1
      isplitl [HT2]; · iexact HT2
      isplitl [HT3]; · iexact HT3
      isplitl [HT4]; · iexact HT4
      isplitl [HQ]
      · iexists (quantTile (xAt m a c t)); isplitr
        · ipureintro; intro _ h'; rw [hq h']
        iexact HQ
      isplitl [HD]; · iexact HD
      iexact HG
    isplitl [HO]; · iexact HO
    isplitl [H0]; · iexact H0
    isplitl [H1]; · iexact H1
    isplitl [H2]; · iexact H2
    iexact H3
  · obtain ⟨ht, hk⟩ := keep_tile m a c t hf
    iintro ⟨⟨HT1, HT2, HT3, HT4, ⟨%Q, %hQ, HQ⟩, HD, HG⟩, HO, H0, H1, H2, H3⟩
    have hlt : t.val - 1 < (cfgA a).N := Nat.lt_of_le_of_lt (Nat.sub_le _ _) t.isLt
    have eQ : Q = quantTile (xAt m a c t) := (hQ ht hlt).trans (congrArg quantTile (hk hlt))
    subst eQ
    iapply (runKeep c (grid0.coords t) _ _ _ _ _ _ _ _ _ _ _ _ _ _ _ _ _ _ _ _ (a.1 0) (a.1 1) (a.1 2) (a.1 3) (xAt m a c t) (wAt m a c t) (sAt m a c t) Y (quantTile (xAt m a c t)) hf Set.univ _)
    isplitl [HT1]; · iexact HT1
    isplitl [HT2]; · iexact HT2
    isplitl [HT3]; · iexact HT3
    isplitl [HT4]; · iexact HT4
    isplitl [H0]; · iexact H0
    isplitl [H1]; · iexact H1
    isplitl [H2]; · iexact H2
    isplitl [H3]; · iexact H3
    isplitl [HQ]; · iexact HQ
    isplitl [HD]; · iexact HD
    iintro ⟨HT1, HT2, HT3, HT4, H0, H1, H2, H3, HQ, HD⟩
    isplitl [HT1 HT2 HT3 HT4 HQ HD HG]
    · isplitl [HT1]; · iexact HT1
      isplitl [HT2]; · iexact HT2
      isplitl [HT3]; · iexact HT3
      isplitl [HT4]; · iexact HT4
      isplitl [HQ]
      · iexists (quantTile (xAt m a c t)); isplitr
        · ipureintro; intro _ h'; rw [hq h']
        iexact HQ
      isplitl [HD]; · iexact HD
      iexact HG
    isplitl [HO]; · iexact HO
    isplitl [H0]; · iexact H0
    isplitl [H1]; · iexact H1
    isplitl [H2]; · iexact H2
    iexact H3

/-- The body obligation, at every point. -/
theorem body_obligation (c : Dev nD) : (rdat m a c).BodyObligation (defs₀ (F := F)) Variants.none () Set.univ := by
  intro t Y hY
  rw [bigSep_W0, bigSep_W0, defs₀_row]
  have e0 := find0 m a c t (Y 0) (hY 0)
  have e1 := find1 m a c t (Y 1) (hY 1)
  have e2 := find2 m a c t (Y 2) (hY 2)
  rw [e0, e1, e2]
  refine triple_restated (sound_body m a c t (Y 3)) rfl .rfl fun _ => ?_
  have eΦ : (rdat m a c).Φ t.succ = invAt m a c (t.val + 1) := rfl
  rw [eΦ]
  iintro ⟨HI, HO, H0, H1, H2, H3⟩
  isplitl [HI]; · iexact HI
  isplitl [HO]; · iexact HO
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  iexists _; isplitr
  swap
  · iexact H3
  ipureintro; rfl

/-! ## The launch -/

theorem tables_eq (c : Dev nD) :
    (Pipeline.ΦT (U := UR sig nD τ) pre0 a.1 c : sProp 𝕄)
      = iprop(owns (c : Thread nD τ) (Memref.whole main_v42) fullShare.right (a.1 0) ∗ owns (c : Thread nD τ) (Memref.whole main_v25) fullShare.right (a.1 1)
        ∗ owns (c : Thread nD τ) (Memref.whole main_v53) fullShare.right (a.1 2) ∗ owns (c : Thread nD τ) (Memref.whole main_v60) fullShare.right (a.1 3)) := by
  unfold Pipeline.ΦT Pipeline.prefHeld
  rw [bigSep_W0]
  have own (b : Ref sig .tc) (T : b.ty.Contents (Elt F)) :
      (((c.tc : Thread nD τ).loc b) ↦{fullShare.right} T : sProp 𝕄) = owns (c.tc : Thread nD τ) (Memref.whole b) fullShare.right T := (owns_whole _ _ _ _).symm
  exact congrArg₂ _ (own main_v42 (a.1 0)) (congrArg₂ _ (own main_v25 (a.1 1)) (congrArg₂ _ (own main_v53 (a.1 2)) (own main_v60 (a.1 3))))

theorem inv_in (c : Dev nD) : iprop(Pipeline.ΦA (U := UR sig nD τ) spec0 c ∗ Pipeline.ΦT (U := UR sig nD τ) pre0 a.1 c) ⊢ (rdat m a c).Φ 0 := by
  rw [tables_eq]
  unfold Pipeline.ΦA
  rw [scopedRest0_eq]
  show _ ⊢ invAt m a c 0
  unfold invAt
  iintro ⟨⟨⟨⟨%f0, H0⟩, ⟨%f1, H1⟩⟩, HG⟩, HT1, HT2, HT3, HT4⟩
  isplitl [HT1]; · iexact HT1
  isplitl [HT2]; · iexact HT2
  isplitl [HT3]; · iexact HT3
  isplitl [HT4]; · iexact HT4
  isplitl [H0]
  · iexists f0; isplitr
    · ipureintro; intro h; exact absurd h (Nat.lt_irrefl 0)
    rw [owns_whole]; iexact H0
  isplitl [H1]
  · iexists f1; rw [owns_whole]; iexact H1
  iexact HG

theorem inv_out (c : Dev nD) : (rdat m a c).Φ (Fin.last (cfgA a).N) ⊢ Pipeline.ΦA (U := UR sig nD τ) spec0 c := by
  show invAt m a c (cfgA a).N ⊢ _
  unfold Pipeline.ΦA invAt
  rw [scopedRest0_eq]
  simp only [owns_whole]
  iintro ⟨-, -, -, -, ⟨%f0, -, H0⟩, ⟨%f1, H1⟩, HG⟩
  isplitl [H0 H1]
  · isplitl [H0]
    · iexists f0; iexact H0
    iexists f1; iexact H1
  iexact HG

/-- @main up to the region: the host operations' stretches, then the region. -/
theorem hmain : Pipeline.HMainP (Ix := Unit) (Name := ℕ) (U := UR sig nD τ) (Lvl := ℕ) pcfgs 0 (defs₀ (F := F)) Variants.none m (main (F := F)) (fun c b => V m c (Proc.devRef .tc b)) :=
  Pipeline.hmainP_prefixes pcfgs 0 defs₀ Variants.none m main hostStretches
    ⟨hostOps0_sub, hostOps0_1_sub, hostOps0_2_sub, hostOps0_3_sub, hostOps0_4_sub, hostOps0_5_sub, hostOps0_6_sub, hostOps0_7_sub, hostOps0_8_sub⟩
    (by
      unfold hostStretches
      simp only [List.forall_cons, List.Forall]
      repeat' constructor)
    (fun c => main_chain c)

end Cert.Kernel.Hand

end
-- ==== Proof.Launch.lean ====
/-
  The run: from any memory whose group sizes the precondition admits, the program ends with every semaphore at zero, its
  arguments unchanged, and the output array as the pipeline's data says.
-/
module

public import proofs.«01_k».proof.Proof.Run

@[expose] public section

set_option maxRecDepth 16384

noncomputable section

namespace Cert.Kernel.Hand

open Cert.Kernel.Gen Cert.Schedule
open Idealize.ShloMosaic Idealize.ShloMosaic.TcCoe
open Idealize.SL Idealize.SL.RA Idealize.SL.BI Idealize.SL.Sem
open Idealize.ShloMosaic.Pipeline (RDat Cfg Window)

variable {F : FTy → Type} [FloatOps F]
variable (m : (ℓ : Loc nD τ sig) → Buf (Elt F) ℓ) (ρ : Dev nD → PrngReg) {g : ℕ → ℕ}

/-- The buffers' contents at the region's entry. -/
abbrev entry (c : Dev nD) (b : Ref sig .tc) : Buf (Elt F) ((c.tc : Thread nD τ).loc b) := V m c (Proc.devRef .tc b)

theorem tables_at (h : Sizes (gsOf m 0) g) (c : Dev nD) (k : Fin pre0.K) : entry m c (pre0.ref k) = (admOf (F := F) h).1 k := by
  obtain rfl : c = 0 := Subsingleton.elim _ _
  revert k
  intro k
  match k with
  | ⟨0, _⟩ => exact V_tile m 0
  | ⟨1, _⟩ => exact V_group m 0
  | ⟨2, _⟩ => exact V_lo m 0
  | ⟨3, _⟩ => exact V_hi m 0
  | ⟨_ + 4, h⟩ => exact absurd h (Nat.not_lt.2 (Nat.le_add_left _ _))

set_option backward.isDefEq.respectTransparency.types false in
/-- The run, to the pipeline's post. -/
theorem run_main (h : Sizes (gsOf m 0) g) :
    θ_run defs (onTc (τ := τ) (main (F := F))) (s₀ m ρ)
      (fun r => RDat.FramePost (cfgA (admOf h)) (fun c => rdat m (admOf h) c) (entry m) r ∧ r.2.sem = fun _ => 0) :=
  RDat.θ_run_frameP_track (Q' := _) pcfgs (fun _ => admOf h) 0 launch0 defs₀ Variants.none (fun c => rdat m (admOf h) c) m ρ main
    (hbody := fun c => body_obligation m (admOf h) c) (hshare := fun c w => by unfold RDat.share; exact ite_self _)
    (howed := fun _ _ => rfl) (V := entry m) (hmain := hmain m) (hA := fun _ _ => rfl) (hpf := tables_at m h)
    (hin := fun c => inv_in m (admOf h) c) (hout := fun c => inv_out m (admOf h) c)

variable {m}

theorem kept0 {a : (pcfg0 (F := F)).Adm} {r : PUnit × MemSt nD τ sig (Elt F)} (h : RDat.FramePost (cfgA a) (fun c => rdat m a c) (entry m) r) (c : Dev nD) :
    r.2.mem ((c : Thread nD τ).loc main_arg0) = m ((c : Thread nD τ).loc main_arg0) :=
  (RDat.FramePost.arr_in h c 0 rfl).trans (V_arg0 m c)
theorem kept2 {a : (pcfg0 (F := F)).Adm} {r : PUnit × MemSt nD τ sig (Elt F)} (h : RDat.FramePost (cfgA a) (fun c => rdat m a c) (entry m) r) (c : Dev nD) :
    r.2.mem ((c : Thread nD τ).loc main_arg2) = m ((c : Thread nD τ).loc main_arg2) :=
  (RDat.FramePost.arr_in h c 1 rfl).trans (V_arg2 m c)
theorem kept1 {a : (pcfg0 (F := F)).Adm} {r : PUnit × MemSt nD τ sig (Elt F)} (h : RDat.FramePost (cfgA a) (fun c => rdat m a c) (entry m) r) (c : Dev nD) :
    r.2.mem ((c : Thread nD τ).loc main_arg1) = m ((c : Thread nD τ).loc main_arg1) :=
  ((h c).2 main_arg1 (Pipeline.mem_restRefs_of main_arg1 (by decide) fun w => (by decide : ∀ w : Fin 4, (spec0 w).arr.view.ref ≠ main_arg1) w)).trans (V_arg1 m c)
theorem kept3 {a : (pcfg0 (F := F)).Adm} {r : PUnit × MemSt nD τ sig (Elt F)} (h : RDat.FramePost (cfgA a) (fun c => rdat m a c) (entry m) r) (c : Dev nD) :
    r.2.mem ((c : Thread nD τ).loc main_arg3) = m ((c : Thread nD τ).loc main_arg3) :=
  ((h c).2 main_arg3 (Pipeline.mem_restRefs_of main_arg3 (by decide) fun w => (by decide : ∀ w : Fin 4, (spec0 w).arr.view.ref ≠ main_arg3) w)).trans (V_arg3 m c)

/-- The frame: the arguments end as they were, every semaphore at zero. -/
theorem frame (m : (ℓ : Loc nD τ sig) → Buf (Elt F) ℓ) (ρ : Dev nD → PrngReg) (h : Sizes (gsOf m 0) g) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r hr => ⟨fun c => ⟨kept0 hr.1 c, kept1 hr.1 c, kept2 hr.1 c, kept3 hr.1 c⟩, hr.2⟩) (run_main m ρ h)

end Cert.Kernel.Hand

end
-- ==== Proof.Ideal.Quantise.lean ====
/-
  The quantising loop of the body (`k0_t1_loop`): one trip reads one block of 128 columns of the activation tile, finds
  that block's scales row by row, and stores the block's quantised and dequantised values into the scratch. Stated as the
  generated loops of the kernel are: a trip's pieces, the pieces of the trips before `k`, and the invariant over them.
-/
module

public import proofs.«01_k».proof.Proof.Gen.KernelIdeal.Loops

@[expose] public section

set_option maxRecDepth 8192

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances. -/
local notation "𝕄G" => MT nD τ sig Unit (Elt F) ℕ (UR sig nD τ) ℕ

/-! ### `k0_t1_loop`: the invariant -/

/-- One trip's resources: what the region reads (arg5) at its contents, what it writes (arg9)
   at any. -/
abbrev Trip_k0_t1 (c : Dev nD) (arg5 : Memref sig .tc .vmem S256x6144 .bf16) (arg9 : Memref sig .tc .vmem S256x6144 .bf16) (X_arg5 : BufTy.Contents (Elt F) arg5.view.ty) (f_arg9 : BufTy.Contents (Elt F) arg9.view.ty) : sProp 𝕄G :=
  iprop((arg5.view.loc (c : Thread nD τ) ↦[arg5.view.set]{fullShare} X_arg5) ∗ (arg9.view.loc (c : Thread nD τ) ↦[arg9.view.set]{fullShare} f_arg9))

/-- ONE TRIP of `k0_t1_loop` at a symbolic `k`, run by `sl_exec` (its rectangles' offsets closed
   forms of `k`, their geometry linear arithmetic): the pieces it writes into arg9 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (k : Fin k0_t1_loop.trips) :
    { L_arg9 : List (View.Piece (Elt F) S256x6144 .bf16) // ∀ (E : Set ℕ) (f_arg9 : BufTy.Contents (Elt F) arg9.view.ty),
      Trip_k0_t1 (F := F) c arg5 arg9 X_arg5 f_arg9
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k PUnit.unit)
          (fun _ => Trip_k0_t1 (F := F) c arg5 arg9 X_arg5 (arg9.view.writes (Elt F) f_arg9 L_arg9)) } := by
  have hk : k.val < 48 := Nat.lt_of_lt_of_le k.isLt k0_t1_abs.2.1
  refine ⟨?_, fun E f_arg9 => ?run⟩
  case run =>
    unfold k0_t1_body
    iintro ⟨HR_arg5, HW_arg9⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (k : Fin k0_t1_loop.trips) : List (View.Piece (Elt F) S256x6144 .bf16) :=
  (trip_k0_t1 (F := F) 𝒱 c bd i arg1 harg1 arg2 harg2 arg3 harg3 arg4 harg4 arg5 harg5 arg6 harg6 arg7 harg7 arg8 harg8 arg9 harg9 arg10 harg10 X_arg5 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (k : ℕ) (prev : List (View.Piece (Elt F) S256x6144 .bf16)) : List (View.Piece (Elt F) S256x6144 .bf16) :=
  if h : k < k0_t1_loop.trips then
    (tripL_k0_t1 (F := F) 𝒱 c bd i arg1 harg1 arg2 harg2 arg3 harg3 arg4 harg4 arg5 harg5 arg6 harg6 arg7 harg7 arg8 harg8 arg9 harg9 arg10 harg10 X_arg5 ⟨k, h⟩) ++ prev
  else prev

/-- The pieces of the trips before `k` (last first), per written memref. -/
def pb_k0_t1 (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) : ℕ → List (View.Piece (Elt F) S256x6144 .bf16)
  | 0 => []
  | k + 1 => pb_k0_t1Step 𝒱 c bd i arg1 harg1 arg2 harg2 arg3 harg3 arg4 harg4 arg5 harg5 arg6 harg6 arg7 harg7 arg8 harg8 arg9 harg9 arg10 harg10 X_arg5 k (pb_k0_t1 𝒱 c bd i arg1 harg1 arg2 harg2 arg3 harg3 arg4 harg4 arg5 harg5 arg6 harg6 arg7 harg7 arg8 harg8 arg9 harg9 arg10 harg10 X_arg5 k)

theorem pb_k0_t1_succ (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 X_arg5 (k.val + 1)
      = (tripL_k0_t1 (F := F) 𝒱 c bd i arg1 harg1 arg2 harg2 arg3 harg3 arg4 harg4 arg5 harg5 arg6 harg6 arg7 harg7 arg8 harg8 arg9 harg9 arg10 harg10 X_arg5 k) ++ (pb_k0_t1 (F := F) 𝒱 c bd i arg1 harg1 arg2 harg2 arg3 harg3 arg4 harg4 arg5 harg5 arg6 harg6 arg7 harg7 arg8 harg8 arg9 harg9 arg10 harg10 X_arg5 k.val) := by
  rw [pb_k0_t1.eq_2]; unfold pb_k0_t1Step; exact dif_pos k.isLt

/-- THE INVARIANT before trip `k`: arg5 read at `X_·`; arg9 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (G_arg9 : BufTy.Contents (Elt F) arg9.view.ty) (k : ℕ) (_u : PUnit) : sProp 𝕄G :=
  iprop((arg5.view.loc (c : Thread nD τ) ↦[arg5.view.set]{fullShare} X_arg5) ∗ (∃ f, (arg9.view.loc (c : Thread nD τ) ↦[arg9.view.set]{fullShare} f) ∗ ⌜f = arg9.view.writes (Elt F) G_arg9 (pb_k0_t1 (F := F) 𝒱 c bd i arg1 harg1 arg2 harg2 arg3 harg3 arg4 harg4 arg5 harg5 arg6 harg6 arg7 harg7 arg8 harg8 arg9 harg9 arg10 harg10 X_arg5 k)⌝))

set_option warn.classDefReducibility false in
/-- THE LOOP BY ITS INVARIANT — (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X_arg5 : BufTy.Contents (Elt F) arg5.view.ty) (G_arg9 : BufTy.Contents (Elt F) arg9.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 where
  inv := inv_k0_t1 (F := F) 𝒱 c bd i arg1 harg1 arg2 harg2 arg3 harg3 arg4 harg4 arg5 harg5 arg6 harg6 arg7 harg7 arg8 harg8 arg9 harg9 arg10 harg10 X_arg5 G_arg9
  step k acc := by
    iintro ⟨HR_arg5, ⟨%f_arg9, HW_arg9, %h_arg9⟩⟩
    iapply (wp_wand_r Idealize.ShloMosaic.frame (wpE (defs₀ (F := F)) 𝒱 (c : Thread nD τ) bd) E)
    isplitl [HR_arg5 HW_arg9]
    · iapply ((trip_k0_t1 (F := F) 𝒱 c bd i arg1 harg1 arg2 harg2 arg3 harg3 arg4 harg4 arg5 harg5 arg6 harg6 arg7 harg7 arg8 harg8 arg9 harg9 arg10 harg10 X_arg5 k).2 E f_arg9)
      isplitl [HR_arg5]; · iexact HR_arg5
      iexact HW_arg9
    · iintro %_ ⟨HR_arg5, HW_arg9⟩
      isplitl [HR_arg5]; · iexact HR_arg5
      rw [pb_k0_t1_succ]
      iexists _; isplitl [HW_arg9]; · iexact HW_arg9
      ipureintro; rw [h_arg9, ← View.writes_append]

end Cert.KernelIdeal.Hand

end
-- ==== Proof.Ideal.Vals.lean ====
/-
  What the body's counted loops leave, as functions of the buffers they read: the quantised activation tile, and the
  dequantised weight column blocks.
-/
module

public import proofs.«01_k».proof.Proof.Ideal.Quantise
public import Idealize.ShloMosaic.Lib.Pipeline.FrameBody
public import Idealize.ShloMosaic.Lib.Pointwise.Index
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces a counted loop has listed after its last trip are the pieces of its trips. -/
theorem mem_loop {α : Type} {N : ℕ} (T : Fin N → List α) (P : ℕ → List α) (h0 : P 0 = [])
    (hs : ∀ k : Fin N, P (k.val + 1) = T k ++ P k.val) (x : α) : x ∈ P N ↔ ∃ k, x ∈ T k := by
  have key : ∀ n, n ≤ N → (x ∈ P n ↔ ∃ k : Fin N, k.val < n ∧ x ∈ T k) := by
    intro n
    induction n with
    | zero => intro _; simp [h0]
    | succ n ih =>
      intro hn
      rw [hs ⟨n, hn⟩, List.mem_append, ih (by omega)]
      constructor
      · rintro (h | ⟨k, hk, h⟩)
        · exact ⟨⟨n, hn⟩, by simp, h⟩
        · exact ⟨k, by omega, h⟩
      · rintro ⟨k, hk, h⟩
        rcases Nat.lt_succ_iff_lt_or_eq.mp hk with hk | hk
        · exact Or.inr ⟨k, hk, h⟩
        · left; have : k = ⟨n, hn⟩ := Fin.ext hk
          rwa [this] at h
  rw [key N le_rfl]
  exact ⟨fun ⟨k, _, h⟩ => ⟨k, h⟩, fun ⟨k, h⟩ => ⟨k, k.isLt, h⟩⟩

/-- What a loop's writes leave where its trips' one piece each cover the shape and agree with one function. -/
theorem read_loop {κ : Kind} {sp : Space} {s : Shape} {e : EltTy} (v : View sig κ sp s e) (f : v.ty.Contents (Elt F)) {N : ℕ}
    (T : Fin N → List (View.Piece (Elt F) s e)) (P : ℕ → List (View.Piece (Elt F) s e)) (h0 : P 0 = [])
    (hs : ∀ k : Fin N, P (k.val + 1) = T k ++ P k.val) (R : Fin N → Rect s) (w : (k : Fin N) → (R k).shape.Idx → Elt F e)
    (hT : ∀ k, T k = [⟨R k, w k⟩]) (G : s.Idx → Elt F e) (hG : ∀ k x, w k x = G ((R k).emb x)) (hc : ∀ y, ∃ k, y ∈ (R k).set)
    (L : List (View.Piece (Elt F) s e)) :
    v.read (Elt F) (v.writes (Elt F) f (P N ++ L)) = G := by
  funext y
  rw [View.writes_append]
  refine View.read_writes_apply_of_pieces v _ G (P N) (fun p hp x => ?_) y ?_
  · obtain ⟨k, hk⟩ := (mem_loop T P h0 hs p).mp hp
    rw [hT k, List.mem_singleton] at hk
    subst hk; exact hG k x
  · obtain ⟨k, hk⟩ := hc y
    exact ⟨⟨R k, w k⟩, (mem_loop T P h0 hs _).mpr ⟨k, by rw [hT k]; exact List.mem_singleton_self _⟩, hk⟩

/-- One 128-column block of an activation tile. -/
def colBlock (X : Vec F S256x6144 .bf16) (k : Fin 48) : Vec F S256x128 .bf16 :=
  fun j => X (ix2 (n0 := 256) (n1 := 6144) (j 0) ⟨128 * k.val + (j 1).val, by have h := (j 1).isLt; have := k.isLt; change (j 1).val < 128 at h; omega⟩)

/-- The scale and its reciprocal of every entry of a block, by repeated doubling. -/
def scales (v : Vec F S256x128 .bf16) : FVec F S256x128 .bf16 × FVec F S256x128 .bf16 :=
  Scf.fold (fun (_ : Fin k0_t2_loop.trips) a => (k0_pay5 v a.1, k0_pay6 v a.1 a.2)) (k0_pay2, k0_pay3)

/-- A block quantised and dequantised. -/
def quantBlock (v : Vec F S256x128 .bf16) : FVec F S256x128 .bf16 := k0_pay7 v (scales v).1 (scales v).2

/-- A whole activation tile quantised and dequantised. -/
def quantTile (X : Vec F S256x6144 .bf16) : Vec F S256x6144 .bf16 := fun y =>
  quantBlock (colBlock X ⟨(y 1).val / 128, by have h := (y 1).isLt; change (y 1).val < 6144 at h; omega⟩)
    (ix2 (n0 := 256) (n1 := 128) (y 0) ⟨(y 1).val % 128, Nat.mod_lt _ (by decide)⟩)

/-- One block of a quarter of the weights: 128 rows, 512 columns. -/
def wBlock (W : Vec F S1x6144x2048 .fp8e4m3) (q : Fin 4) (k : Fin 48) : Vec F S1x128x512 .fp8e4m3 :=
  fun j => W (ix3 (n0 := 1) (n1 := 6144) (n2 := 2048) 0 ⟨128 * k.val + (j 1).val, by have h := (j 1).isLt; have := k.isLt; change (j 1).val < 128 at h; omega⟩
    ⟨512 * q.val + (j 2).val, by have h := (j 2).isLt; have := q.isLt; change (j 2).val < 512 at h; omega⟩)

/-- The row of scales over such a block. -/
def sBlock (S : Vec F S1x48x2048 .f32) (q : Fin 4) (k : Fin 48) : Vec F S1x1x512 .f32 :=
  fun j => S (ix3 (n0 := 1) (n1 := 48) (n2 := 2048) 0 k
    ⟨512 * q.val + (j 2).val, by have h := (j 2).isLt; have := q.isLt; change (j 2).val < 512 at h; omega⟩)

/-- A quarter of the weights dequantised. -/
def deqQuarter (W : Vec F S1x6144x2048 .fp8e4m3) (S : Vec F S1x48x2048 .f32) (q : Fin 4) : Vec F S6144x512 .bf16 := fun y =>
  k0_pay9 (wBlock W q ⟨(y 0).val / 128, by have h := (y 0).isLt; change (y 0).val < 6144 at h; omega⟩)
    (sBlock S q ⟨(y 0).val / 128, by have h := (y 0).isLt; change (y 0).val < 6144 at h; omega⟩)
    (ix2 (n0 := 128) (n1 := 512) ⟨(y 0).val % 128, Nat.mod_lt _ (by decide)⟩ (y 1))

/-! ### The activation tile's loop -/

theorem trip1_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X5 : Vec F S256x6144 .bf16) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 (harg5.unread X5) k
      = [⟨Rect.unit (s := S256x6144) (k0_off3 k) S256x128.size (k0_off3_inb k), quantBlock (colBlock X5 (k.castLE k0_t1_abs.2.1))⟩] := by
  have e : View.readAt (Elt F) arg5.view (Rect.unit (s := S256x6144) (k0_off3 k) S256x128.size (k0_off3_inb k)).toLoadRect (harg5.unread X5)
      = colBlock X5 (k.castLE k0_t1_abs.2.1) := by
    funext j
    rw [harg5.readAt_unread]
    refine congrArg X5 (funext fun a => Fin.ext ?_)
    have ho := congrFun (k0_off3_eq k) a
    fin_cases a
    · change k0_off3 k 0 + 1 * (j 0).val = (j 0).val
      change k0_off3 k 0 = 0 at ho; omega
    · change k0_off3 k 1 + 1 * (j 1).val = 128 * k.val + (j 1).val
      change k0_off3 k 1 = 128 * k.val at ho; omega
  rw [← e]
  unfold tripL_k0_t1 trip_k0_t1
  rfl

/-- After the loop the scratch holds the tile quantised, whatever it held before. -/
theorem read_loop1 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X5 : Vec F S256x6144 .bf16) (f : arg9.view.ty.Contents (Elt F))
    (L : List (View.Piece (Elt F) S256x6144 .bf16)) :
    arg9.view.read (Elt F) (arg9.view.writes (Elt F) f (pb_k0_t1 (F := F) Variants.none c none i arg1 harg1 arg2 harg2 arg3 harg3 arg4 harg4 arg5 harg5 arg6 harg6 arg7 harg7 arg8 harg8 arg9 harg9 arg10 harg10 (harg5.unread X5) k0_t1_loop.trips ++ L))
      = quantTile X5 := by
  refine read_loop arg9.view f (fun k => tripL_k0_t1 (F := F) Variants.none c none i arg1 harg1 arg2 harg2 arg3 harg3 arg4 harg4 arg5 harg5 arg6 harg6 arg7 harg7 arg8 harg8 arg9 harg9 arg10 harg10 (harg5.unread X5) k) _ rfl
    (fun k => pb_k0_t1_succ (F := F) Variants.none c none i arg1 harg1 arg2 harg2 arg3 harg3 arg4 harg4 arg5 harg5 arg6 harg6 arg7 harg7 arg8 harg8 arg9 harg9 arg10 harg10 (harg5.unread X5) k) _ _ (fun k => trip1_eq c i arg1 harg1 arg2 harg2 arg3 harg3 arg4 harg4 arg5 harg5 arg6 harg6 arg7 harg7 arg8 harg8 arg9 harg9 arg10 harg10 X5 k) _ (fun k x => ?_) (fun y => ?_) L
  · have ho := k0_off3_eq k
    have h0 : (((Rect.unit (s := S256x6144) (k0_off3 k) S256x128.size (k0_off3_inb k)).emb x) 0).val = (x 0).val := by
      have := congrFun ho 0; change k0_off3 k 0 = 0 at this
      change k0_off3 k 0 + 1 * (x 0).val = _; omega
    have h1 : (((Rect.unit (s := S256x6144) (k0_off3 k) S256x128.size (k0_off3_inb k)).emb x) 1).val = 128 * k.val + (x 1).val := by
      have := congrFun ho 1; change k0_off3 k 1 = 128 * k.val at this
      change k0_off3 k 1 + 1 * (x 1).val = _; omega
    have hx : (x 1).val < 128 := (x 1).isLt
    have hk : k.val < 48 := Nat.lt_of_lt_of_le k.isLt k0_t1_abs.2.1
    unfold quantTile
    have ek : (⟨(((Rect.unit (s := S256x6144) (k0_off3 k) S256x128.size (k0_off3_inb k)).emb x) 1).val / 128, by omega⟩ : Fin 48) = k.castLE k0_t1_abs.2.1 :=
      Fin.ext (by change _ / 128 = k.val; omega)
    rw [ek]
    refine congrArg _ (funext fun a => Fin.ext ?_)
    fin_cases a
    · change (x 0).val = _; exact h0.symm
    · change (x 1).val = _ % 128; omega
  · have hy0 : (y 0).val < 256 := (y 0).isLt
    have hy1 : (y 1).val < 6144 := (y 1).isLt
    obtain ⟨k, hk⟩ : ∃ k : Fin k0_t1_loop.trips, k.val = (y 1).val / 128 :=
      ⟨⟨(y 1).val / 128, by rw [show k0_t1_loop.trips = 48 by decide +kernel]; omega⟩, rfl⟩
    refine ⟨k, Rect.mem_set_unit.mpr fun a => ?_⟩
    have ho := congrFun (k0_off3_eq k) a
    fin_cases a
    · change k0_off3 k 0 = 0 at ho
      change k0_off3 k 0 ≤ (y 0).val ∧ (y 0).val < k0_off3 k 0 + 256; omega
    · change k0_off3 k 1 = 128 * k.val at ho
      change k0_off3 k 1 ≤ (y 1).val ∧ (y 1).val < k0_off3 k 1 + 128; omega

/-! ### Quarter 0 of the weights -/

theorem trip3_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X6 : Vec F S1x6144x2048 .fp8e4m3) (X7 : Vec F S1x48x2048 .f32) (k : Fin k0_t3_loop.trips) :
    tripL_k0_t3 (F := F) Variants.none c none i arg1 harg1 arg2 harg2 arg3 harg3 arg4 harg4 arg5 harg5 arg6 harg6 arg7 harg7 arg8 harg8 arg9 harg9 arg10 harg10 (harg6.unread X6) (harg7.unread X7) k
      = [⟨Rect.unit (s := S6144x512) (k0_off7 k) S128x512.size (k0_off7_inb k), k0_pay9 (wBlock X6 0 (k.castLE k0_t3_abs.2.1)) (sBlock X7 0 (k.castLE k0_t3_abs.2.1))⟩] := by
  have e6 : View.readAt (Elt F) arg6.view (Rect.unit (s := S1x6144x2048) (k0_off5 k) S1x128x512.size (k0_off5_inb k)).toLoadRect (harg6.unread X6)
      = wBlock X6 0 (k.castLE k0_t3_abs.2.1) := by
    funext j
    rw [harg6.readAt_unread]
    refine congrArg X6 (funext fun a => Fin.ext ?_)
    have ho := congrFun (k0_off5_eq k) a
    fin_cases a
    · have hj : (j 0).val < 1 := (j 0).isLt
      change k0_off5 k 0 + 1 * (j 0).val = 0
      change k0_off5 k 0 = 0 at ho; omega
    · change k0_off5 k 1 + 1 * (j 1).val = 128 * k.val + (j 1).val
      change k0_off5 k 1 = 128 * k.val at ho; omega
    · change k0_off5 k 2 + 1 * (j 2).val = 512 * 0 + (j 2).val
      change k0_off5 k 2 = 0 at ho; omega
  have e7 : View.readAt (Elt F) arg7.view (Rect.unit (s := S1x48x2048) (k0_off6 k) S1x1x512.size (k0_off6_inb k)).toLoadRect (harg7.unread X7)
      = sBlock X7 0 (k.castLE k0_t3_abs.2.1) := by
    funext j
    rw [harg7.readAt_unread]
    refine congrArg X7 (funext fun a => Fin.ext ?_)
    have ho := congrFun (k0_off6_eq k) a
    fin_cases a
    · have hj : (j 0).val < 1 := (j 0).isLt
      change k0_off6 k 0 + 1 * (j 0).val = 0
      change k0_off6 k 0 = 0 at ho; omega
    · have hj : (j 1).val < 1 := (j 1).isLt
      change k0_off6 k 1 + 1 * (j 1).val = k.val
      change k0_off6 k 1 = k.val at ho; omega
    · change k0_off6 k 2 + 1 * (j 2).val = 512 * 0 + (j 2).val
      change k0_off6 k 2 = 0 at ho; omega
  rw [← e6, ← e7]
  unfold tripL_k0_t3 trip_k0_t3
  rfl

/-- After the loop the second scratch holds the quarter dequantised, whatever it held before. -/
theorem read_loop3 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (X6 : Vec F S1x6144x2048 .fp8e4m3) (X7 : Vec F S1x48x2048 .f32) (f : arg10.view.ty.Contents (Elt F))
    (L : List (View.Piece (Elt F) S6144x512 .bf16)) :
    arg10.view.read (Elt F) (arg10.view.writes (Elt F) f (pb_k0_t3 (F := F) Variants.none c none i arg1 harg1 arg2 harg2 arg3 harg3 arg4 harg4 arg5 harg5 arg6 harg6 arg7 harg7 arg8 harg8 arg9 harg9 arg10 harg10 (harg6.unread X6) (harg7.unread X7) k0_t3_loop.trips ++ L))
      = deqQuarter X6 X7 0 := by
  refine read_loop arg10.view f (fun k => tripL_k0_t3 (F := F) Variants.none c none i arg1 harg1 arg2 harg2 arg3 harg3 arg4 harg4 arg5 harg5 arg6 harg6 arg7 harg7 arg8 harg8 arg9 harg9 arg10 harg10 (harg6.unread X6) (harg7.unread X7) k) _ rfl
    (fun k => pb_k0_t3_succ (F := F) Variants.none c none i arg1 harg1 arg2 harg2 arg3 harg3 arg4 harg4 arg5 harg5 arg6 harg6 arg7 harg7 arg8 harg8 arg9 harg9 arg10 harg10 (harg6.unread X6) (harg7.unread X7) k) _ _ (fun k => trip3_eq c i arg1 harg1 arg2 harg2 arg3 harg3 arg4 harg4 arg5 harg5 arg6 harg6 arg7 harg7 arg8 harg8 arg9 harg9 arg10 harg10 X6 X7 k) _ (fun k x => ?_) (fun y => ?_) L
  · have ho := k0_off7_eq k
    have h0 : (((Rect.unit (s := S6144x512) (k0_off7 k) S128x512.size (k0_off7_inb k)).emb x) 0).val = 128 * k.val + (x 0).val := by
      have := congrFun ho 0; change k0_off7 k 0 = 128 * k.val at this
      change k0_off7 k 0 + 1 * (x 0).val = _; omega
    have h1 : (((Rect.unit (s := S6144x512) (k0_off7 k) S128x512.size (k0_off7_inb k)).emb x) 1).val = (x 1).val := by
      have := congrFun ho 1; change k0_off7 k 1 = 0 at this
      change k0_off7 k 1 + 1 * (x 1).val = _; omega
    have hx : (x 0).val < 128 := (x 0).isLt
    have hk : k.val < 48 := Nat.lt_of_lt_of_le k.isLt k0_t3_abs.2.1
    unfold deqQuarter
    have ek : (⟨(((Rect.unit (s := S6144x512) (k0_off7 k) S128x512.size (k0_off7_inb k)).emb x) 0).val / 128, by omega⟩ : Fin 48) = k.castLE k0_t3_abs.2.1 :=
      Fin.ext (by change _ / 128 = k.val; omega)
    rw [ek]
    refine congrArg _ (funext fun a => Fin.ext ?_)
    fin_cases a
    · change (x 0).val = _ % 128; omega
    · change (x 1).val = _; exact h1.symm
  · have hy0 : (y 0).val < 6144 := (y 0).isLt
    have hy1 : (y 1).val < 512 := (y 1).isLt
    obtain ⟨k, hk⟩ : ∃ k : Fin k0_t3_loop.trips, k.val = (y 0).val / 128 :=
      ⟨⟨(y 0).val / 128, by rw [show k0_t3_loop.trips = 48 by decide +kernel]; omega⟩, rfl⟩
    refine ⟨k, Rect.mem_set_unit.mpr fun a => ?_⟩
    have ho := congrFun (k0_off7_eq k) a
    fin_cases a
    · change k0_off7 k 0 = 128 * k.val at ho
      change k0_off7 k 0 ≤ (y 0).val ∧ (y 0).val < k0_off7 k 0 + 128; omega
    · change k0_off7 k 1 = 0 at ho
      change k0_off7 k 1 ≤ (y 1).val ∧ (y 1).val < k0_off7 k 1 + 512; omega

/-! ### Quarter 1 of the weights -/

theorem trip4_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (k : Fin k0_t4_loop.trips) :
    tripL_k0_t4 (F := F) Variants.none c none i arg1 harg1 arg2 harg2 arg3 harg3 arg4 harg4 arg5 harg5 arg6 harg6 arg7 harg7 arg8 harg8 arg9 harg9 arg10 harg10 v23 c1 c2 (harg6.unread X6) (harg7.unread X7) k
      = [⟨Rect.unit (s := S6144x512) (k0_off10 k) S128x512.size (k0_off10_inb k), k0_pay9 (wBlock X6 1 (k.castLE k0_t4_abs.2.1)) (sBlock X7 1 (k.castLE k0_t4_abs.2.1))⟩] := by
  have e6 : View.readAt (Elt F) arg6.view (Rect.unit (s := S1x6144x2048) (k0_off8 k) S1x128x512.size (k0_off8_inb k)).toLoadRect (harg6.unread X6)
      = wBlock X6 1 (k.castLE k0_t4_abs.2.1) := by
    funext j
    rw [harg6.readAt_unread]
    refine congrArg X6 (funext fun a => Fin.ext ?_)
    have ho := congrFun (k0_off8_eq k) a
    fin_cases a
    · have hj : (j 0).val < 1 := (j 0).isLt
      change k0_off8 k 0 + 1 * (j 0).val = 0
      change k0_off8 k 0 = 0 at ho; omega
    · change k0_off8 k 1 + 1 * (j 1).val = 128 * k.val + (j 1).val
      change k0_off8 k 1 = 128 * k.val at ho; omega
    · change k0_off8 k 2 + 1 * (j 2).val = 512 * 1 + (j 2).val
      change k0_off8 k 2 = 512 at ho; omega
  have e7 : View.readAt (Elt F) arg7.view (Rect.unit (s := S1x48x2048) (k0_off9 k) S1x1x512.size (k0_off9_inb k)).toLoadRect (harg7.unread X7)
      = sBlock X7 1 (k.castLE k0_t4_abs.2.1) := by
    funext j
    rw [harg7.readAt_unread]
    refine congrArg X7 (funext fun a => Fin.ext ?_)
    have ho := congrFun (k0_off9_eq k) a
    fin_cases a
    · have hj : (j 0).val < 1 := (j 0).isLt
      change k0_off9 k 0 + 1 * (j 0).val = 0
      change k0_off9 k 0 = 0 at ho; omega
    · have hj : (j 1).val < 1 := (j 1).isLt
      change k0_off9 k 1 + 1 * (j 1).val = k.val
      change k0_off9 k 1 = k.val at ho; omega
    · change k0_off9 k 2 + 1 * (j 2).val = 512 * 1 + (j 2).val
      change k0_off9 k 2 = 512 at ho; omega
  rw [← e6, ← e7]
  unfold tripL_k0_t4 trip_k0_t4
  rfl

/-- After the loop the second scratch holds the quarter dequantised, whatever it held before. -/
theorem read_loop4 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (f : arg10.view.ty.Contents (Elt F))
    (L : List (View.Piece (Elt F) S6144x512 .bf16)) :
    arg10.view.read (Elt F) (arg10.view.writes (Elt F) f (pb_k0_t4 (F := F) Variants.none c none i arg1 harg1 arg2 harg2 arg3 harg3 arg4 harg4 arg5 harg5 arg6 harg6 arg7 harg7 arg8 harg8 arg9 harg9 arg10 harg10 v23 c1 c2 (harg6.unread X6) (harg7.unread X7) k0_t4_loop.trips ++ L))
      = deqQuarter X6 X7 1 := by
  refine read_loop arg10.view f (fun k => tripL_k0_t4 (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ rfl
    (fun k => pb_k0_t4_succ (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ _ (fun k => trip4_eq c i arg1 harg1 arg2 harg2 arg3 harg3 arg4 harg4 arg5 harg5 arg6 harg6 arg7 harg7 arg8 harg8 arg9 harg9 arg10 harg10 v23 c1 c2 X6 X7 k) _ (fun k x => ?_) (fun y => ?_) L
  · have ho := k0_off10_eq k
    have h0 : (((Rect.unit (s := S6144x512) (k0_off10 k) S128x512.size (k0_off10_inb k)).emb x) 0).val = 128 * k.val + (x 0).val := by
      have := congrFun ho 0; change k0_off10 k 0 = 128 * k.val at this
      change k0_off10 k 0 + 1 * (x 0).val = _; omega
    have h1 : (((Rect.unit (s := S6144x512) (k0_off10 k) S128x512.size (k0_off10_inb k)).emb x) 1).val = (x 1).val := by
      have := congrFun ho 1; change k0_off10 k 1 = 0 at this
      change k0_off10 k 1 + 1 * (x 1).val = _; omega
    have hx : (x 0).val < 128 := (x 0).isLt
    have hk : k.val < 48 := Nat.lt_of_lt_of_le k.isLt k0_t4_abs.2.1
    unfold deqQuarter
    have ek : (⟨(((Rect.unit (s := S6144x512) (k0_off10 k) S128x512.size (k0_off10_inb k)).emb x) 0).val / 128, by omega⟩ : Fin 48) = k.castLE k0_t4_abs.2.1 :=
      Fin.ext (by change _ / 128 = k.val; omega)
    rw [ek]
    refine congrArg _ (funext fun a => Fin.ext ?_)
    fin_cases a
    · change (x 0).val = _ % 128; omega
    · change (x 1).val = _; exact h1.symm
  · have hy0 : (y 0).val < 6144 := (y 0).isLt
    have hy1 : (y 1).val < 512 := (y 1).isLt
    obtain ⟨k, hk⟩ : ∃ k : Fin k0_t4_loop.trips, k.val = (y 0).val / 128 :=
      ⟨⟨(y 0).val / 128, by rw [show k0_t4_loop.trips = 48 by decide +kernel]; omega⟩, rfl⟩
    refine ⟨k, Rect.mem_set_unit.mpr fun a => ?_⟩
    have ho := congrFun (k0_off10_eq k) a
    fin_cases a
    · change k0_off10 k 0 = 128 * k.val at ho
      change k0_off10 k 0 ≤ (y 0).val ∧ (y 0).val < k0_off10 k 0 + 128; omega
    · change k0_off10 k 1 = 0 at ho
      change k0_off10 k 1 ≤ (y 1).val ∧ (y 1).val < k0_off10 k 1 + 512; omega

/-! ### Quarter 2 of the weights -/

theorem trip5_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (k : Fin k0_t5_loop.trips) :
    tripL_k0_t5 (F := F) Variants.none c none i arg1 harg1 arg2 harg2 arg3 harg3 arg4 harg4 arg5 harg5 arg6 harg6 arg7 harg7 arg8 harg8 arg9 harg9 arg10 harg10 v23 c1 c2 (harg6.unread X6) (harg7.unread X7) k
      = [⟨Rect.unit (s := S6144x512) (k0_off13 k) S128x512.size (k0_off13_inb k), k0_pay9 (wBlock X6 2 (k.castLE k0_t5_abs.2.1)) (sBlock X7 2 (k.castLE k0_t5_abs.2.1))⟩] := by
  have e6 : View.readAt (Elt F) arg6.view (Rect.unit (s := S1x6144x2048) (k0_off11 k) S1x128x512.size (k0_off11_inb k)).toLoadRect (harg6.unread X6)
      = wBlock X6 2 (k.castLE k0_t5_abs.2.1) := by
    funext j
    rw [harg6.readAt_unread]
    refine congrArg X6 (funext fun a => Fin.ext ?_)
    have ho := congrFun (k0_off11_eq k) a
    fin_cases a
    · have hj : (j 0).val < 1 := (j 0).isLt
      change k0_off11 k 0 + 1 * (j 0).val = 0
      change k0_off11 k 0 = 0 at ho; omega
    · change k0_off11 k 1 + 1 * (j 1).val = 128 * k.val + (j 1).val
      change k0_off11 k 1 = 128 * k.val at ho; omega
    · change k0_off11 k 2 + 1 * (j 2).val = 512 * 2 + (j 2).val
      change k0_off11 k 2 = 1024 at ho; omega
  have e7 : View.readAt (Elt F) arg7.view (Rect.unit (s := S1x48x2048) (k0_off12 k) S1x1x512.size (k0_off12_inb k)).toLoadRect (harg7.unread X7)
      = sBlock X7 2 (k.castLE k0_t5_abs.2.1) := by
    funext j
    rw [harg7.readAt_unread]
    refine congrArg X7 (funext fun a => Fin.ext ?_)
    have ho := congrFun (k0_off12_eq k) a
    fin_cases a
    · have hj : (j 0).val < 1 := (j 0).isLt
      change k0_off12 k 0 + 1 * (j 0).val = 0
      change k0_off12 k 0 = 0 at ho; omega
    · have hj : (j 1).val < 1 := (j 1).isLt
      change k0_off12 k 1 + 1 * (j 1).val = k.val
      change k0_off12 k 1 = k.val at ho; omega
    · change k0_off12 k 2 + 1 * (j 2).val = 512 * 2 + (j 2).val
      change k0_off12 k 2 = 1024 at ho; omega
  rw [← e6, ← e7]
  unfold tripL_k0_t5 trip_k0_t5
  rfl

/-- After the loop the second scratch holds the quarter dequantised, whatever it held before. -/
theorem read_loop5 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (f : arg10.view.ty.Contents (Elt F))
    (L : List (View.Piece (Elt F) S6144x512 .bf16)) :
    arg10.view.read (Elt F) (arg10.view.writes (Elt F) f (pb_k0_t5 (F := F) Variants.none c none i arg1 harg1 arg2 harg2 arg3 harg3 arg4 harg4 arg5 harg5 arg6 harg6 arg7 harg7 arg8 harg8 arg9 harg9 arg10 harg10 v23 c1 c2 (harg6.unread X6) (harg7.unread X7) k0_t5_loop.trips ++ L))
      = deqQuarter X6 X7 2 := by
  refine read_loop arg10.view f (fun k => tripL_k0_t5 (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ rfl
    (fun k => pb_k0_t5_succ (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ _ (fun k => trip5_eq c i arg1 harg1 arg2 harg2 arg3 harg3 arg4 harg4 arg5 harg5 arg6 harg6 arg7 harg7 arg8 harg8 arg9 harg9 arg10 harg10 v23 c1 c2 X6 X7 k) _ (fun k x => ?_) (fun y => ?_) L
  · have ho := k0_off13_eq k
    have h0 : (((Rect.unit (s := S6144x512) (k0_off13 k) S128x512.size (k0_off13_inb k)).emb x) 0).val = 128 * k.val + (x 0).val := by
      have := congrFun ho 0; change k0_off13 k 0 = 128 * k.val at this
      change k0_off13 k 0 + 1 * (x 0).val = _; omega
    have h1 : (((Rect.unit (s := S6144x512) (k0_off13 k) S128x512.size (k0_off13_inb k)).emb x) 1).val = (x 1).val := by
      have := congrFun ho 1; change k0_off13 k 1 = 0 at this
      change k0_off13 k 1 + 1 * (x 1).val = _; omega
    have hx : (x 0).val < 128 := (x 0).isLt
    have hk : k.val < 48 := Nat.lt_of_lt_of_le k.isLt k0_t5_abs.2.1
    unfold deqQuarter
    have ek : (⟨(((Rect.unit (s := S6144x512) (k0_off13 k) S128x512.size (k0_off13_inb k)).emb x) 0).val / 128, by omega⟩ : Fin 48) = k.castLE k0_t5_abs.2.1 :=
      Fin.ext (by change _ / 128 = k.val; omega)
    rw [ek]
    refine congrArg _ (funext fun a => Fin.ext ?_)
    fin_cases a
    · change (x 0).val = _ % 128; omega
    · change (x 1).val = _; exact h1.symm
  · have hy0 : (y 0).val < 6144 := (y 0).isLt
    have hy1 : (y 1).val < 512 := (y 1).isLt
    obtain ⟨k, hk⟩ : ∃ k : Fin k0_t5_loop.trips, k.val = (y 0).val / 128 :=
      ⟨⟨(y 0).val / 128, by rw [show k0_t5_loop.trips = 48 by decide +kernel]; omega⟩, rfl⟩
    refine ⟨k, Rect.mem_set_unit.mpr fun a => ?_⟩
    have ho := congrFun (k0_off13_eq k) a
    fin_cases a
    · change k0_off13 k 0 = 128 * k.val at ho
      change k0_off13 k 0 ≤ (y 0).val ∧ (y 0).val < k0_off13 k 0 + 128; omega
    · change k0_off13 k 1 = 0 at ho
      change k0_off13 k 1 ≤ (y 1).val ∧ (y 1).val < k0_off13 k 1 + 512; omega

/-! ### Quarter 3 of the weights -/

theorem trip6_eq (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (k : Fin k0_t6_loop.trips) :
    tripL_k0_t6 (F := F) Variants.none c none i arg1 harg1 arg2 harg2 arg3 harg3 arg4 harg4 arg5 harg5 arg6 harg6 arg7 harg7 arg8 harg8 arg9 harg9 arg10 harg10 v23 c1 c2 (harg6.unread X6) (harg7.unread X7) k
      = [⟨Rect.unit (s := S6144x512) (k0_off16 k) S128x512.size (k0_off16_inb k), k0_pay9 (wBlock X6 3 (k.castLE k0_t6_abs.2.1)) (sBlock X7 3 (k.castLE k0_t6_abs.2.1))⟩] := by
  have e6 : View.readAt (Elt F) arg6.view (Rect.unit (s := S1x6144x2048) (k0_off14 k) S1x128x512.size (k0_off14_inb k)).toLoadRect (harg6.unread X6)
      = wBlock X6 3 (k.castLE k0_t6_abs.2.1) := by
    funext j
    rw [harg6.readAt_unread]
    refine congrArg X6 (funext fun a => Fin.ext ?_)
    have ho := congrFun (k0_off14_eq k) a
    fin_cases a
    · have hj : (j 0).val < 1 := (j 0).isLt
      change k0_off14 k 0 + 1 * (j 0).val = 0
      change k0_off14 k 0 = 0 at ho; omega
    · change k0_off14 k 1 + 1 * (j 1).val = 128 * k.val + (j 1).val
      change k0_off14 k 1 = 128 * k.val at ho; omega
    · change k0_off14 k 2 + 1 * (j 2).val = 512 * 3 + (j 2).val
      change k0_off14 k 2 = 1536 at ho; omega
  have e7 : View.readAt (Elt F) arg7.view (Rect.unit (s := S1x48x2048) (k0_off15 k) S1x1x512.size (k0_off15_inb k)).toLoadRect (harg7.unread X7)
      = sBlock X7 3 (k.castLE k0_t6_abs.2.1) := by
    funext j
    rw [harg7.readAt_unread]
    refine congrArg X7 (funext fun a => Fin.ext ?_)
    have ho := congrFun (k0_off15_eq k) a
    fin_cases a
    · have hj : (j 0).val < 1 := (j 0).isLt
      change k0_off15 k 0 + 1 * (j 0).val = 0
      change k0_off15 k 0 = 0 at ho; omega
    · have hj : (j 1).val < 1 := (j 1).isLt
      change k0_off15 k 1 + 1 * (j 1).val = k.val
      change k0_off15 k 1 = k.val at ho; omega
    · change k0_off15 k 2 + 1 * (j 2).val = 512 * 3 + (j 2).val
      change k0_off15 k 2 = 1536 at ho; omega
  rw [← e6, ← e7]
  unfold tripL_k0_t6 trip_k0_t6
  rfl

/-- After the loop the second scratch holds the quarter dequantised, whatever it held before. -/
theorem read_loop6 (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole) (v23 : IVec S256x1 1) (c1 c2 : BitVec 32) (X6 : Vec F S1x6144x2048 .fp8e4m3) (X7 : Vec F S1x48x2048 .f32) (f : arg10.view.ty.Contents (Elt F))
    (L : List (View.Piece (Elt F) S6144x512 .bf16)) :
    arg10.view.read (Elt F) (arg10.view.writes (Elt F) f (pb_k0_t6 (F := F) Variants.none c none i arg1 harg1 arg2 harg2 arg3 harg3 arg4 harg4 arg5 harg5 arg6 harg6 arg7 harg7 arg8 harg8 arg9 harg9 arg10 harg10 v23 c1 c2 (harg6.unread X6) (harg7.unread X7) k0_t6_loop.trips ++ L))
      = deqQuarter X6 X7 3 := by
  refine read_loop arg10.view f (fun k => tripL_k0_t6 (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ rfl
    (fun k => pb_k0_t6_succ (F := F) Variants.none c none i arg1 harg1 arg2 harg2 arg3 harg3 arg4 harg4 arg5 harg5 arg6 harg6 arg7 harg7 arg8 harg8 arg9 harg9 arg10 harg10 v23 c1 c2 (harg6.unread X6) (harg7.unread X7) k) _ _ (fun k => trip6_eq c i arg1 harg1 arg2 harg2 arg3 harg3 arg4 harg4 arg5 harg5 arg6 harg6 arg7 harg7 arg8 harg8 arg9 harg9 arg10 harg10 v23 c1 c2 X6 X7 k) _ (fun k x => ?_) (fun y => ?_) L
  · have ho := k0_off16_eq k
    have h0 : (((Rect.unit (s := S6144x512) (k0_off16 k) S128x512.size (k0_off16_inb k)).emb x) 0).val = 128 * k.val + (x 0).val := by
      have := congrFun ho 0; change k0_off16 k 0 = 128 * k.val at this
      change k0_off16 k 0 + 1 * (x 0).val = _; omega
    have h1 : (((Rect.unit (s := S6144x512) (k0_off16 k) S128x512.size (k0_off16_inb k)).emb x) 1).val = (x 1).val := by
      have := congrFun ho 1; change k0_off16 k 1 = 0 at this
      change k0_off16 k 1 + 1 * (x 1).val = _; omega
    have hx : (x 0).val < 128 := (x 0).isLt
    have hk : k.val < 48 := Nat.lt_of_lt_of_le k.isLt k0_t6_abs.2.1
    unfold deqQuarter
    have ek : (⟨(((Rect.unit (s := S6144x512) (k0_off16 k) S128x512.size (k0_off16_inb k)).emb x) 0).val / 128, by omega⟩ : Fin 48) = k.castLE k0_t6_abs.2.1 :=
      Fin.ext (by change _ / 128 = k.val; omega)
    rw [ek]
    refine congrArg _ (funext fun a => Fin.ext ?_)
    fin_cases a
    · change (x 0).val = _ % 128; omega
    · change (x 1).val = _; exact h1.symm
  · have hy0 : (y 0).val < 6144 := (y 0).isLt
    have hy1 : (y 1).val < 512 := (y 1).isLt
    obtain ⟨k, hk⟩ : ∃ k : Fin k0_t6_loop.trips, k.val = (y 0).val / 128 :=
      ⟨⟨(y 0).val / 128, by rw [show k0_t6_loop.trips = 48 by decide +kernel]; omega⟩, rfl⟩
    refine ⟨k, Rect.mem_set_unit.mpr fun a => ?_⟩
    have ho := congrFun (k0_off16_eq k) a
    fin_cases a
    · change k0_off16 k 0 = 128 * k.val at ho
      change k0_off16 k 0 ≤ (y 0).val ∧ (y 0).val < k0_off16 k 0 + 128; omega
    · change k0_off16 k 1 = 0 at ho
      change k0_off16 k 1 ≤ (y 1).val ∧ (y 1).val < k0_off16 k 1 + 512; omega

end Cert.KernelIdeal.Hand

end
-- ==== Proof.Ideal.Body.lean ====
/-
  The body of the kernel, run once at a symbolic grid point, in its two control cases: the point that quantises a new
  activation tile into the scratch, and the point that finds its tile already quantised there.
-/
module

public import proofs.«01_k».proof.Proof.Ideal.Vals
public import Idealize.ShloMosaic.Lib.Pipeline.FrameBody
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word of a table a one-word load reads, through the memref that holds it. -/
abbrev wordOf (m : Memref sig .tc .smem S111 .i32) (hm : m.IsWhole) (T : Vec F S111 .i32) (o : Fin 1 → ℕ) (h : ∀ a, o a + S1.size a ≤ S111.size a) : BitVec 32 :=
  ((m.access (Rect.unit (s := S111) o S1.size h) : View sig .tc _ _ _).read (Elt F) (hm.unread T)) (Shape.Idx.first (s := S1) (numel1_S1.symm ▸ Nat.one_pos))

/-- The body's test of whether the point quantises its tile, of the point's coordinate word and the two tile words. -/
abbrev testOf (a w w' : BitVec 32) : BitVec 1 :=
  Scalar.cmpi .ne (Scalar.extui (Scalar.ori (Scalar.cmpi .eq a 0#32) (Scalar.cmpi .ne w w')) : BitVec 32) 0#32

/-- The word a table holds for a grid point. -/
abbrev tab (T : Vec F S111 .i32) (n : ℕ) (h : n < 111) : BitVec 32 := T (ix1 (n0 := 111) ⟨n, h⟩)

theorem wordOf_eq (m : Memref sig .tc .smem S111 .i32) (hm : m.IsWhole) (T : Vec F S111 .i32) (o : Fin 1 → ℕ) (h : ∀ a, o a + S1.size a ≤ S111.size a)
    (n : ℕ) (hn : n < 111) (ho : o = ![n]) : wordOf m hm T o h = tab T n hn := by
  subst ho
  unfold wordOf
  refine (congrFun (hm.read_unread T) _).trans (congrArg T (funext fun a => Fin.ext ?_))
  fin_cases a; rfl

theorem k0_off2_eq : ∀ i : grid0.Coords, k0_off2 i = ![(i 0).val - 1] := by decide +kernel

/-- Whether a point quantises its tile: the first point, or a point whose tile is not the one before. -/
def Fresh (T : Vec F S111 .i32) (i : grid0.Coords) : Prop :=
  (i 0).val = 0 ∨ tab T (i 0).val (i 0).isLt ≠ tab T ((i 0).val - 1) (lt_of_le_of_lt (Nat.sub_le _ _) (i 0).isLt)

theorem testOf_iff (a w w' : BitVec 32) : testOf a w w' = 1#1 ↔ a = 0#32 ∨ w ≠ w' := by
  have key : ∀ p q : Bool, (BitVec.ofBool (BitVec.setWidth 32 (IntOp.ori (BitVec.ofBool p) (BitVec.ofBool q)) != 0#32) = 1#1) ↔ (p = true ∨ q = true) := by
    decide
  exact (key (a == 0#32) (w != w')).trans (by simp)

theorem fresh_iff (m : Memref sig .tc .smem S111 .i32) (hm : m.IsWhole) (T : Vec F S111 .i32) (i : grid0.Coords) :
    testOf (BitVec.ofNat 32 (i 0).val) (wordOf m hm T (k0_off1 i) (k0_off1_inb i)) (wordOf m hm T (k0_off2 i) (k0_off2_inb i)) = 1#1 ↔ Fresh T i := by
  have hi : (i 0).val < 111 := (i 0).isLt
  rw [testOf_iff, wordOf_eq m hm T _ _ _ hi (k0_off1_eq i), wordOf_eq m hm T _ _ _ (by omega) (k0_off2_eq i)]
  unfold Fresh
  refine or_congr ⟨fun h => ?_, fun h => by rw [h]⟩ Iff.rfl
  have := congrArg BitVec.toNat h
  simp only [BitVec.toNat_ofNat] at this
  omega

/-- A quarter of an output tile's columns. -/
def quarterOf (Y : Vec F S256x2048 .bf16) (q : Fin 4) : Vec F S256x512 .bf16 :=
  fun j => Y (ix2 (n0 := 256) (n1 := 2048) (j 0) ⟨512 * q.val + (j 1).val, by have h := (j 1).isLt; have := q.isLt; change (j 1).val < 512 at h; omega⟩)

/-- A point's output tile, of what it held before: the masked rows of each quarter replaced by the product of the quantised
    activations and the quarter of the dequantised weights. -/
def outStep (M : IVec S256x1 1) (Q : Vec F S256x6144 .bf16) (W : Vec F S1x6144x2048 .fp8e4m3) (S : Vec F S1x48x2048 .f32) (Y : Vec F S256x2048 .bf16) :
    Vec F S256x2048 .bf16 := fun y =>
  k0_pay12 M Q (deqQuarter W S ⟨(y 1).val / 512, by have h := (y 1).isLt; change (y 1).val < 2048 at h; omega⟩)
    (quarterOf Y ⟨(y 1).val / 512, by have h := (y 1).isLt; change (y 1).val < 2048 at h; omega⟩)
    (ix2 (n0 := 256) (n1 := 512) (y 0) ⟨(y 1).val % 512, Nat.mod_lt _ (by decide)⟩)

theorem outStep_emb (M : IVec S256x1 1) (Q : Vec F S256x6144 .bf16) (W : Vec F S1x6144x2048 .fp8e4m3) (S : Vec F S1x48x2048 .f32) (Y : Vec F S256x2048 .bf16)
    (q : Fin 4) (o : Fin 2 → ℕ) (ho : o = ![0, 512 * q.val]) (h : ∀ a, o a + S256x512.size a ≤ S256x2048.size a) (x : S256x512.Idx) :
    k0_pay12 M Q (deqQuarter W S q) (quarterOf Y q) x = outStep M Q W S Y ((Rect.unit (s := S256x2048) o S256x512.size h).emb x) := by
  subst ho
  have hx : (x 1).val < 512 := (x 1).isLt
  have h0 : (((Rect.unit (s := S256x2048) ![0, 512 * q.val] S256x512.size h).emb x) 0).val = (x 0).val := by
    change 0 + 1 * (x 0).val = _; omega
  have h1 : (((Rect.unit (s := S256x2048) ![0, 512 * q.val] S256x512.size h).emb x) 1).val = 512 * q.val + (x 1).val := by
    change 512 * q.val + 1 * (x 1).val = _; omega
  unfold outStep
  have ek : (⟨(((Rect.unit (s := S256x2048) ![0, 512 * q.val] S256x512.size h).emb x) 1).val / 512, by omega⟩ : Fin 4) = q :=
    Fin.ext (by change _ / 512 = q.val; omega)
  rw [ek]
  refine congrArg _ (funext fun a => Fin.ext ?_)
  fin_cases a
  · change (x 0).val = _; exact h0.symm
  · change (x 1).val = _ % 512; omega

/-- The four stores of a point leave its output tile. -/
theorem read_out (arg8 : Memref sig .tc .vmem S256x2048 .bf16) (f : arg8.view.ty.Contents (Elt F))
    (M : IVec S256x1 1) (Q : Vec F S256x6144 .bf16) (W : Vec F S1x6144x2048 .fp8e4m3) (S : Vec F S1x48x2048 .f32) (Y : Vec F S256x2048 .bf16)
    (p0 p1 p2 p3 : Vec F S256x512 .bf16)
    (h0 : p0 = k0_pay12 M Q (deqQuarter W S 0) (quarterOf Y 0)) (h1 : p1 = k0_pay12 M Q (deqQuarter W S 1) (quarterOf Y 1))
    (h2 : p2 = k0_pay12 M Q (deqQuarter W S 2) (quarterOf Y 2)) (h3 : p3 = k0_pay12 M Q (deqQuarter W S 3) (quarterOf Y 3)) :
    arg8.view.read (Elt F) (arg8.view.writes (Elt F) f
      [⟨Rect.unit (s := S256x2048) ![0, 1536] S256x512.size inb_S256x2048_S256x512_0_1536, p3⟩,
       ⟨Rect.unit (s := S256x2048) ![0, 1024] S256x512.size inb_S256x2048_S256x512_0_1024, p2⟩,
       ⟨Rect.unit (s := S256x2048) ![0, 512] S256x512.size inb_S256x2048_S256x512_0_512, p1⟩,
       ⟨Rect.unit (s := S256x2048) ![0, 0] S256x512.size inb_S256x2048_S256x512_0_0, p0⟩]) = outStep M Q W S Y := by
  subst h0 h1 h2 h3
  funext y
  refine View.read_writes_apply_of_pieces arg8.view _ (outStep M Q W S Y) _ (fun p hp x => ?_) y ?_
  · simp only [List.mem_cons, List.not_mem_nil, or_false] at hp
    rcases hp with rfl | rfl | rfl | rfl
    · exact outStep_emb M Q W S Y 3 _ rfl inb_S256x2048_S256x512_0_1536 x
    · exact outStep_emb M Q W S Y 2 _ rfl inb_S256x2048_S256x512_0_1024 x
    · exact outStep_emb M Q W S Y 1 _ rfl inb_S256x2048_S256x512_0_512 x
    · exact outStep_emb M Q W S Y 0 _ rfl inb_S256x2048_S256x512_0_0 x
  · have hy0 : (y 0).val < 256 := (y 0).isLt
    have hy1 : (y 1).val < 2048 := (y 1).isLt
    have key : ∀ (q : ℕ) (hb : ∀ a, (![0, q] : Fin 2 → ℕ) a + S256x512.size a ≤ S256x2048.size a), q ≤ (y 1).val → (y 1).val < q + 512 →
        y ∈ (Rect.unit (s := S256x2048) ![0, q] S256x512.size hb).set := fun q hb h1 h2 => Rect.mem_set_unit.mpr fun a => by
      fin_cases a
      · change 0 ≤ (y 0).val ∧ (y 0).val < 0 + 256; omega
      · change q ≤ (y 1).val ∧ (y 1).val < q + 512; omega
    by_cases c3 : 1536 ≤ (y 1).val
    · exact ⟨_, .head _, key 1536 inb_S256x2048_S256x512_0_1536 c3 (by omega)⟩
    by_cases c2 : 1024 ≤ (y 1).val
    · exact ⟨_, .tail _ (.head _), key 1024 inb_S256x2048_S256x512_0_1024 c2 (by omega)⟩
    by_cases c1 : 512 ≤ (y 1).val
    · exact ⟨_, .tail _ (.tail _ (.head _)), key 512 inb_S256x2048_S256x512_0_512 c1 (by omega)⟩
    · exact ⟨_, .tail _ (.tail _ (.tail _ (.head _))), key 0 inb_S256x2048_S256x512_0_0 (by omega) (by omega)⟩

theorem read_quarter (arg8 : Memref sig .tc .vmem S256x2048 .bf16) (harg8 : arg8.IsWhole) (Y : Vec F S256x2048 .bf16) (q : Fin 4) (o : Fin 2 → ℕ)
    (ho : o = ![0, 512 * q.val]) (h : ∀ a, o a + S256x512.size a ≤ S256x2048.size a) :
    View.readAt (Elt F) arg8.view (Rect.unit (s := S256x2048) o S256x512.size h).toLoadRect (harg8.unread Y) = quarterOf Y q := by
  subst ho
  funext j
  rw [harg8.readAt_unread]
  refine congrArg Y (funext fun a => Fin.ext ?_)
  fin_cases a
  · change 0 + 1 * (j 0).val = (j 0).val; omega
  · change 512 * q.val + 1 * (j 1).val = 512 * q.val + (j 1).val; omega

theorem pay_congr {M M' : IVec S256x1 1} {Q Q' : Vec F S256x6144 .bf16} {D D' : Vec F S6144x512 .bf16} {O O' : Vec F S256x512 .bf16}
    (hM : M = M') (hQ : Q = Q') (hD : D = D') (hO : O = O') : k0_pay12 M Q D O = k0_pay12 M' Q' D' O' := by
  subst hM hQ hD hO; rfl

/-- The rows a point writes, of its three words: tile, first row, end row. -/
abbrev rowMask (w lo hi : BitVec 32) : IVec S256x1 1 := k0_pay8 (F := F) w lo hi

set_option maxHeartbeats 4000000 in
/-- A point whose tile is already quantised in the scratch. -/
theorem runKeep (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole)
    (T1 T2 T3 T4 : Vec F S111 .i32) (X5 : Vec F S256x6144 .bf16) (X6 : Vec F S1x6144x2048 .fp8e4m3) (X7 : Vec F S1x48x2048 .f32) (Y8 : Vec F S256x2048 .bf16) (Q9 : Vec F S256x6144 .bf16)
    (hfresh : ¬ Fresh T1 i) (E : Set ℕ) (K : PUnit → sProp 𝕄) :
    iprop(owns (c : Thread nD τ) arg1 fullShare.right T1 ∗ owns (c : Thread nD τ) arg2 fullShare.right T2 ∗ owns (c : Thread nD τ) arg3 fullShare.right T3 ∗ owns (c : Thread nD τ) arg4 fullShare.right T4 ∗ owns (c : Thread nD τ) arg5 fullShare X5 ∗ owns (c : Thread nD τ) arg6 fullShare X6 ∗ owns (c : Thread nD τ) arg7 fullShare X7 ∗ owns (c : Thread nD τ) arg8 fullShare Y8
        ∗ owns (c : Thread nD τ) arg9 fullShare Q9 ∗ (∃ d, owns (c : Thread nD τ) arg10 fullShare d)
        ∗ (iprop(owns (c : Thread nD τ) arg1 fullShare.right T1 ∗ owns (c : Thread nD τ) arg2 fullShare.right T2 ∗ owns (c : Thread nD τ) arg3 fullShare.right T3 ∗ owns (c : Thread nD τ) arg4 fullShare.right T4 ∗ owns (c : Thread nD τ) arg5 fullShare X5 ∗ owns (c : Thread nD τ) arg6 fullShare X6 ∗ owns (c : Thread nD τ) arg7 fullShare X7 ∗ owns (c : Thread nD τ) arg8 fullShare (outStep (rowMask (F := F) (tab T1 (i 0).val (i 0).isLt) (tab T3 (i 0).val (i 0).isLt) (tab T4 (i 0).val (i 0).isLt)) Q9 X6 X7 Y8)
          ∗ owns (c : Thread nD τ) arg9 fullShare Q9 ∗ (∃ d, owns (c : Thread nD τ) arg10 fullShare d)) -∗ K ⟨⟩))
      ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10) K := by
    have hc := (not_congr (fresh_iff arg1 harg1 T1 i)).mpr hfresh
    simp only [cc0_grouped_fp8_matmul_eq_skeleton]; unfold cc0_grouped_fp8_matmul_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9
    sl_exec
    have hc' : ¬ (runKeep.sl.v10 c i arg1 harg1 T1 = 1#1) := hc
    sl_exec
    sl_step
    iapply Hk
    isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      swap
      · iexact H8
      ipureintro
      have hi : (i 0).val < 111 := (i 0).isLt
      have w1 : runKeep.sl.r c i arg1 harg1 T1 = tab T1 (i 0).val hi := wordOf_eq arg1 harg1 T1 _ (k0_off1_inb i) _ hi (k0_off1_eq i)
      have w3 : runKeep.sl.r_2 c i arg3 harg3 T3 = tab T3 (i 0).val hi := wordOf_eq arg3 harg3 T3 _ (k0_off4_inb i) _ hi (k0_off4_eq i)
      have w4 : runKeep.sl.r_3 c i arg4 harg4 T4 = tab T4 (i 0).val hi := wordOf_eq arg4 harg4 T4 _ (k0_off4_inb i) _ hi (k0_off4_eq i)
      have e9 : View.readAt (Elt F) arg9.view (Rect.unit (s := S256x6144) ![0, 0] S256x6144.size inb_S256x6144_S256x6144_0_0).toLoadRect (harg9.unread Q9) = Q9 := by
        rw [View.readAt_full]; exact harg9.read_unread _
      refine read_out arg8 _ _ _ _ _ _ _ _ _ _ ?_ ?_ ?_ ?_
      · change k0_pay12 (k0_pay8 _ _ _) _ _ _ = _
        rw [w1, w3, w4]
        exact pay_congr rfl e9 (by have h := read_loop3 c i arg1 harg1 arg2 harg2 arg3 harg3 arg4 harg4 arg5 harg5 arg6 harg6 arg7 harg7 arg8 harg8 arg9 harg9 arg10 harg10 X6 X7 f10 []; rw [List.append_nil] at h; exact (View.readAt_full arg10.view _ _).trans h) (read_quarter arg8 harg8 Y8 0 _ rfl _)
      · exact pay_congr (by change k0_pay8 _ _ _ = _; rw [w1, w3, w4]) e9 ((View.readAt_full arg10.view _ _).trans (read_loop4 c i arg1 harg1 arg2 harg2 arg3 harg3 arg4 harg4 arg5 harg5 arg6 harg6 arg7 harg7 arg8 harg8 arg9 harg9 arg10 harg10 _ _ _ X6 X7 f10 _)) (read_quarter arg8 harg8 Y8 1 _ rfl _)
      · exact pay_congr (by change k0_pay8 _ _ _ = _; rw [w1, w3, w4]) e9 ((View.readAt_full arg10.view _ _).trans (read_loop5 c i arg1 harg1 arg2 harg2 arg3 harg3 arg4 harg4 arg5 harg5 arg6 harg6 arg7 harg7 arg8 harg8 arg9 harg9 arg10 harg10 _ _ _ X6 X7 f10 _)) (read_quarter arg8 harg8 Y8 2 _ rfl _)
      · exact pay_congr (by change k0_pay8 _ _ _ = _; rw [w1, w3, w4]) e9 ((View.readAt_full arg10.view _ _).trans (read_loop6 c i arg1 harg1 arg2 harg2 arg3 harg3 arg4 harg4 arg5 harg5 arg6 harg6 arg7 harg7 arg8 harg8 arg9 harg9 arg10 harg10 _ _ _ X6 X7 f10 _)) (read_quarter arg8 harg8 Y8 3 _ rfl _)
    isplitl [H9]
    · iexists _; isplitr
      swap
      · iexact H9
      ipureintro
      exact harg9.read_unread _
    iexists _, _
    isplitr
    swap
    · iexact H10
    ipureintro
    rfl

set_option maxHeartbeats 4000000 in
/-- A point that quantises its tile into the scratch. -/
theorem runFresh (c : Dev nD) (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .vmem S256x6144 .bf16) (harg5 : arg5.IsWhole) (arg6 : Memref sig .tc .vmem S1x6144x2048 .fp8e4m3) (harg6 : arg6.IsWhole) (arg7 : Memref sig .tc .vmem S1x48x2048 .f32) (harg7 : arg7.IsWhole) (arg8 : Memref sig .tc .vmem S256x2048 .bf16) (harg8 : arg8.IsWhole) (arg9 : Memref sig .tc .vmem S256x6144 .bf16) (harg9 : arg9.IsWhole) (arg10 : Memref sig .tc .vmem S6144x512 .bf16) (harg10 : arg10.IsWhole)
    (T1 T2 T3 T4 : Vec F S111 .i32) (X5 : Vec F S256x6144 .bf16) (X6 : Vec F S1x6144x2048 .fp8e4m3) (X7 : Vec F S1x48x2048 .f32) (Y8 : Vec F S256x2048 .bf16)
    (hfresh : Fresh T1 i) (E : Set ℕ) (K : PUnit → sProp 𝕄) :
    iprop(owns (c : Thread nD τ) arg1 fullShare.right T1 ∗ owns (c : Thread nD τ) arg2 fullShare.right T2 ∗ owns (c : Thread nD τ) arg3 fullShare.right T3 ∗ owns (c : Thread nD τ) arg4 fullShare.right T4 ∗ owns (c : Thread nD τ) arg5 fullShare X5 ∗ owns (c : Thread nD τ) arg6 fullShare X6 ∗ owns (c : Thread nD τ) arg7 fullShare X7 ∗ owns (c : Thread nD τ) arg8 fullShare Y8
        ∗ (∃ d, owns (c : Thread nD τ) arg9 fullShare d) ∗ (∃ d, owns (c : Thread nD τ) arg10 fullShare d)
        ∗ (iprop(owns (c : Thread nD τ) arg1 fullShare.right T1 ∗ owns (c : Thread nD τ) arg2 fullShare.right T2 ∗ owns (c : Thread nD τ) arg3 fullShare.right T3 ∗ owns (c : Thread nD τ) arg4 fullShare.right T4 ∗ owns (c : Thread nD τ) arg5 fullShare X5 ∗ owns (c : Thread nD τ) arg6 fullShare X6 ∗ owns (c : Thread nD τ) arg7 fullShare X7 ∗ owns (c : Thread nD τ) arg8 fullShare (outStep (rowMask (F := F) (tab T1 (i 0).val (i 0).isLt) (tab T3 (i 0).val (i 0).isLt) (tab T4 (i 0).val (i 0).isLt)) (quantTile X5) X6 X7 Y8)
          ∗ owns (c : Thread nD τ) arg9 fullShare (quantTile X5) ∗ (∃ d, owns (c : Thread nD τ) arg10 fullShare d)) -∗ K ⟨⟩))
      ⊢ wp frame (wpE (defs₀ (F := F)) Variants.none c none) E (cc0_grouped_fp8_matmul i arg1 harg1 arg2 harg2 arg3 harg3 arg4 harg4 arg5 harg5 arg6 harg6 arg7 harg7 arg8 harg8 arg9 harg9 arg10 harg10) K := by
    have hc := (fresh_iff arg1 harg1 T1 i).mpr hfresh
    simp only [cc0_grouped_fp8_matmul_eq_skeleton]; unfold cc0_grouped_fp8_matmul_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec
    have hc' : (runFresh.sl.v10 c i arg1 harg1 T1 = 1#1) := hc
    sl_exec
    sl_step
    iapply Hk
    isplitl [H1]
    · iexists _; isplitr
      · ipureintro; exact harg1.read_unread _
      iexact H1
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      swap
      · iexact H8
      ipureintro
      have hi : (i 0).val < 111 := (i 0).isLt
      have w1 : runFresh.sl.r c i arg1 harg1 T1 = tab T1 (i 0).val hi := wordOf_eq arg1 harg1 T1 _ (k0_off1_inb i) _ hi (k0_off1_eq i)
      have w3 : runFresh.sl.r_2 c i arg3 harg3 T3 = tab T3 (i 0).val hi := wordOf_eq arg3 harg3 T3 _ (k0_off4_inb i) _ hi (k0_off4_eq i)
      have w4 : runFresh.sl.r_3 c i arg4 harg4 T4 = tab T4 (i 0).val hi := wordOf_eq arg4 harg4 T4 _ (k0_off4_inb i) _ hi (k0_off4_eq i)
      have e9 : View.readAt (Elt F) arg9.view (Rect.unit (s := S256x6144) ![0, 0] S256x6144.size inb_S256x6144_S256x6144_0_0).toLoadRect (arg9.view.writes (Elt F) f9 (pb_k0_t1 (F := F) Variants.none c none i arg1 harg1 arg2 harg2 arg3 harg3 arg4 harg4 arg5 harg5 arg6 harg6 arg7 harg7 arg8 harg8 arg9 harg9 arg10 harg10 (harg5.unread X5) k0_t1_loop.trips)) = (quantTile X5) := by
        rw [View.readAt_full]; have := read_loop1 c i arg1 harg1 arg2 harg2 arg3 harg3 arg4 harg4 arg5 harg5 arg6 harg6 arg7 harg7 arg8 harg8 arg9 harg9 arg10 harg10 X5 f9 []; rw [List.append_nil] at this; exact this
      refine read_out arg8 _ _ _ _ _ _ _ _ _ _ ?_ ?_ ?_ ?_
      · change k0_pay12 (k0_pay8 _ _ _) _ _ _ = _
        rw [w1, w3, w4]
        exact pay_congr rfl e9 (by have h := read_loop3 c i arg1 harg1 arg2 harg2 arg3 harg3 arg4 harg4 arg5 harg5 arg6 harg6 arg7 harg7 arg8 harg8 arg9 harg9 arg10 harg10 X6 X7 f10 []; rw [List.append_nil] at h; exact (View.readAt_full arg10.view _ _).trans h) (read_quarter arg8 harg8 Y8 0 _ rfl _)
      · exact pay_congr (by change k0_pay8 _ _ _ = _; rw [w1, w3, w4]) e9 ((View.readAt_full arg10.view _ _).trans (read_loop4 c i arg1 harg1 arg2 harg2 arg3 harg3 arg4 harg4 arg5 harg5 arg6 harg6 arg7 harg7 arg8 harg8 arg9 harg9 arg10 harg10 _ _ _ X6 X7 f10 _)) (read_quarter arg8 harg8 Y8 1 _ rfl _)
      · exact pay_congr (by change k0_pay8 _ _ _ = _; rw [w1, w3, w4]) e9 ((View.readAt_full arg10.view _ _).trans (read_loop5 c i arg1 harg1 arg2 harg2 arg3 harg3 arg4 harg4 arg5 harg5 arg6 harg6 arg7 harg7 arg8 harg8 arg9 harg9 arg10 harg10 _ _ _ X6 X7 f10 _)) (read_quarter arg8 harg8 Y8 2 _ rfl _)
      · exact pay_congr (by change k0_pay8 _ _ _ = _; rw [w1, w3, w4]) e9 ((View.readAt_full arg10.view _ _).trans (read_loop6 c i arg1 harg1 arg2 harg2 arg3 harg3 arg4 harg4 arg5 harg5 arg6 harg6 arg7 harg7 arg8 harg8 arg9 harg9 arg10 harg10 _ _ _ X6 X7 f10 _)) (read_quarter arg8 harg8 Y8 3 _ rfl _)
    isplitl [H9]
    · iexists _; isplitr
      swap
      · iexact H9
      ipureintro
      have := read_loop1 c i arg1 harg1 arg2 harg2 arg3 harg3 arg4 harg4 arg5 harg5 arg6 harg6 arg7 harg7 arg8 harg8 arg9 harg9 arg10 harg10 X5 f9 []; rw [List.append_nil] at this; exact this
    iexists _, _
    isplitr
    swap
    · iexact H10
    ipureintro
    rfl

end Cert.KernelIdeal.Hand

end
-- ==== Proof.Ideal.HostRun.lean ====
/-
  What the host operations before the kernel leave in the four prefetched tables and the expanded scales, as functions of
  the group sizes and the scales.
-/
module

public import proofs.«01_k».proof.Proof.Gen.KernelIdeal.Launch
public import Idealize.ShloMosaic.Lib.StableHlo.RunRead

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.StableHlo (after)

variable {F : FTy → Type} [FloatOps F]

/-- The running sums of sixteen integers. -/
def cumsum (x : IVec S16 32) : IVec S16 32 :=
  Host.reduceWindow IntOp.addi ![16] ![1] ![15] ![0] x (broadcastInDim S_ ![] bcast_S_S_ (constantI S_ 32 0#32)) reduceWindows_S16_S16_w16s1p15_0 h_S_

/-- Sixteen copies of a constant. -/
def lit16 (b : BitVec 32) : IVec S16 32 := broadcastInDim S16 ![] bcast_S_S16 (constantI S_ 32 b)

/-- The quotient by 256, rounded down. -/
def floor256 (x : IVec S16 32) : IVec S16 32 :=
  select (andi (cmpi .ne (signi x) (broadcastInDim S16 ![] bcast_S_S16 (signi (constantI S_ 32 256#32)))) (cmpi .ne (Host.remsi x (lit16 256#32)) (lit16 0#32)))
    (subi (Host.divsi x (lit16 256#32)) (lit16 1#32)) (Host.divsi x (lit16 256#32))

/-- Where each group's rows end, and start. -/
def hEnd (gs : IVec S16 32) : IVec S16 32 := cumsum gs
def hStart (gs : IVec S16 32) : IVec S16 32 := subi (hEnd gs) gs
/-- Each group's first row tile. -/
def hFirst (gs : IVec S16 32) : IVec S16 32 := floor256 (hStart gs)
/-- How many row tiles each group touches. -/
def hCount (gs : IVec S16 32) : IVec S16 32 :=
  select (cmpi .sgt gs (lit16 0#32)) (subi (floor256 (subi (addi (hEnd gs) (lit16 256#32)) (lit16 1#32))) (hFirst gs)) (lit16 0#32)
def hCum (gs : IVec S16 32) : IVec S16 32 := cumsum (hCount gs)

/-- The work item of each grid point: its own number, or the last item's past the end; `cum` counts the items up to
    and with each group. -/
def itemOf (cum : IVec S16 32) : IVec S111 32 :=
  minsi (iotaInDim S111 32 0) (broadcastInDim S111 ![] bcast_S_S111
    (subi (shapeCast S_ (extractStridedSlice S1 ![15] cum slices_S16_S1_15) shapeCasts_S1_S_) (constantI S_ 32 1#32)))

/-- The group of each grid point: how many groups are over before its work item. -/
def groupOf (cum : IVec S16 32) : IVec S111 32 :=
  Host.reduce IntOp.addi (extui 32 (cmpi .sge (broadcastInDim S111x16 ![0, 1] bcast_S111x1_S111x16_0_1 (broadcastInDim S111x1 ![0] bcast_S111_S111x1_0 (itemOf cum)))
    (broadcastInDim S111x16 ![0, 1] bcast_S1x16_S111x16_0_1 (broadcastInDim S1x16 ![1] bcast_S16_S1x16_1 cum))) natLt_1_32)
    (constantI S_ 32 0#32) reducesTo_S111x16_S111_d1 h_S_

/-- A group table read at each grid point's group. -/
def pickOf (cum x : IVec S16 32) : IVec S111 32 :=
  Host.gather gather_S16_S111x1_S111_n_0_n_n_0_1_1 x (broadcastInDim S111x1 ![0] bcast_S111_S111x1_0
    (select (cmpi .slt (groupOf cum) (broadcastInDim S111 ![] bcast_S_S111 (constantI S_ 32 0#32)))
      (addi (groupOf cum) (broadcastInDim S111 ![] bcast_S_S111 (constantI S_ 32 16#32))) (groupOf cum)))

/-- The row tile of each grid point. -/
def tileOf (cum count first : IVec S16 32) : IVec S111 32 :=
  subi (addi (pickOf cum first) (itemOf cum)) (pickOf cum (subi cum count))

/-- The row tile of each grid point, its group, and the first row of that group and the row after the last. -/
def hTile (gs : IVec S16 32) : IVec S111 32 := tileOf (hCum gs) (hCount gs) (hFirst gs)
def hGroup (gs : IVec S16 32) : IVec S111 32 := groupOf (hCum gs)
def hLo (gs : IVec S16 32) : IVec S111 32 := pickOf (hCum gs) (hStart gs)
def hHi (gs : IVec S16 32) : IVec S111 32 := pickOf (hCum gs) (hEnd gs)

/-- The scales, one column per output column. -/
def hScale (s : FVec F S16x48x16 .f32) : FVec F S16x48x2048 .f32 :=
  extf .f32 (shapeCast S16x48x2048 (broadcastInDim S16x48x16x128 ![0, 1, 2] bcast_S16x48x16_S16x48x16x128_0_1_2 (truncf .bf16 s bitsLt_bf16_f32))
    shapeCasts_S16x48x16x128_S16x48x2048) bitsLt_bf16_f32

variable (m : (ℓ : Loc nD τ sig) → Buf (Elt F) ℓ)

/-- The host operations, stretch by stretch. -/
abbrev hostStretches : List (List (HloOp τ sig (Elt F))) :=
  [hostOps0, hostOps0_1, hostOps0_2, hostOps0_3, hostOps0_4, hostOps0_5, hostOps0_6, hostOps0_7, hostOps0_8]

/-- A core's buffers when the kernel is called. -/
def V (c : Dev nD) (b : DevRef τ sig) : Buf (Elt F) ((c, b) : Loc nD τ sig) := after hostStretches.flatten (fun b => m (c, b)) b

abbrev gsOf (c : Dev nD) : IVec S16 32 := m ((c.tc : Thread nD τ).loc main_arg1)
abbrev scOf (c : Dev nD) : FVec F S16x48x16 .f32 := m ((c.tc : Thread nD τ).loc main_arg3)

/-- Two stretches run one after the other. -/
theorem after_append' : ∀ (l₁ l₂ : List (HloOp τ sig (Elt F))) (W : Valuation τ sig (Elt F)), after (l₁ ++ l₂) W = after l₂ (after l₁ W)
  | [], _, _ => rfl
  | op :: l₁, l₂, W => by
    rw [List.cons_append, StableHlo.after_cons, StableHlo.after_cons, after_append' l₁ l₂]

section Last
variable (W : Valuation τ sig (Elt F))

theorem last_tile : after hostOps0_8 W (Proc.devRef .tc main_v42)
    = tileOf (W (Proc.devRef .tc main_v12)) (W (Proc.devRef .tc main_v11)) (W (Proc.devRef .tc main_v2)) := by
  after_reads_simp
  rfl
theorem last_group : after hostOps0_8 W (Proc.devRef .tc main_v25) = groupOf (W (Proc.devRef .tc main_v12)) := by
  after_reads_simp
  rfl
theorem last_lo : after hostOps0_8 W (Proc.devRef .tc main_v53)
    = pickOf (W (Proc.devRef .tc main_v12)) (W (Proc.devRef .tc main_v1)) := by
  after_reads_simp
  rfl
theorem last_hi : after hostOps0_8 W (Proc.devRef .tc main_v60)
    = pickOf (W (Proc.devRef .tc main_v12)) (W (Proc.devRef .tc main_v0)) := by
  after_reads_simp
  rfl
theorem last_scale : after hostOps0_8 W (Proc.devRef .tc main_v46) = hScale (W (Proc.devRef .tc main_arg3)) := by
  after_reads_simp
  rfl
end Last

/-- The buffers before the last stretch. -/
def W0 (c : Dev nD) : Valuation τ sig (Elt F) :=
  after [hostOps0, hostOps0_1, hostOps0_2, hostOps0_3, hostOps0_4, hostOps0_5, hostOps0_6, hostOps0_7].flatten (fun b => m (c, b))

theorem V_eq (c : Dev nD) (b : DevRef τ sig) : V m c b = after hostOps0_8 (W0 m c) b := by
  unfold V W0
  rw [← after_append']
  rfl

theorem W0_end (c : Dev nD) : W0 m c (Proc.devRef .tc main_v0) = hEnd (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_start (c : Dev nD) : W0 m c (Proc.devRef .tc main_v1) = hStart (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_first (c : Dev nD) : W0 m c (Proc.devRef .tc main_v2) = hFirst (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_count (c : Dev nD) : W0 m c (Proc.devRef .tc main_v11) = hCount (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_cum (c : Dev nD) : W0 m c (Proc.devRef .tc main_v12) = hCum (gsOf m c) := by
  unfold W0
  simp only [List.flatten_cons, List.flatten_nil, List.append_nil]
  after_reads_simp
  simp only [StableHlo.TRef.ofBuf_toBuf]
  simp -implicitDefEqProofs only [StableHlo.TRef.ofBuf, StableHlo.TRef.toBuf, cast_eq, id]
  rfl
theorem W0_scale (c : Dev nD) : W0 m c (Proc.devRef .tc main_arg3) = scOf m c := by
  unfold W0; simp only [List.flatten_cons, List.flatten_nil, List.append_nil]
  after_reads_simp

theorem V_tile (c : Dev nD) : V m c (Proc.devRef .tc main_v42) = hTile (gsOf m c) := by
  rw [V_eq, last_tile, W0_cum, W0_count, W0_first]; rfl
theorem V_group (c : Dev nD) : V m c (Proc.devRef .tc main_v25) = hGroup (gsOf m c) := by
  rw [V_eq, last_group, W0_cum]; rfl
theorem V_lo (c : Dev nD) : V m c (Proc.devRef .tc main_v53) = hLo (gsOf m c) := by
  rw [V_eq, last_lo, W0_cum, W0_start]; rfl
theorem V_hi (c : Dev nD) : V m c (Proc.devRef .tc main_v60) = hHi (gsOf m c) := by
  rw [V_eq, last_hi, W0_cum, W0_end]; rfl
theorem V_scale (c : Dev nD) : V m c (Proc.devRef .tc main_v46) = hScale (scOf m c) := by
  rw [V_eq, last_scale, W0_scale]

theorem V_arg0 (c : Dev nD) : V m c (Proc.devRef .tc main_arg0) = m ((c.tc : Thread nD τ).loc main_arg0) := by
  unfold V; simp only [hostStretches, List.flatten_cons, List.flatten_nil, List.append_nil]
  after_reads_simp
theorem V_arg1 (c : Dev nD) : V m c (Proc.devRef .tc main_arg1) = m ((c.tc : Thread nD τ).loc main_arg1) := by
  unfold V; simp only [hostStretches, List.flatten_cons, List.flatten_nil, List.append_nil]
  after_reads_simp
theorem V_arg2 (c : Dev nD) : V m c (Proc.devRef .tc main_arg2) = m ((c.tc : Thread nD τ).loc main_arg2) := by
  unfold V; simp only [hostStretches, List.flatten_cons, List.flatten_nil, List.append_nil]
  after_reads_simp
theorem V_arg3 (c : Dev nD) : V m c (Proc.devRef .tc main_arg3) = m ((c.tc : Thread nD τ).loc main_arg3) := by
  unfold V; simp only [hostStretches, List.flatten_cons, List.flatten_nil, List.append_nil]
  after_reads_simp

end Cert.KernelIdeal.Hand

end
-- ==== Proof.Quant.lean ====
/-
  Quantising a group of 128 activations and multiplying back, over the extended reals: the scale found by doubling and
  the scale found from a logarithm give the same value.
-/
module

public import Idealize.ShloMosaic.PureOps.Ideal
public import Mathlib.Tactic.Linarith
public import Mathlib.Tactic.NormNum
public import Mathlib.Tactic.Positivity
public import Mathlib.Tactic.Ring

@[expose] public section

noncomputable section

namespace Cert.Quant

open Idealize.ShloMosaic

/-- Multiply by the scale's reciprocal, clip to the format's range, multiply back. -/
def clipBack (s i v : EReal) : EReal := min ((448 : ℝ) : EReal) (max ((-448 : ℝ) : EReal) (v * i)) * s

/-- One doubling of the scale and halving of its reciprocal, while the greatest magnitude does not fit. -/
def grow (a : EReal) (p : EReal × EReal) : EReal × EReal :=
  (if p.1 * ((448 : ℝ) : EReal) ≤ a then p.1 * ((2 : ℝ) : EReal) else p.1,
   if p.1 * ((448 : ℝ) : EReal) ≤ a then p.2 * ((1 / 2 : ℝ) : EReal) else p.2)

/-- The scale and its reciprocal after 246 doublings. -/
def grown (a : EReal) : EReal × EReal :=
  (grow a)^[246] ((((2 : ℝ) ^ (-126 : ℤ) : ℝ) : EReal), (((2 : ℝ) ^ (126 : ℤ) : ℝ) : EReal))

/-- The least greatest magnitude the doubling looks at. -/
def floorOf (a : EReal) : EReal := max a (((2 : ℝ) ^ (-118 : ℤ) : ℝ) : EReal)

/-- The scale's exponent from a logarithm. -/
def expo (a : EReal) : EReal :=
  min (if a = 0 then 0
    else Ideal.liftRound Int.floor (Ideal.div (Ideal.log (Ideal.div a ((448 : ℝ) : EReal))) (Ideal.log ((2 : ℝ) : EReal))) + 1)
    ((120 : ℝ) : EReal)

/-- A value of a group whose greatest magnitude is `a`, quantised and multiplied back: scale by doubling, -/
def byDoubling (a v : EReal) : EReal := clipBack (grown (floorOf a)).1 (grown (floorOf a)).2 v
/-- and scale by logarithm. -/
def byLog (a v : EReal) : EReal := clipBack (Ideal.exp2 (expo a)) (Ideal.exp2 (0 - expo a)) v

/-- What `n` doublings leave. -/
theorem grow_inv (a : EReal) (n : ℕ) : ∃ j : ℕ, j ≤ n ∧
    (grow a)^[n] ((((2 : ℝ) ^ (-126 : ℤ) : ℝ) : EReal), (((2 : ℝ) ^ (126 : ℤ) : ℝ) : EReal))
      = ((((2 : ℝ) ^ ((j : ℤ) - 126) : ℝ) : EReal), (((2 : ℝ) ^ (-((j : ℤ) - 126)) : ℝ) : EReal))
    ∧ (a < ((448 * (2 : ℝ) ^ ((j : ℤ) - 126) : ℝ) : EReal) ∨ j = n) := by
  induction n with
  | zero => exact ⟨0, le_rfl, by simp, Or.inr rfl⟩
  | succ n ih =>
    obtain ⟨j, hj, he, hc⟩ := ih
    rw [Function.iterate_succ_apply', he]
    have hm : (((2 : ℝ) ^ ((j : ℤ) - 126) : ℝ) : EReal) * ((448 : ℝ) : EReal) = ((448 * (2 : ℝ) ^ ((j : ℤ) - 126) : ℝ) : EReal) := by
      rw [← EReal.coe_mul, mul_comm]
    by_cases h : ((448 * (2 : ℝ) ^ ((j : ℤ) - 126) : ℝ) : EReal) ≤ a
    · have hjn : j = n := hc.resolve_left (not_lt.mpr h)
      refine ⟨j + 1, by omega, ?_, Or.inr (by omega)⟩
      unfold grow
      simp only [hm, if_pos h]
      rw [← EReal.coe_mul, ← EReal.coe_mul]
      have e1 : (2 : ℝ) ^ ((j : ℤ) - 126) * 2 = (2 : ℝ) ^ (((j + 1 : ℕ) : ℤ) - 126) := by
        rw [← zpow_add_one₀ (by norm_num)]; congr 1; push_cast; ring
      have e2 : (2 : ℝ) ^ (-((j : ℤ) - 126)) * (1 / 2) = (2 : ℝ) ^ (-(((j + 1 : ℕ) : ℤ) - 126)) := by
        rw [one_div, ← zpow_sub_one₀ (by norm_num)]; congr 1; push_cast; ring
      rw [e1, e2]
    · refine ⟨j, by omega, ?_, Or.inl (not_le.mp h)⟩
      unfold grow
      simp only [hm, if_neg h]

/-- A magnitude that fits comes back unchanged. -/
theorem clipBack_fits (a v : EReal) (p : ℤ) (hp : v ≤ a) (hn : -v ≤ a) (h : a < ((448 * (2 : ℝ) ^ p : ℝ) : EReal)) :
    clipBack (((2 : ℝ) ^ p : ℝ) : EReal) (((2 : ℝ) ^ (-p) : ℝ) : EReal) v = v := by
  have h2 : (0 : ℝ) < (2 : ℝ) ^ p := by positivity
  have h2' : (0 : ℝ) < (2 : ℝ) ^ (-p) := by positivity
  have hinv : (2 : ℝ) ^ p * (2 : ℝ) ^ (-p) = 1 := by rw [← zpow_add₀ (by norm_num)]; simp
  induction v with
  | bot => exact absurd ((by simpa using hn : a = ⊤) ▸ h) (not_lt.mpr le_top)
  | top => exact absurd ((top_le_iff.mp hp) ▸ h) (not_lt.mpr le_top)
  | coe r =>
    have h1 : r < 448 * (2 : ℝ) ^ p := EReal.coe_lt_coe_iff.mp (lt_of_le_of_lt hp h)
    have h1' : -r < 448 * (2 : ℝ) ^ p := EReal.coe_lt_coe_iff.mp (lt_of_le_of_lt hn h)
    have u : r * (2 : ℝ) ^ (-p) < 448 := by
      calc r * (2 : ℝ) ^ (-p) < 448 * (2 : ℝ) ^ p * (2 : ℝ) ^ (-p) := mul_lt_mul_of_pos_right h1 h2'
        _ = 448 := by rw [mul_assoc, hinv, mul_one]
    have l : -448 < r * (2 : ℝ) ^ (-p) := by
      have : -r * (2 : ℝ) ^ (-p) < 448 := by
        calc -r * (2 : ℝ) ^ (-p) < 448 * (2 : ℝ) ^ p * (2 : ℝ) ^ (-p) := mul_lt_mul_of_pos_right h1' h2'
          _ = 448 := by rw [mul_assoc, hinv, mul_one]
      linarith
    unfold clipBack
    rw [← EReal.coe_mul, max_eq_right (EReal.coe_le_coe_iff.mpr l.le), min_eq_right (EReal.coe_le_coe_iff.mpr u.le), ← EReal.coe_mul,
      mul_assoc, mul_comm ((2 : ℝ) ^ (-p)), hinv, mul_one]

theorem byDoubling_fits (a v : EReal) (hp : v ≤ a) (hn : -v ≤ a) (h : a < ((448 * (2 : ℝ) ^ (120 : ℤ) : ℝ) : EReal)) :
    byDoubling a v = v := by
  obtain ⟨j, hj, he, hc⟩ := grow_inv (floorOf a) 246
  have ha : a ≤ floorOf a := le_max_left _ _
  unfold byDoubling grown
  rw [he]
  refine clipBack_fits (floorOf a) v _ (hp.trans ha) (hn.trans ha) ?_
  rcases hc with hc | rfl
  · exact hc
  · refine max_lt h (EReal.coe_lt_coe_iff.mpr ?_)
    norm_num

theorem byDoubling_big (a v : EReal) (h : ((448 * (2 : ℝ) ^ (120 : ℤ) : ℝ) : EReal) ≤ a) :
    byDoubling a v = clipBack (((2 : ℝ) ^ (120 : ℤ) : ℝ) : EReal) (((2 : ℝ) ^ (-120 : ℤ) : ℝ) : EReal) v := by
  obtain ⟨j, hj, he, hc⟩ := grow_inv (floorOf a) 246
  have hj' : j = 246 := by
    refine hc.resolve_left (not_lt.mpr (le_trans ?_ (h.trans (le_max_left _ _))))
    refine EReal.coe_le_coe_iff.mpr (mul_le_mul_of_nonneg_left (zpow_le_zpow_right₀ (by norm_num) ?_) (by norm_num))
    omega
  subst hj'
  unfold byDoubling grown
  rw [he]
  norm_num

theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

theorem log_coe (x : ℝ) (hx : 0 < x) : Ideal.log (x : EReal) = ((Real.log x : ℝ) : EReal) := by
  show (if x ≤ 0 then (⊥ : EReal) else _) = _
  rw [if_neg (not_le.mpr hx)]

theorem exp2_coe (n : ℤ) : Ideal.exp2 (((n : ℝ) : EReal)) = (((2 : ℝ) ^ n : ℝ) : EReal) := by
  show ((Real.rpow 2 (n : ℝ) : ℝ) : EReal) = _
  exact congrArg _ (Real.rpow_intCast 2 n)

/-- The exponent of a positive real group. -/
theorem expo_coe (r : ℝ) (hr : 0 < r) :
    expo (r : EReal) = (((min (⌊Real.log (r / 448) / Real.log 2⌋ + 1) 120 : ℤ) : ℝ) : EReal) := by
  unfold expo
  rw [if_neg (by simpa using hr.ne'), div_coe _ _ (by norm_num), log_coe _ (by positivity), log_coe _ (by norm_num),
    div_coe _ _ (Real.log_pos (by norm_num)).ne']
  show min ((((⌊Real.log (r / 448) / Real.log 2⌋ : ℤ) : ℝ) : EReal) + 1) _ = _
  rw [show (1 : EReal) = ((1 : ℝ) : EReal) from rfl, ← EReal.coe_add, ← EReal.coe_strictMono.monotone.map_min]
  refine congrArg _ ?_
  rw [Int.cast_min]; push_cast; rfl

theorem neg_expo (n : ℤ) : (0 : EReal) - ((n : ℝ) : EReal) = (((-n : ℤ) : ℝ) : EReal) := by
  rw [zero_sub, ← EReal.coe_neg]; push_cast; rfl

theorem byLog_fits (a v : EReal) (h0 : 0 ≤ a) (hp : v ≤ a) (hn : -v ≤ a) (h : a < ((448 * (2 : ℝ) ^ (120 : ℤ) : ℝ) : EReal)) :
    byLog a v = v := by
  induction a with
  | bot => exact absurd h0 (by simp)
  | top => exact absurd h (not_lt.mpr le_top)
  | coe r =>
    have hr0 : 0 ≤ r := by simpa using h0
    unfold byLog
    rcases hr0.eq_or_lt with h0 | hr
    · subst h0
      have e : expo ((0 : ℝ) : EReal) = (((0 : ℤ) : ℝ) : EReal) := by
        unfold expo
        rw [if_pos (by simp)]
        simp
      rw [e, neg_expo, exp2_coe, exp2_coe]
      exact clipBack_fits _ _ _ hp hn (EReal.coe_lt_coe_iff.mpr (by positivity))
    · rw [expo_coe r hr, neg_expo, exp2_coe, exp2_coe]
      refine clipBack_fits _ _ _ hp hn ?_
      rcases le_total (⌊Real.log (r / 448) / Real.log 2⌋ + 1) 120 with hm | hm
      · rw [min_eq_left hm]
        refine EReal.coe_lt_coe_iff.mpr ?_
        have hl := Int.lt_floor_add_one (Real.log (r / 448) / Real.log 2)
        rw [div_lt_iff₀ (Real.log_pos (by norm_num)),
          show ((⌊Real.log (r / 448) / Real.log 2⌋ : ℝ) + 1) = ((⌊Real.log (r / 448) / Real.log 2⌋ + 1 : ℤ) : ℝ) by push_cast; rfl,
          ← Real.log_zpow, Real.log_lt_log_iff (by positivity) (by positivity), div_lt_iff₀ (by norm_num)] at hl
        linarith
      · rw [min_eq_right hm]; exact h

theorem byLog_big (a v : EReal) (h : ((448 * (2 : ℝ) ^ (120 : ℤ) : ℝ) : EReal) ≤ a) :
    byLog a v = clipBack (((2 : ℝ) ^ (120 : ℤ) : ℝ) : EReal) (((2 : ℝ) ^ (-120 : ℤ) : ℝ) : EReal) v := by
  have e : expo a = (((120 : ℤ) : ℝ) : EReal) := by
    induction a with
    | bot => exact absurd h (not_le.mpr (EReal.bot_lt_coe _))
    | top =>
      unfold expo
      have h1 : Ideal.div ⊤ ((448 : ℝ) : EReal) = ⊤ := by
        unfold Ideal.div
        rw [if_neg (by norm_num), ← EReal.coe_inv]
        exact EReal.top_mul_coe_of_pos (by norm_num)
      have h2 : Ideal.div ⊤ ((Real.log 2 : ℝ) : EReal) = ⊤ := by
        have := Real.log_pos (show (1 : ℝ) < 2 by norm_num)
        unfold Ideal.div
        rw [if_neg (by simpa using this.ne'), ← EReal.coe_inv]
        exact EReal.top_mul_coe_of_pos (by positivity)
      rw [if_neg (by simp), h1, log_coe _ (by norm_num), show Ideal.log ⊤ = ⊤ from rfl, h2]
      show min ((⊤ : EReal) + 1) _ = _
      rw [show (1 : EReal) = ((1 : ℝ) : EReal) from rfl, EReal.top_add_coe, min_eq_right le_top]
      norm_num
    | coe r =>
      have hr : 448 * (2 : ℝ) ^ (120 : ℤ) ≤ r := EReal.coe_le_coe_iff.mp h
      have hr0 : 0 < r := lt_of_lt_of_le (by positivity) hr
      rw [expo_coe r hr0, min_eq_right]
      have : (120 : ℤ) ≤ ⌊Real.log (r / 448) / Real.log 2⌋ := by
        rw [Int.le_floor, le_div_iff₀ (Real.log_pos (by norm_num)), ← Real.log_zpow,
          Real.log_le_log_iff (by positivity) (by positivity), le_div_iff₀ (by norm_num)]
        linarith
      omega
  unfold byLog
  rw [e, neg_expo, exp2_coe, exp2_coe]

/-- The two scales give the same value. -/
theorem byDoubling_eq_byLog (a v : EReal) (h0 : 0 ≤ a) (hp : v ≤ a) (hn : -v ≤ a) : byDoubling a v = byLog a v := by
  rcases lt_or_ge a ((448 * (2 : ℝ) ^ (120 : ℤ) : ℝ) : EReal) with h | h
  · rw [byDoubling_fits a v hp hn h, byLog_fits a v h0 hp hn h]
  · rw [byDoubling_big a v h, byLog_big a v h]

/-- The greatest magnitude of a group. -/
def amax (f : Fin 128 → EReal) : EReal := Finset.univ.fold max ⊥ fun k => max (f k) (-(f k))

theorem le_amax (f : Fin 128 → EReal) (k : Fin 128) : f k ≤ amax f :=
  (Finset.le_fold_max _).mpr (Or.inr ⟨k, Finset.mem_univ k, le_max_left _ _⟩)

theorem neg_le_amax (f : Fin 128 → EReal) (k : Fin 128) : -(f k) ≤ amax f :=
  (Finset.le_fold_max _).mpr (Or.inr ⟨k, Finset.mem_univ k, le_max_right _ _⟩)

theorem amax_nonneg (f : Fin 128 → EReal) : 0 ≤ amax f := by
  rcases le_total 0 (f 0) with h | h
  · exact h.trans (le_amax f 0)
  · exact (EReal.neg_nonneg.mpr h).trans (neg_le_amax f 0)

/-- An entry of a group, quantised and multiplied back. -/
def back (f : Fin 128 → EReal) (k : Fin 128) : EReal := byLog (amax f) (f k)

theorem byDoubling_eq_back (f : Fin 128 → EReal) (k : Fin 128) : byDoubling (amax f) (f k) = back f k :=
  byDoubling_eq_byLog _ _ (amax_nonneg f) (le_amax f k) (neg_le_amax f k)

/-! ### The constants of the two programs -/

theorem c448 : Ideal.ofBits .f32 0x43E00000#32 = ((448 : ℝ) : EReal) := by
  simp [Ideal.ofBits, Ideal.ieee, -EReal.coe_mul]; norm_num
theorem cn448 : Ideal.ofBits .f32 0xC3E00000#32 = ((-448 : ℝ) : EReal) := by
  simp [Ideal.ofBits, Ideal.ieee, -EReal.coe_mul, -EReal.coe_neg]; norm_num
theorem c2 : Ideal.ofBits .f32 0x40000000#32 = ((2 : ℝ) : EReal) := by
  simp [Ideal.ofBits, Ideal.ieee, -EReal.coe_mul]; norm_num
theorem c120 : Ideal.ofBits .f32 0x42F00000#32 = ((120 : ℝ) : EReal) := by
  simp [Ideal.ofBits, Ideal.ieee, -EReal.coe_mul]; norm_num
theorem cbot : Ideal.ofBits .f32 0xFF800000#32 = ⊥ := by
  simp [Ideal.ofBits, Ideal.ieee]
theorem b448 : Ideal.ofBits .bf16 0x43E0#16 = ((448 : ℝ) : EReal) := by
  simp [Ideal.ofBits, Ideal.ieee, -EReal.coe_mul]; norm_num
theorem b2 : Ideal.ofBits .bf16 0x4000#16 = ((2 : ℝ) : EReal) := by
  simp [Ideal.ofBits, Ideal.ieee, -EReal.coe_mul]; norm_num
theorem bhalf : Ideal.ofBits .bf16 0x3F00#16 = ((1 / 2 : ℝ) : EReal) := by
  simp [Ideal.ofBits, Ideal.ieee, -EReal.coe_mul]; norm_num
theorem bsmall : Ideal.ofBits .bf16 0x0080#16 = (((2 : ℝ) ^ (-126 : ℤ) : ℝ) : EReal) := by
  simp [Ideal.ofBits, Ideal.ieee, -EReal.coe_mul]; norm_num
theorem blarge : Ideal.ofBits .bf16 0x7E80#16 = (((2 : ℝ) ^ (126 : ℤ) : ℝ) : EReal) := by
  rw [show ((2 : ℝ) ^ (126 : ℤ)) = 85070591730234615865843651857942052864 by norm_num]
  simp [Ideal.ofBits, Ideal.ieee, -EReal.coe_mul]; norm_num
theorem bfloor : Ideal.ofBits .bf16 0x0480#16 = (((2 : ℝ) ^ (-118 : ℤ) : ℝ) : EReal) := by
  simp [Ideal.ofBits, Ideal.ieee, -EReal.coe_mul]; norm_num
theorem bbot : Ideal.ofBits .bf16 0xFF80#16 = ⊥ := by
  simp [Ideal.ofBits, Ideal.ieee]

end Cert.Quant

end
-- ==== Proof.Product.lean ====
/-
  The product the kernel and its reference both compute, row by row: a row of dequantised activations times the
  dequantised weights of the expert that owns the row.
-/
module

public import proofs.«01_k».proof.Proof.Quant
public import proofs.«01_k».proof.Proof.Schedule
public import Idealize.ShloMosaic.Lib.WordCmp
public import Mathlib.Algebra.BigOperators.Fin

@[expose] public section

noncomputable section

namespace Cert.Product

open Idealize.ShloMosaic Cert.Quant Cert.Schedule
open scoped BigOperators

/-- An activation of a row, quantised in its group of 128 and multiplied back. -/
def act (x : Fin 6144 → EReal) (k : Fin 6144) : EReal :=
  back (fun l => x ⟨k.val / 128 * 128 + l.val, by have := k.isLt; have := l.isLt; omega⟩) ⟨k.val % 128, Nat.mod_lt _ (by decide)⟩

/-- A weight times the scale of its 128 × 128 block. -/
def wt (w : Fin 6144 → Fin 2048 → EReal) (s : Fin 48 → Fin 16 → EReal) (k : Fin 6144) (c : Fin 2048) : EReal :=
  w k c * s ⟨k.val / 128, by have := k.isLt; omega⟩ ⟨c.val / 128, by have := c.isLt; omega⟩

/-- A row times an expert's weights. -/
def row (x : Fin 6144 → EReal) (w : Fin 6144 → Fin 2048 → EReal) (s : Fin 48 → Fin 16 → EReal) (c : Fin 2048) : EReal :=
  ∑ k, act x k * wt w s k c

theorem act_eq (x : Fin 6144 → EReal) (k : Fin 6144) :
    byLog (amax fun l => x ⟨k.val / 128 * 128 + l.val, by have := k.isLt; have := l.isLt; omega⟩) (x k) = act x k := by
  unfold act back
  refine congrArg _ (congrArg x (Fin.ext ?_))
  show k.val = k.val / 128 * 128 + k.val % 128
  omega

theorem act_eq_doubling (x : Fin 6144 → EReal) (k : Fin 6144) :
    byDoubling (amax fun l => x ⟨k.val / 128 * 128 + l.val, by have := k.isLt; have := l.isLt; omega⟩) (x k) = act x k := by
  unfold act
  rw [← byDoubling_eq_back]
  refine congrArg _ (congrArg x (Fin.ext ?_))
  show k.val = k.val / 128 * 128 + k.val % 128
  omega

/-- Group `e` owns row `r`. -/
def Owns (g : ℕ → ℕ) (e r : ℕ) : Prop := psum g e ≤ r ∧ r < psum g (e + 1)

theorem owner {g : ℕ → ℕ} (hg : psum g 16 = 24576) {r : ℕ} (hr : r < 24576) : ∃ e, e < 16 ∧ Owns g e r := by
  have hex : ∃ e, r < psum g (e + 1) := ⟨15, by rw [hg]; exact hr⟩
  obtain ⟨e, he⟩ : ∃ e, e = Nat.find hex := ⟨_, rfl⟩
  have hs : r < psum g (e + 1) := he ▸ Nat.find_spec hex
  have hl : e ≤ 15 := he ▸ Nat.find_min' hex (by rw [hg]; exact hr)
  refine ⟨e, by omega, ?_, hs⟩
  cases e with
  | zero => exact Nat.zero_le _
  | succ n => exact not_lt.mp (Nat.find_min hex (by omega))

theorem owns_lt {g : ℕ → ℕ} {e e' r : ℕ} (h : Owns g e r) (h' : Owns g e' r) : ¬ e < e' := fun hl => by
  have := psum_mono g (show e + 1 ≤ e' from hl)
  unfold Owns at h h'; omega

theorem owns_unique {g : ℕ → ℕ} {e e' r : ℕ} (h : Owns g e r) (h' : Owns g e' r) : e = e' := by
  have := owns_lt h h'; have := owns_lt h' h; omega

/-- The group that owns a row. -/
def ownerOf {g : ℕ → ℕ} (hg : psum g 16 = 24576) (r : Fin 24576) : Fin 16 :=
  ⟨(owner hg r.isLt).choose, (owner hg r.isLt).choose_spec.1⟩

theorem ownerOf_owns {g : ℕ → ℕ} (hg : psum g 16 = 24576) (r : Fin 24576) : Owns g (ownerOf hg r).val r.val :=
  (owner hg r.isLt).choose_spec.2

theorem ownerOf_eq {g : ℕ → ℕ} (hg : psum g 16 = 24576) (r : Fin 24576) (e : Fin 16) (h : Owns g e.val r.val) : ownerOf hg r = e :=
  Fin.ext (owns_unique (ownerOf_owns hg r) h)

/-- The whole product: each row with the weights of the group that owns it. -/
def result {g : ℕ → ℕ} (hg : psum g 16 = 24576) (x : Fin 24576 → Fin 6144 → EReal) (w : Fin 16 → Fin 6144 → Fin 2048 → EReal)
    (s : Fin 16 → Fin 48 → Fin 16 → EReal) (r : Fin 24576) (c : Fin 2048) : EReal :=
  row (x r) (w (ownerOf hg r)) (s (ownerOf hg r)) c

theorem toInt_small {n : ℕ} (h : n ≤ 24576) : (BitVec.ofNat 32 n).toInt = n := by
  rw [BitVec.toInt_eq_toNat_cond, BitVec.toNat_ofNat]; split <;> omega

/-- The mask bit of a row. -/
theorem mask_bit {n lo hi : ℕ} (hn : n ≤ 24576) (hl : lo ≤ 24576) (hh : hi ≤ 24576) :
    IntOp.andi (IntOp.cmpi .sge (BitVec.ofNat 32 n) (BitVec.ofNat 32 lo)) (IntOp.cmpi .slt (BitVec.ofNat 32 n) (BitVec.ofNat 32 hi)) = 1#1
      ↔ lo ≤ n ∧ n < hi := by
  rw [show ∀ a b : BitVec 1, (IntOp.andi a b = 1#1 ↔ a = 1#1 ∧ b = 1#1) by decide]
  simp only [IntOp.cmpi, WordCmp.ofBool_eq_one_iff, BitVec.sle, BitVec.slt, decide_eq_true_eq, toInt_small hn, toInt_small hl, toInt_small hh]
  omega

end Cert.Product

end
-- ==== Proof.Ideal.QuantVal.lean ====
/-
  The kernel's payloads at an index, over the extended reals: the quantised activation tile, the dequantised weights,
  and what a point does to its output tile.
-/
module

public import proofs.«01_k».proof.Proof.Ideal.Body
public import proofs.«01_k».proof.Proof.Ideal.HostRun
public import proofs.«01_k».proof.Proof.Product
public import Idealize.ShloMosaic.Lib.Pointwise
public import Idealize.ShloMosaic.Lib.MatmulPlain

@[expose] public section

set_option maxRecDepth 16384

noncomputable section

namespace Cert.KernelIdeal.Hand

open Cert.KernelIdeal.Gen
open Idealize.ShloMosaic Idealize.ShloMosaic.TcCoe
open Cert.Quant Cert.Product Cert.Schedule

theorem pay5_apply (v a : FVec Ideal S256x128 .bf16) (r : Fin 256) (l : Fin 128) :
    k0_pay5 v a (ix2 r l) = if a (ix2 r l) * ((448 : ℝ) : EReal) ≤ floorOf (amax fun k => v (ix2 r k)) then a (ix2 r l) * ((2 : ℝ) : EReal) else a (ix2 r l) := by
  unfold k0_pay5 k0_pay4
  pointwise
  rw [b448, b2, bbot, bfloor]
  rfl

theorem pay6_apply (v a b : FVec Ideal S256x128 .bf16) (r : Fin 256) (l : Fin 128) :
    k0_pay6 v a b (ix2 r l) = if a (ix2 r l) * ((448 : ℝ) : EReal) ≤ floorOf (amax fun k => v (ix2 r k)) then b (ix2 r l) * ((1 / 2 : ℝ) : EReal) else b (ix2 r l) := by
  unfold k0_pay6 k0_pay4
  pointwise
  rw [b448, bhalf, bbot, bfloor]
  rfl

theorem pay7_apply (v a b : FVec Ideal S256x128 .bf16) (r : Fin 256) (l : Fin 128) :
    k0_pay7 v a b (ix2 r l) = clipBack (a (ix2 r l)) (b (ix2 r l)) (v (ix2 r l)) := by
  unfold k0_pay7
  pointwise
  rw [c448, cn448]
  rfl

theorem pay2_apply (j : S256x128.Idx) : k0_pay2 (F := Ideal) j = (((2 : ℝ) ^ (-126 : ℤ) : ℝ) : EReal) := bsmall
theorem pay3_apply (j : S256x128.Idx) : k0_pay3 (F := Ideal) j = (((2 : ℝ) ^ (126 : ℤ) : ℝ) : EReal) := blarge

theorem pay8_apply (t : ℕ) (lo hi : BitVec 32) (r : Fin 256) (z : Fin 1) :
    k0_pay8 (F := Ideal) (BitVec.ofNat 32 t) lo hi (ix2 r z)
      = IntOp.andi (IntOp.cmpi .sge (BitVec.ofNat 32 (t * 256 + r.val)) lo) (IntOp.cmpi .slt (BitVec.ofNat 32 (t * 256 + r.val)) hi) := by
  have e : IntOp.addi (Scalar.muli (BitVec.ofNat 32 t) 256#32) (BitVec.ofNat 32 r.val) = BitVec.ofNat 32 (t * 256 + r.val) := by
    rw [BitVec.ofNat_add, BitVec.ofNat_mul]; rfl
  unfold k0_pay8
  pointwise
  rw [e]

theorem pay9_apply (w : Vec Ideal S1x128x512 .fp8e4m3) (s : Vec Ideal S1x1x512 .f32) (k : Fin 128) (c : Fin 512) :
    k0_pay9 w s (ix2 k c) = w (ix3 0 k c) * s (ix3 0 0 c) := by
  unfold k0_pay9
  pointwise
  try rfl

theorem pay12_apply (M : IVec S256x1 1) (x : Vec Ideal S256x6144 .bf16) (w : Vec Ideal S6144x512 .bf16) (y : Vec Ideal S256x512 .bf16) (r : Fin 256) (c : Fin 512) :
    k0_pay12 M x w y (ix2 r c) = Scalar.select (M (ix2 r 0)) (∑ k : Fin 6144, x (ix2 r k) * w (ix2 k c)) (y (ix2 r c)) := by
  unfold k0_pay12
  pointwise
  try rfl

theorem hScale_apply (s : FVec Ideal S16x48x16 .f32) (e : Fin 16) (a : Fin 48) (c : Fin 2048) :
    hScale s (ix3 e a c) = s (ix3 e a ⟨c.val / 128, by omega⟩) := by
  unfold hScale
  pointwise
  try rfl

/-! ### The activation tile -/

theorem colBlock_apply (X : Vec Ideal S256x6144 .bf16) (b : Fin 48) (r : Fin 256) (l : Fin 128) :
    colBlock X b (ix2 r l) = X (ix2 r ⟨b.val * 128 + l.val, by omega⟩) := by
  unfold colBlock
  refine congrArg X (congrArg (ix2 r) (Fin.ext ?_))
  show 128 * b.val + l.val = b.val * 128 + l.val
  omega

/-- The doublings at one entry. -/
theorem fold_apply {α : Type} (v : FVec Ideal S256x128 .bf16) (r : Fin 256) (l : Fin 128) :
    ∀ (L : List α) (p : FVec Ideal S256x128 .bf16 × FVec Ideal S256x128 .bf16),
      (fun q : FVec Ideal S256x128 .bf16 × FVec Ideal S256x128 .bf16 => (q.1 (ix2 r l), q.2 (ix2 r l)))
          (L.foldl (fun a _ => (k0_pay5 v a.1, k0_pay6 v a.1 a.2)) p)
        = (grow (floorOf (amax fun k => v (ix2 r k))))^[L.length] (p.1 (ix2 r l), p.2 (ix2 r l))
  | [], _ => rfl
  | _ :: L, p => by
    rw [List.foldl_cons, fold_apply v r l L, List.length_cons, Function.iterate_succ_apply]
    refine congrArg _ ?_
    show (k0_pay5 v p.1 (ix2 r l), k0_pay6 v p.1 p.2 (ix2 r l)) = _
    rw [pay5_apply, pay6_apply]
    rfl

theorem trips_eq : k0_t2_loop.trips = 246 := by decide +kernel

theorem scales_fold (v : FVec Ideal S256x128 .bf16) :
    scales (F := Ideal) v = (List.finRange k0_t2_loop.trips).foldl (fun (a : FVec Ideal S256x128 .bf16 × FVec Ideal S256x128 .bf16) _ => (k0_pay5 (F := Ideal) v a.1, k0_pay6 (F := Ideal) v a.1 a.2)) (k0_pay2, k0_pay3) := by
  unfold scales
  rw [Scf.fold_eq]

theorem scales_apply (v : FVec Ideal S256x128 .bf16) (r : Fin 256) (l : Fin 128) :
    Prod.mk (α := EReal) (β := EReal) ((scales (F := Ideal) v).1 (ix2 r l)) ((scales (F := Ideal) v).2 (ix2 r l)) = grown (floorOf (amax fun k => v (ix2 r k))) := by
  have h := fold_apply v r l (List.finRange k0_t2_loop.trips) (k0_pay2, k0_pay3)
  rw [← scales_fold, List.length_finRange] at h
  refine Eq.trans h ?_
  rw [trips_eq]
  unfold grown
  exact congrArg _ (Prod.ext (pay2_apply (ix2 r l)) (pay3_apply (ix2 r l)))

/-- The quantised tile. -/
theorem quantTile_apply (X : Vec Ideal S256x6144 .bf16) (r : Fin 256) (k : Fin 6144) :
    quantTile X (ix2 r k) = act (fun k => X (ix2 r k)) k := by
  have hs := scales_apply (colBlock X ⟨k.val / 128, by omega⟩) r ⟨k.val % 128, by omega⟩
  have h1 := congrArg Prod.fst hs
  have h2 := congrArg Prod.snd hs
  dsimp only at h1 h2
  show k0_pay7 (colBlock X ⟨k.val / 128, by omega⟩) (scales (colBlock X ⟨k.val / 128, by omega⟩)).1 (scales (colBlock X ⟨k.val / 128, by omega⟩)).2
    (ix2 r ⟨k.val % 128, by omega⟩) = _
  rw [pay7_apply, h1, h2]
  simp only [colBlock_apply]
  unfold act
  rw [← byDoubling_eq_back]
  rfl

/-! ### The weights -/

theorem deqQuarter_apply (W : Vec Ideal S1x6144x2048 .fp8e4m3) (S : Vec Ideal S1x48x2048 .f32) (q : Fin 4) (k : Fin 6144) (c : Fin 512) :
    deqQuarter W S q (ix2 k c) = W (ix3 0 k ⟨512 * q.val + c.val, by omega⟩) * S (ix3 0 ⟨k.val / 128, by omega⟩ ⟨512 * q.val + c.val, by omega⟩) := by
  show k0_pay9 (wBlock W q ⟨k.val / 128, by omega⟩) (sBlock S q ⟨k.val / 128, by omega⟩) (ix2 ⟨k.val % 128, by omega⟩ c) = _
  rw [pay9_apply]
  refine congrArg₂ _ (congrArg W ?_) rfl
  refine congrArg (fun z => ix3 (n0 := 1) (n1 := 6144) (n2 := 2048) 0 z ⟨512 * q.val + c.val, by omega⟩) (Fin.ext ?_)
  show 128 * (k.val / 128) + k.val % 128 = k.val
  omega

/-! ### A point -/

theorem outStep_apply (M : IVec S256x1 1) (Q : Vec Ideal S256x6144 .bf16) (W : Vec Ideal S1x6144x2048 .fp8e4m3) (S : Vec Ideal S1x48x2048 .f32)
    (Y : Vec Ideal S256x2048 .bf16) (r : Fin 256) (c : Fin 2048) :
    outStep M Q W S Y (ix2 r c)
      = Scalar.select (M (ix2 r 0)) (∑ k : Fin 6144, Q (ix2 r k) * (W (ix3 0 k c) * S (ix3 0 ⟨k.val / 128, by omega⟩ c))) (Y (ix2 r c)) := by
  have hc : (⟨512 * (c.val / 512) + c.val % 512, by omega⟩ : Fin 2048) = c := Fin.ext (by show 512 * (c.val / 512) + c.val % 512 = c.val; omega)
  show k0_pay12 M Q (deqQuarter W S ⟨c.val / 512, by omega⟩) (quarterOf Y ⟨c.val / 512, by omega⟩) (ix2 r ⟨c.val % 512, by omega⟩) = _
  rw [pay12_apply]
  simp only [deqQuarter_apply]
  have hy : quarterOf Y ⟨c.val / 512, by omega⟩ (ix2 r ⟨c.val % 512, by omega⟩) = Y (ix2 r c) := congrArg Y (congrArg (ix2 r) hc)
  rw [hy, hc]

end Cert.KernelIdeal.Hand

end
-- ==== Proof.Ideal.Tables.lean ====
/-
  The four prefetched tables under the precondition: at each grid point the tile, the group, and the group's first row and
  the row after its last, as the words of the schedule's numbers.
-/
module

public import proofs.«01_k».proof.Proof.Ideal.HostRun
public import proofs.«01_k».proof.Proof.Sizes
public import Idealize.ShloMosaic.Lib.PlanTiles.Rows
public import Idealize.ShloMosaic.Lib.Routing.OpsSet

@[expose] public section

set_option maxRecDepth 16384

noncomputable section

namespace Cert.KernelIdeal.Hand

open Cert.KernelIdeal.Gen Cert.Schedule
open Idealize.ShloMosaic Idealize.ShloMosaic.ValueIdx Idealize.ShloMosaic.Routing Idealize.ShloMosaic.WordCmp

variable {F : FTy → Type} [FloatOps F]

theorem cumsum_word (x : IVec S16 32) (f : ℕ → ℕ) (hx : ∀ i : Fin 16, x (ix1 i) = BitVec.ofNat 32 (f i.val)) (j : Fin 16) :
    cumsum x (ix1 j) = BitVec.ofNat 32 (psum f (j.val + 1)) :=
  cumsum1 (N := 16) (Nm1 := 15) rfl x f hx _ (by rw [bc0]; rfl) _ _ j

theorem lit16_word (b : BitVec 32) (i : S16.Idx) : lit16 b i = b := by
  unfold lit16; rw [bc0]; rfl

theorem floor256_word (x : IVec S16 32) (i : S16.Idx) {a : ℕ} (hx : x i = BitVec.ofNat 32 a) (ha : a < 2 ^ 31) :
    floor256 x i = BitVec.ofNat 32 (a / 256) :=
  pyDiv_ap bcast_S_S16 x (constantI S_ 32 256#32) i hx rfl ha (by decide) (by decide)

theorem one_idx (i j : S1.Idx) : i = j := by
  funext a
  match a with
  | ⟨0, _⟩ =>
    have h1 := (i 0).isLt
    have h2 := (j 0).isLt
    change (i 0).val < 1 at h1
    change (j 0).val < 1 at h2
    exact Fin.ext (show (i 0).val = (j 0).val by omega)

section
variable {gs : IVec S16 32} {g : ℕ → ℕ} (h : Sizes gs g)
include h

theorem psum_lt (k : ℕ) (hk : k ≤ 16) : psum g k ≤ 24576 := h.total ▸ psum_mono g hk

theorem hEnd_word (j : Fin 16) : hEnd gs (ix1 j) = BitVec.ofNat 32 (psum g (j.val + 1)) := cumsum_word gs g h.word j
theorem hStart_word (j : Fin 16) : hStart gs (ix1 j) = BitVec.ofNat 32 (psum g j.val) := by
  unfold hStart
  rw [subi_ap, hEnd_word h, h.word, psum_succ, ofNat32_sub (Nat.le_add_left _ _), Nat.add_sub_cancel]
theorem hFirst_word (j : Fin 16) : hFirst gs (ix1 j) = BitVec.ofNat 32 (psum g j.val / 256) :=
  floor256_word _ _ (hStart_word h j) (by have := psum_lt h j.val j.isLt.le; omega)
theorem hCount_word (j : Fin 16) : hCount gs (ix1 j) = BitVec.ofNat 32 (cnt g j.val) := by
  have hp := psum_lt h (j.val + 1) j.isLt
  have hs := psum_succ g j.val
  have e : floor256 (subi (addi (hEnd gs) (lit16 256#32)) (lit16 1#32)) (ix1 j) = BitVec.ofNat 32 ((psum g (j.val + 1) + 255) / 256) := by
    refine floor256_word _ _ ?_ (by omega)
    rw [subi_ap, addi_ap, lit16_word, lit16_word, hEnd_word h, show (256#32 : BitVec 32) = BitVec.ofNat 32 256 from rfl, show (1#32 : BitVec 32) = BitVec.ofNat 32 1 from rfl,
      BitVec.ofNat_add_ofNat, ofNat32_sub (by omega)]
    congr 1
  unfold hCount
  rw [select_at, cmpi_at, subi_ap, e, hFirst_word h, lit16_word, h.word, ofNat32_sub (by omega), show (0#32 : BitVec 32) = BitVec.ofNat 32 0 from rfl,
    cmpi_sgt_ofNat (w := 32) (show g j.val < 2 ^ 31 by omega) (by decide), select_decide]
  unfold cnt
  split <;> rfl
theorem hCum_word (j : Fin 16) : hCum gs (ix1 j) = BitVec.ofNat 32 (cum g (j.val + 1)) := cumsum_word _ _ (hCount_word h) j

theorem hTotal_word : shapeCast S_ (extractStridedSlice S1 ![15] (hCum gs) slices_S16_S1_15) shapeCasts_S1_S_ ValueIdx.ix0 = BitVec.ofNat 32 (cum g 16) := by
  refine Eq.trans ?_ (hCum_word h 15)
  refine Eq.trans ?_ (slice1 (m := 16) (n := 1) 15 (hCum gs) slices_S16_S1_15 0 (by decide))
  generalize extractStridedSlice S1 ![15] (hCum gs) slices_S16_S1_15 = y
  unfold shapeCast
  exact congrArg y (one_idx _ _)

theorem hItem_word (p : Fin 111) : itemOf (hCum gs) (ix1 p) = BitVec.ofNat 32 (item g p.val) := by
  have hc := cum_le_grid h.total
  have hp := cum_pos h.total
  have hpl := p.isLt
  have e := hTotal_word h
  have hm : ∀ x y : IVec S111 32, minsi x y (ix1 p) = IntOp.minsi (x (ix1 p)) (y (ix1 p)) := fun _ _ => rfl
  unfold itemOf item
  generalize shapeCast S_ (extractStridedSlice S1 ![15] (hCum gs) slices_S16_S1_15) shapeCasts_S1_S_ = z at e ⊢
  generalize cum g 16 = n at *
  rw [hm, bc0, subi_ap, e, constantI_at, show (1#32 : BitVec 32) = BitVec.ofNat 32 1 from rfl, ofNat32_sub (by omega)]
  rw [show iotaInDim S111 32 0 (ix1 p) = BitVec.ofNat 32 p.val from rfl, Idealize.ShloMosaic.PlanTiles.minsi_word (by omega) (by omega), Nat.min_comm]

theorem hGroup_word (p : Fin 111) : hGroup gs (ix1 p) = BitVec.ofNat 32 (grp g p.val) := by
  have hc := cum_le_grid h.total
  have hit := item_lt h.total p.val
  unfold hGroup groupOf
  rw [reduce_count (n := 111) (m := 16) (by decide) _ _ _ _ p (fun q => cum g (q + 1) ≤ item g p.val) (fun q => ?_)]
  · congr 1
    exact (card_filter_fin 16 fun q => cum g (q + 1) ≤ item g p.val).symm
  · have hcq := cum_mono g (show q.val + 1 ≤ 16 from q.isLt)
    rw [← ij_eq_ix2, cmpi_at, StableHlo.Predicate.bcast_rows, StableHlo.Predicate.bcast_cols, ofFin_eq_ix1, ofFin_eq_ix1, hItem_word h, hCum_word h,
      cmpi_sge_ofNat (w := 32) (by omega) (by omega), StableHlo.Predicate.ofBool_eq_one_iff, decide_eq_true_eq]

theorem pick_word (x : IVec S16 32) (p : Fin 111) : pickOf (hCum gs) x (ix1 p) = x (ix1 ⟨grp g p.val, (grp_spec h.total p.val).1⟩) := by
  have hl := (grp_spec h.total p.val).1
  refine gather_take1 (N := 16) (n := 111) _ rfl rfl rfl rfl x _ p ⟨grp g p.val, hl⟩ ?_ (by decide)
  have e := hGroup_word h p
  rw [bcCol, select_at, cmpi_at, bc0, constantI_at]
  change Scalar.select (IntOp.cmpi .slt (hGroup gs (ix1 p)) 0#32) _ (hGroup gs (ix1 p)) = _
  rw [e, show (0#32 : BitVec 32) = BitVec.ofNat 32 0 from rfl, cmpi_slt_ofNat (w := 32) (by omega) (by decide), select_decide, if_neg (Nat.not_lt_zero _)]

theorem hLo_word (p : Fin 111) : hLo gs (ix1 p) = BitVec.ofNat 32 (lo g p.val) := by
  unfold hLo; rw [pick_word h, hStart_word h]; rfl
theorem hHi_word (p : Fin 111) : hHi gs (ix1 p) = BitVec.ofNat 32 (hi g p.val) := by
  unfold hHi; rw [pick_word h, hEnd_word h]; rfl
theorem hTile_word (p : Fin 111) : hTile gs (ix1 p) = BitVec.ofNat 32 (tile g p.val) := by
  have hs := grp_spec h.total p.val
  have hc := cum_succ g (grp g p.val)
  unfold hTile tileOf
  rw [subi_ap, addi_ap, pick_word h, pick_word h, hItem_word h, hFirst_word h, subi_ap, hCum_word h, hCount_word h]
  dsimp only
  rw [hc, ofNat32_sub (Nat.le_add_left _ _), Nat.add_sub_cancel, BitVec.ofNat_add_ofNat, ofNat32_sub (by omega)]
  rfl
end

end Cert.KernelIdeal.Hand

end
-- ==== Proof.Ideal.Adm.lean ====
/-
  The prefetched tables' contents under the precondition, and the side condition the pipeline checks of them: every block
  lies inside its array.
-/
module

public import proofs.«01_k».proof.Proof.Ideal.Tables
public import proofs.«01_k».proof.Proof.Gen.KernelIdeal.Launch

@[expose] public section

set_option maxRecDepth 16384

noncomputable section

namespace Cert.KernelIdeal.Hand

open Cert.KernelIdeal.Gen Cert.Schedule
open Idealize.ShloMosaic Idealize.ShloMosaic.TcCoe
open Idealize.ShloMosaic.ValueIdx (ix1 ix2 ix3)

variable {F : FTy → Type} [FloatOps F]

/-- The tables' contents, of the group sizes. -/
def pfOf (gs : IVec S16 32) : pre0.Contents (Elt F) := fun
  | ⟨0, _⟩ => hTile gs
  | ⟨1, _⟩ => hGroup gs
  | ⟨2, _⟩ => hLo gs
  | ⟨3, _⟩ => hHi gs
  | ⟨_ + 4, h⟩ => absurd h (Nat.not_lt.2 (Nat.le_add_left _ _))

theorem k0_off1_val : ∀ i : grid0.Coords, k0_off1 i = ![(i 0).val] := by decide +kernel

/-- The word an index map reads of table 0, -/
theorem at_tile (pf : pre0.Contents (Elt F)) (i : grid0.Coords) (h : ∀ a, k0_off1 i a + S1.size a ≤ S111.size a) :
    (Pipeline.Prefetch.Contents.at pf 0 (Rect.unit (s := S111) (k0_off1 i) S1.size h) numel1_S1 : BitVec 32) = pf 0 (ix1 (n := 111) (i 0)) := by
  refine congrArg (pf 0) (funext fun a => Fin.ext ?_)
  fin_cases a
  have e := congrFun (k0_off1_val i) 0
  show k0_off1 i 0 + 1 * 0 = (i 0).val
  rw [e]; simp

/-- and of table 1. -/
theorem at_group (pf : pre0.Contents (Elt F)) (i : grid0.Coords) (h : ∀ a, k0_off1 i a + S1.size a ≤ S111.size a) :
    (Pipeline.Prefetch.Contents.at pf 1 (Rect.unit (s := S111) (k0_off1 i) S1.size h) numel1_S1 : BitVec 32) = pf 1 (ix1 (n := 111) (i 0)) := by
  refine congrArg (pf 1) (funext fun a => Fin.ext ?_)
  fin_cases a
  have e := congrFun (k0_off1_val i) 0
  show k0_off1 i 0 + 1 * 0 = (i 0).val
  rw [e]; simp

theorem tr0_eq (pf : pre0.Contents (Elt F)) (i : grid0.Coords) :
    cc0_transform_0 k0_off1_inb numel1_S1 pf i = ![(pf 0 (ix1 (n := 111) (i 0)) : BitVec 32).toNat, 0] := by
  have h := at_tile pf i (k0_off1_inb i)
  unfold cc0_transform_0
  exact congrArg (fun w : BitVec 32 => (![w.toNat, 0] : Fin 2 → ℕ)) h
theorem tr3_eq (pf : pre0.Contents (Elt F)) (i : grid0.Coords) :
    cc0_transform_3 k0_off1_inb numel1_S1 pf i = ![(pf 0 (ix1 (n := 111) (i 0)) : BitVec 32).toNat, 0] := by
  have h := at_tile pf i (k0_off1_inb i)
  unfold cc0_transform_3
  exact congrArg (fun w : BitVec 32 => (![w.toNat, 0] : Fin 2 → ℕ)) h
theorem tr1_eq (pf : pre0.Contents (Elt F)) (i : grid0.Coords) :
    cc0_transform_1 k0_off1_inb numel1_S1 pf i = ![(pf 1 (ix1 (n := 111) (i 0)) : BitVec 32).toNat, 0, 0] := by
  have h := at_group pf i (k0_off1_inb i)
  unfold cc0_transform_1
  exact congrArg (fun w : BitVec 32 => (![w.toNat, 0, 0] : Fin 3 → ℕ)) h
theorem tr2_eq (pf : pre0.Contents (Elt F)) (i : grid0.Coords) :
    cc0_transform_2 k0_off1_inb numel1_S1 pf i = ![(pf 1 (ix1 (n := 111) (i 0)) : BitVec 32).toNat, 0, 0] := by
  have h := at_group pf i (k0_off1_inb i)
  unfold cc0_transform_2
  exact congrArg (fun w : BitVec 32 => (![w.toNat, 0, 0] : Fin 3 → ℕ)) h

/-- The side condition holds of tables whose tiles are below 96 and whose groups are below 16. -/
theorem ok_of_lt (pf : pre0.Contents (Elt F)) (ht : ∀ p : Fin 111, (pf 0 (ix1 (n := 111) p) : BitVec 32).toNat < 96)
    (hg : ∀ p : Fin 111, (pf 1 (ix1 (n := 111) p) : BitVec 32).toNat < 16) : ok0 pf := by
  unfold ok0
  refine ⟨fun i => ?_, fun i => ?_, fun i => ?_, fun i => ?_⟩
  · rw [tr0_eq]
    have hi := ht (i 0)
    generalize (pf 0 (ix1 (n := 111) (i 0)) : BitVec 32).toNat = n at hi
    refine ⟨fun a => ?_, .inr (.inl (.inr ⟨by decide, rfl, .inl ⟨?_, ?_⟩⟩))⟩
    · fin_cases a
      · show (n + 1) * 256 ≤ 24576; omega
      · show (0 + 1) * 6144 ≤ 6144; omega
    · show 2 ∣ n * 256; omega
    · show 2 ∣ 256; omega
  · rw [tr1_eq]
    have hi := hg (i 0)
    generalize (pf 1 (ix1 (n := 111) (i 0)) : BitVec 32).toNat = n at hi
    refine ⟨fun a => ?_, .inr (.inr ⟨by decide, rfl, ?_, rfl⟩)⟩
    · fin_cases a
      · show (n + 1) * 1 ≤ 16; omega
      · show (0 + 1) * 6144 ≤ 6144; omega
      · show (0 + 1) * 2048 ≤ 2048; omega
    · show 0 * 6144 = 0; omega
  · rw [tr2_eq]
    have hi := hg (i 0)
    generalize (pf 1 (ix1 (n := 111) (i 0)) : BitVec 32).toNat = n at hi
    refine ⟨fun a => ?_, .inl rfl⟩
    fin_cases a
    · show (n + 1) * 1 ≤ 16; omega
    · show (0 + 1) * 48 ≤ 48; omega
    · show (0 + 1) * 2048 ≤ 2048; omega
  · rw [tr3_eq]
    have hi := ht (i 0)
    generalize (pf 0 (ix1 (n := 111) (i 0)) : BitVec 32).toNat = n at hi
    refine ⟨fun a => ?_, .inr (.inl (.inr ⟨by decide, rfl, .inl ⟨?_, ?_⟩⟩))⟩
    · fin_cases a
      · show (n + 1) * 256 ≤ 24576; omega
      · show (0 + 1) * 2048 ≤ 2048; omega
    · show 2 ∣ n * 256; omega
    · show 2 ∣ 256; omega

theorem toNat_lt_of {w : BitVec 32} {n b : ℕ} (e : w = BitVec.ofNat 32 n) (h : n < b) (hb : b < 2 ^ 32) : w.toNat < b := by
  rw [e, BitVec.toNat_ofNat]; omega

theorem pf_tile {gs : IVec S16 32} {g : ℕ → ℕ} (h : Sizes gs g) (p : Fin 111) : (pfOf (F := F) gs 0 (ix1 (n := 111) p) : BitVec 32).toNat < 96 :=
  toNat_lt_of (hTile_word h p) (tile_lt h.total p.val) (by decide)
theorem pf_group {gs : IVec S16 32} {g : ℕ → ℕ} (h : Sizes gs g) (p : Fin 111) : (pfOf (F := F) gs 1 (ix1 (n := 111) p) : BitVec 32).toNat < 16 :=
  toNat_lt_of (hGroup_word h p) (grp_spec h.total p.val).1 (by decide)

/-- The tables' contents, admissible under the precondition. -/
def admOf {gs : IVec S16 32} {g : ℕ → ℕ} (h : Sizes gs g) : (pcfg0 (F := F)).Adm :=
  ⟨pfOf gs, ok_of_lt _ (pf_tile h) (pf_group h)⟩

end Cert.KernelIdeal.Hand

end
-- ==== Proof.Ideal.Run.lean ====
/-
  The pipeline's data — the blocks the input windows find, what the body leaves in the output's staging buffer, the tile the
  scratch carries from one point to the next — and the body obligation at every point.
-/
module

public import proofs.«01_k».proof.Proof.Ideal.Adm
public import proofs.«01_k».proof.Proof.Ideal.Body
public import Idealize.ShloMosaic.Lib.Pipeline.Frame
public import Idealize.ShloMosaic.Lib.Pipeline.FrameBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-- The pipeline at the tables' contents. -/
abbrev cfgA : Pipeline.Cfg sig Λ₀ := cfg0 a

/-- The activation block at a point, -/
def xAt (c : Dev nD) (t : Fin (cfgA a).N) : Vec F S256x6144 .bf16 :=
  ((win0 a 0).blk t).view.read (Elt F) (V m c (Proc.devRef .tc main_arg0))
/-- the weight block, -/
def wAt (c : Dev nD) (t : Fin (cfgA a).N) : Vec F S1x6144x2048 .fp8e4m3 :=
  ((win0 a 1).blk t).view.read (Elt F) (V m c (Proc.devRef .tc main_arg2))
/-- and the scale block. -/
def sAt (c : Dev nD) (t : Fin (cfgA a).N) : Vec F S1x48x2048 .f32 :=
  ((win0 a 2).blk t).view.read (Elt F) (V m c (Proc.devRef .tc main_v46))

/-- The rows of the tile a point owns, as the body's mask. -/
def maskAt (t : Fin (cfgA a).N) : IVec S256x1 1 :=
  rowMask (F := F) (tab (F := F) (a.1 0) (grid0.coords t 0).val (grid0.coords t 0).isLt) (tab (F := F) (a.1 2) (grid0.coords t 0).val (grid0.coords t 0).isLt)
    (tab (F := F) (a.1 3) (grid0.coords t 0).val (grid0.coords t 0).isLt)

/-- What the body leaves in the output's staging buffer, of what it found there. -/
def leftAt (c : Dev nD) (t : Fin (cfgA a).N) (Y : Vec F S256x2048 .bf16) : Vec F S256x2048 .bf16 :=
  outStep (maskAt a t) (quantTile (xAt m a c t)) (wAt m a c t) (sAt m a c t) Y

/-- The body's invariant before a point: the tables, the tile in the scratch quantised at the point before, the other scratch
    and the generator register at anything. -/
def invAt (c : Dev nD) (n : ℕ) : sProp 𝕄 :=
  iprop(owns (c : Thread nD τ) (Memref.whole main_v42) fullShare.right (a.1 0) ∗ owns (c : Thread nD τ) (Memref.whole main_v25) fullShare.right (a.1 1)
    ∗ owns (c : Thread nD τ) (Memref.whole main_v53) fullShare.right (a.1 2) ∗ owns (c : Thread nD τ) (Memref.whole main_v60) fullShare.right (a.1 3)
    ∗ (∃ Q : Vec F S256x6144 .bf16, ⌜∀ h : 0 < n, ∀ h' : n - 1 < (cfgA a).N, Q = quantTile (xAt m a c ⟨n - 1, h'⟩)⌝ ∗ owns (c : Thread nD τ) (Memref.whole cc0_scratch0) fullShare Q)
    ∗ (∃ d, owns (c : Thread nD τ) (Memref.whole cc0_scratch1) fullShare d) ∗ ∃ r, prngReg c r)

/-- The pipeline's data on a core. -/
def rdat (c : Dev nD) : RDat τ (Elt F) Unit ℕ (UR sig nD τ) ℕ (cfgA a) c where
  A w := V m c (Proc.devRef .tc (Pipeline.arrRef spec0 w))
  after := fun
    | ⟨0, _⟩ => fun _ Y X => X = Y
    | ⟨1, _⟩ => fun _ Y X => X = Y
    | ⟨2, _⟩ => fun _ Y X => X = Y
    | ⟨3, _⟩ => fun t Y X => X = leftAt m a c t Y
    | ⟨_ + 4, h⟩ => absurd h (Nat.not_lt.2 (Nat.le_add_left _ _))
  Φ n := invAt m a c n.val
  q _ := fullShare
  owed _ := 0

theorem clip_none (w : Fin (cfgA a).W) (i : (cfgA a).grid.Coords) (x) : ((cfgA a).win w).clip i x = none := by
  fin_cases w <;> rfl

theorem fetched0 (c : Dev nD) (t : Fin (cfgA a).N) (d) : (rdat m a c).fetched 0 t d = xAt m a c t := rfl

theorem find0 (c : Dev nD) (t : Fin (cfgA a).N) (Y) (h : (rdat m a c).Finds 0 t Y) : Y = xAt m a c t := by
  obtain ⟨d, hd⟩ := (rdat m a c).finds_in_eq_fetched 0 rfl (fun _ _ _ => rfl) (fun _ _ _ h => h) t Y h
  rw [hd]; rfl
theorem find1 (c : Dev nD) (t : Fin (cfgA a).N) (Y) (h : (rdat m a c).Finds 1 t Y) : Y = wAt m a c t := by
  obtain ⟨d, hd⟩ := (rdat m a c).finds_in_eq_fetched 1 rfl (fun _ _ _ => rfl) (fun _ _ _ h => h) t Y h
  rw [hd]; rfl
theorem find2 (c : Dev nD) (t : Fin (cfgA a).N) (Y) (h : (rdat m a c).Finds 2 t Y) : Y = sAt m a c t := by
  obtain ⟨d, hd⟩ := (rdat m a c).finds_in_eq_fetched 2 rfl (fun _ _ _ => rfl) (fun _ _ _ h => h) t Y h
  rw [hd]; rfl

theorem coords_val : ∀ t : Fin grid0.N, (grid0.coords t 0).val = t.val := by decide +kernel

theorem xAt_congr (c : Dev nD) (t t' : Fin (cfgA a).N) (h : (win0 a 0).index t = (win0 a 0).index t') : xAt m a c t = xAt m a c t' := by
  have e : (rdat m a c).fetched 0 t (xAt m a c t) = (rdat m a c).fetched 0 t' (xAt m a c t) :=
    (rdat m a c).fetched_congr 0 h (funext fun x => by rw [clip_none]) _
  exact (fetched0 m a c t _).symm.trans (e.trans (fetched0 m a c t' _))

/-- The tile word at a point. -/
def tileW (t : Fin (cfgA a).N) : BitVec 32 := a.1 0 (ValueIdx.ix1 (n := 111) (grid0.coords t 0))

theorem index0_eq (t : Fin (cfgA a).N) : (win0 a 0).index t = ![(tileW a t).toNat, 0] := tr0_eq a.1 (grid0.coords t)

/-- A point that does not quantise has the tile of the point before. -/
theorem keep_tile (c : Dev nD) (t : Fin (cfgA a).N) (h : ¬ Fresh (F := F) (a.1 0) (grid0.coords t)) :
    0 < t.val ∧ ∀ h' : t.val - 1 < (cfgA a).N, xAt m a c ⟨t.val - 1, h'⟩ = xAt m a c t := by
  unfold Fresh at h
  rw [not_or, not_not] at h
  obtain ⟨h0, h1⟩ := h
  have hv := coords_val t
  refine ⟨by omega, fun h' => xAt_congr m a c _ _ ?_⟩
  rw [index0_eq, index0_eq]
  have e : tileW a ⟨t.val - 1, h'⟩ = tileW a t := by
    refine Eq.trans (congrArg (a.1 0) (funext fun x => Fin.ext ?_)) h1.symm
    fin_cases x
    have hv' := coords_val ⟨t.val - 1, h'⟩
    show (grid0.coords ⟨t.val - 1, h'⟩ 0).val = (grid0.coords t 0).val - 1
    rw [hv', hv]
  rw [e]

/-- The kernel's body at a point, on the current staging buffers. -/
abbrev bodyAt (t : Fin (cfgA a).N) : Prog (TpuEff nD τ sig (Elt F) Λ₀ .tc) PUnit :=
  cc0_grouped_fp8_matmul (grid0.coords t) (Memref.whole main_v42) (Memref.isWhole_whole _) (Memref.whole main_v25) (Memref.isWhole_whole _) (Memref.whole main_v53) (Memref.isWhole_whole _) (Memref.whole main_v60) (Memref.isWhole_whole _)
    (spec0_0.stage ((cfgA a).slots t 0)) (hstage0_0 (((cfgA a).slots t 0).cast nbuf0_0)) (spec0_1.stage ((cfgA a).slots t 1)) (hstage0_1 (((cfgA a).slots t 1).cast nbuf0_1))
    (spec0_2.stage ((cfgA a).slots t 2)) (hstage0_2 (((cfgA a).slots t 2).cast nbuf0_2)) (spec0_3.stage ((cfgA a).slots t 3)) (hstage0_3 (((cfgA a).slots t 3).cast nbuf0_3))
    (Memref.whole cc0_scratch0) (Memref.isWhole_whole _) (Memref.whole cc0_scratch1) (Memref.isWhole_whole _)

theorem defs₀_row (t : Fin (cfgA a).N) : defs₀ (F := F) .tc (cfgA a).body ((cfgA a).bodyArgs t ((cfgA a).slots t)) = bodyAt a t := by
  unfold defs₀; rw [Defs.onTc_tc]

/-- The body at a point, from the invariant and the staging buffers at their blocks, to the invariant at the next point. -/
theorem sound_body (c : Dev nD) (t : Fin (cfgA a).N) (Y : Vec F S256x2048 .bf16) :
    iprop(invAt m a c t.val ∗ (rdat m a c).owesAt () t.castSucc
      ∗ owns (c : Thread nD τ) (spec0_0.stage ((cfgA a).slots t 0)) fullShare (xAt m a c t) ∗ owns (c : Thread nD τ) (spec0_1.stage ((cfgA a).slots t 1)) fullShare (wAt m a c t)
      ∗ owns (c : Thread nD τ) (spec0_2.stage ((cfgA a).slots t 2)) fullShare (sAt m a c t) ∗ owns (c : Thread nD τ) (spec0_3.stage ((cfgA a).slots t 3)) fullShare Y)
    ⊢ wp frame (wpE (defs₀ (F := F)) Variants.none c none) Set.univ (bodyAt a t) fun _ =>
      iprop(invAt m a c (t.val + 1) ∗ (rdat m a c).owesAt () t.succ
        ∗ owns (c : Thread nD τ) (spec0_0.stage ((cfgA a).slots t 0)) fullShare (xAt m a c t) ∗ owns (c : Thread nD τ) (spec0_1.stage ((cfgA a).slots t 1)) fullShare (wAt m a c t)
        ∗ owns (c : Thread nD τ) (spec0_2.stage ((cfgA a).slots t 2)) fullShare (sAt m a c t) ∗ owns (c : Thread nD τ) (spec0_3.stage ((cfgA a).slots t 3)) fullShare (leftAt m a c t Y)) := by
  rw [show (rdat m a c).owesAt () t.succ = (rdat m a c).owesAt () t.castSucc from rfl]
  have hq : ∀ h' : t.val + 1 - 1 < (cfgA a).N, xAt m a c ⟨t.val + 1 - 1, h'⟩ = xAt m a c t := fun _ => rfl
  unfold invAt
  by_cases hf : Fresh (F := F) (a.1 0) (grid0.coords t)
  · iintro ⟨⟨HT1, HT2, HT3, HT4, ⟨%Q, %hQ, HQ⟩, HD, HG⟩, HO, H0, H1, H2, H3⟩
    iapply (runFresh c (grid0.coords t) _ _ _ _ _ _ _ _ _ _ _ _ _ _ _ _ _ _ _ _ (a.1 0) (a.1 1) (a.1 2) (a.1 3) (xAt m a c t) (wAt m a c t) (sAt m a c t) Y hf Set.univ _)
    isplitl [HT1]; · iexact HT1
    isplitl [HT2]; · iexact HT2
    isplitl [HT3]; · iexact HT3
    isplitl [HT4]; · iexact HT4
    isplitl [H0]; · iexact H0
    isplitl [H1]; · iexact H1
    isplitl [H2]; · iexact H2
    isplitl [H3]; · iexact H3
    isplitl [HQ]; · iexists Q; iexact HQ
    isplitl [HD]; · iexact HD
    iintro ⟨HT1, HT2, HT3, HT4, H0, H1, H2, H3, HQ, HD⟩
    isplitl [HT1 HT2 HT3 HT4 HQ HD HG]
    · isplitl [HT1]; · iexact HT1
      isplitl [HT2]; · iexact HT2
      isplitl [HT3]; · iexact HT3
      isplitl [HT4]; · iexact HT4
      isplitl [HQ]
      · iexists (quantTile (xAt m a c t)); isplitr
        · ipureintro; intro _ h'; rw [hq h']
        iexact HQ
      isplitl [HD]; · iexact HD
      iexact HG
    isplitl [HO]; · iexact HO
    isplitl [H0]; · iexact H0
    isplitl [H1]; · iexact H1
    isplitl [H2]; · iexact H2
    iexact H3
  · obtain ⟨ht, hk⟩ := keep_tile m a c t hf
    iintro ⟨⟨HT1, HT2, HT3, HT4, ⟨%Q, %hQ, HQ⟩, HD, HG⟩, HO, H0, H1, H2, H3⟩
    have hlt : t.val - 1 < (cfgA a).N := Nat.lt_of_le_of_lt (Nat.sub_le _ _) t.isLt
    have eQ : Q = quantTile (xAt m a c t) := (hQ ht hlt).trans (congrArg quantTile (hk hlt))
    subst eQ
    iapply (runKeep c (grid0.coords t) _ _ _ _ _ _ _ _ _ _ _ _ _ _ _ _ _ _ _ _ (a.1 0) (a.1 1) (a.1 2) (a.1 3) (xAt m a c t) (wAt m a c t) (sAt m a c t) Y (quantTile (xAt m a c t)) hf Set.univ _)
    isplitl [HT1]; · iexact HT1
    isplitl [HT2]; · iexact HT2
    isplitl [HT3]; · iexact HT3
    isplitl [HT4]; · iexact HT4
    isplitl [H0]; · iexact H0
    isplitl [H1]; · iexact H1
    isplitl [H2]; · iexact H2
    isplitl [H3]; · iexact H3
    isplitl [HQ]; · iexact HQ
    isplitl [HD]; · iexact HD
    iintro ⟨HT1, HT2, HT3, HT4, H0, H1, H2, H3, HQ, HD⟩
    isplitl [HT1 HT2 HT3 HT4 HQ HD HG]
    · isplitl [HT1]; · iexact HT1
      isplitl [HT2]; · iexact HT2
      isplitl [HT3]; · iexact HT3
      isplitl [HT4]; · iexact HT4
      isplitl [HQ]
      · iexists (quantTile (xAt m a c t)); isplitr
        · ipureintro; intro _ h'; rw [hq h']
        iexact HQ
      isplitl [HD]; · iexact HD
      iexact HG
    isplitl [HO]; · iexact HO
    isplitl [H0]; · iexact H0
    isplitl [H1]; · iexact H1
    isplitl [H2]; · iexact H2
    iexact H3

/-- The body obligation, at every point. -/
theorem body_obligation (c : Dev nD) : (rdat m a c).BodyObligation (defs₀ (F := F)) Variants.none () Set.univ := by
  intro t Y hY
  rw [bigSep_W0, bigSep_W0, defs₀_row]
  have e0 := find0 m a c t (Y 0) (hY 0)
  have e1 := find1 m a c t (Y 1) (hY 1)
  have e2 := find2 m a c t (Y 2) (hY 2)
  rw [e0, e1, e2]
  refine triple_restated (sound_body m a c t (Y 3)) rfl .rfl fun _ => ?_
  have eΦ : (rdat m a c).Φ t.succ = invAt m a c (t.val + 1) := rfl
  rw [eΦ]
  iintro ⟨HI, HO, H0, H1, H2, H3⟩
  isplitl [HI]; · iexact HI
  isplitl [HO]; · iexact HO
  isplitl [H0]
  · iexists _; isplitr
    swap
    · iexact H0
    ipureintro; rfl
  isplitl [H1]
  · iexists _; isplitr
    swap
    · iexact H1
    ipureintro; rfl
  isplitl [H2]
  · iexists _; isplitr
    swap
    · iexact H2
    ipureintro; rfl
  iexists _; isplitr
  swap
  · iexact H3
  ipureintro; rfl

/-! ## The launch -/

theorem tables_eq (c : Dev nD) :
    (Pipeline.ΦT (U := UR sig nD τ) pre0 a.1 c : sProp 𝕄)
      = iprop(owns (c : Thread nD τ) (Memref.whole main_v42) fullShare.right (a.1 0) ∗ owns (c : Thread nD τ) (Memref.whole main_v25) fullShare.right (a.1 1)
        ∗ owns (c : Thread nD τ) (Memref.whole main_v53) fullShare.right (a.1 2) ∗ owns (c : Thread nD τ) (Memref.whole main_v60) fullShare.right (a.1 3)) := by
  unfold Pipeline.ΦT Pipeline.prefHeld
  rw [bigSep_W0]
  have own (b : Ref sig .tc) (T : b.ty.Contents (Elt F)) :
      (((c.tc : Thread nD τ).loc b) ↦{fullShare.right} T : sProp 𝕄) = owns (c.tc : Thread nD τ) (Memref.whole b) fullShare.right T := (owns_whole _ _ _ _).symm
  exact congrArg₂ _ (own main_v42 (a.1 0)) (congrArg₂ _ (own main_v25 (a.1 1)) (congrArg₂ _ (own main_v53 (a.1 2)) (own main_v60 (a.1 3))))

theorem inv_in (c : Dev nD) : iprop(Pipeline.ΦA (U := UR sig nD τ) spec0 c ∗ Pipeline.ΦT (U := UR sig nD τ) pre0 a.1 c) ⊢ (rdat m a c).Φ 0 := by
  rw [tables_eq]
  unfold Pipeline.ΦA
  rw [scopedRest0_eq]
  show _ ⊢ invAt m a c 0
  unfold invAt
  iintro ⟨⟨⟨⟨%f0, H0⟩, ⟨%f1, H1⟩⟩, HG⟩, HT1, HT2, HT3, HT4⟩
  isplitl [HT1]; · iexact HT1
  isplitl [HT2]; · iexact HT2
  isplitl [HT3]; · iexact HT3
  isplitl [HT4]; · iexact HT4
  isplitl [H0]
  · iexists f0; isplitr
    · ipureintro; intro h; exact absurd h (Nat.lt_irrefl 0)
    rw [owns_whole]; iexact H0
  isplitl [H1]
  · iexists f1; rw [owns_whole]; iexact H1
  iexact HG

theorem inv_out (c : Dev nD) : (rdat m a c).Φ (Fin.last (cfgA a).N) ⊢ Pipeline.ΦA (U := UR sig nD τ) spec0 c := by
  show invAt m a c (cfgA a).N ⊢ _
  unfold Pipeline.ΦA invAt
  rw [scopedRest0_eq]
  simp only [owns_whole]
  iintro ⟨-, -, -, -, ⟨%f0, -, H0⟩, ⟨%f1, H1⟩, HG⟩
  isplitl [H0 H1]
  · isplitl [H0]
    · iexists f0; iexact H0
    iexists f1; iexact H1
  iexact HG

/-- @main up to the region: the host operations' stretches, then the region. -/
theorem hmain : Pipeline.HMainP (Ix := Unit) (Name := ℕ) (U := UR sig nD τ) (Lvl := ℕ) pcfgs 0 (defs₀ (F := F)) Variants.none m (main (F := F)) (fun c b => V m c (Proc.devRef .tc b)) :=
  Pipeline.hmainP_prefixes pcfgs 0 defs₀ Variants.none m main hostStretches
    ⟨hostOps0_sub, hostOps0_1_sub, hostOps0_2_sub, hostOps0_3_sub, hostOps0_4_sub, hostOps0_5_sub, hostOps0_6_sub, hostOps0_7_sub, hostOps0_8_sub⟩
    (by
      unfold hostStretches
      simp only [List.forall_cons, List.Forall]
      repeat' constructor)
    (fun c => main_chain c)

end Cert.KernelIdeal.Hand

end
-- ==== Proof.Ideal.Launch.lean ====
/-
  The run: from any memory whose group sizes the precondition admits, the program ends with every semaphore at zero, its
  arguments unchanged, and the output array as the pipeline's data says.
-/
module

public import proofs.«01_k».proof.Proof.Ideal.Run

@[expose] public section

set_option maxRecDepth 16384

noncomputable section

namespace Cert.KernelIdeal.Hand

open Cert.KernelIdeal.Gen Cert.Schedule
open Idealize.ShloMosaic Idealize.ShloMosaic.TcCoe
open Idealize.SL Idealize.SL.RA Idealize.SL.BI Idealize.SL.Sem
open Idealize.ShloMosaic.Pipeline (RDat Cfg Window)

variable {F : FTy → Type} [FloatOps F]
variable (m : (ℓ : Loc nD τ sig) → Buf (Elt F) ℓ) (ρ : Dev nD → PrngReg) {g : ℕ → ℕ}

/-- The buffers' contents at the region's entry. -/
abbrev entry (c : Dev nD) (b : Ref sig .tc) : Buf (Elt F) ((c.tc : Thread nD τ).loc b) := V m c (Proc.devRef .tc b)

theorem tables_at (h : Sizes (gsOf m 0) g) (c : Dev nD) (k : Fin pre0.K) : entry m c (pre0.ref k) = (admOf (F := F) h).1 k := by
  obtain rfl : c = 0 := Subsingleton.elim _ _
  revert k
  intro k
  match k with
  | ⟨0, _⟩ => exact V_tile m 0
  | ⟨1, _⟩ => exact V_group m 0
  | ⟨2, _⟩ => exact V_lo m 0
  | ⟨3, _⟩ => exact V_hi m 0
  | ⟨_ + 4, h⟩ => exact absurd h (Nat.not_lt.2 (Nat.le_add_left _ _))

set_option backward.isDefEq.respectTransparency.types false in
/-- The run, to the pipeline's post. -/
theorem run_main (h : Sizes (gsOf m 0) g) :
    θ_run defs (onTc (τ := τ) (main (F := F))) (s₀ m ρ)
      (fun r => RDat.FramePost (cfgA (admOf h)) (fun c => rdat m (admOf h) c) (entry m) r ∧ r.2.sem = fun _ => 0) :=
  RDat.θ_run_frameP_track (Q' := _) pcfgs (fun _ => admOf h) 0 launch0 defs₀ Variants.none (fun c => rdat m (admOf h) c) m ρ main
    (hbody := fun c => body_obligation m (admOf h) c) (hshare := fun c w => by unfold RDat.share; exact ite_self _)
    (howed := fun _ _ => rfl) (V := entry m) (hmain := hmain m) (hA := fun _ _ => rfl) (hpf := tables_at m h)
    (hin := fun c => inv_in m (admOf h) c) (hout := fun c => inv_out m (admOf h) c)

variable {m}

theorem kept0 {a : (pcfg0 (F := F)).Adm} {r : PUnit × MemSt nD τ sig (Elt F)} (h : RDat.FramePost (cfgA a) (fun c => rdat m a c) (entry m) r) (c : Dev nD) :
    r.2.mem ((c : Thread nD τ).loc main_arg0) = m ((c : Thread nD τ).loc main_arg0) :=
  (RDat.FramePost.arr_in h c 0 rfl).trans (V_arg0 m c)
theorem kept2 {a : (pcfg0 (F := F)).Adm} {r : PUnit × MemSt nD τ sig (Elt F)} (h : RDat.FramePost (cfgA a) (fun c => rdat m a c) (entry m) r) (c : Dev nD) :
    r.2.mem ((c : Thread nD τ).loc main_arg2) = m ((c : Thread nD τ).loc main_arg2) :=
  (RDat.FramePost.arr_in h c 1 rfl).trans (V_arg2 m c)
theorem kept1 {a : (pcfg0 (F := F)).Adm} {r : PUnit × MemSt nD τ sig (Elt F)} (h : RDat.FramePost (cfgA a) (fun c => rdat m a c) (entry m) r) (c : Dev nD) :
    r.2.mem ((c : Thread nD τ).loc main_arg1) = m ((c : Thread nD τ).loc main_arg1) :=
  ((h c).2 main_arg1 (Pipeline.mem_restRefs_of main_arg1 (by decide) fun w => (by decide : ∀ w : Fin 4, (spec0 w).arr.view.ref ≠ main_arg1) w)).trans (V_arg1 m c)
theorem kept3 {a : (pcfg0 (F := F)).Adm} {r : PUnit × MemSt nD τ sig (Elt F)} (h : RDat.FramePost (cfgA a) (fun c => rdat m a c) (entry m) r) (c : Dev nD) :
    r.2.mem ((c : Thread nD τ).loc main_arg3) = m ((c : Thread nD τ).loc main_arg3) :=
  ((h c).2 main_arg3 (Pipeline.mem_restRefs_of main_arg3 (by decide) fun w => (by decide : ∀ w : Fin 4, (spec0 w).arr.view.ref ≠ main_arg3) w)).trans (V_arg3 m c)

/-- The frame: the arguments end as they were, every semaphore at zero. -/
theorem frame (m : (ℓ : Loc nD τ sig) → Buf (Elt F) ℓ) (ρ : Dev nD → PrngReg) (h : Sizes (gsOf m 0) g) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r hr => ⟨fun c => ⟨kept0 hr.1 c, kept1 hr.1 c, kept2 hr.1 c, kept3 hr.1 c⟩, hr.2⟩) (run_main m ρ h)

end Cert.KernelIdeal.Hand

end
-- ==== Proof.Ideal.Value.lean ====
/-
  What the output array holds after the run: each row the product of its dequantised activations with the dequantised
  weights of the group that owns it.
-/
module

public import proofs.«01_k».proof.Proof.Ideal.QuantVal
public import proofs.«01_k».proof.Proof.Ideal.Launch
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (RDat Dat)
open Cert.Quant Cert.Product Cert.Schedule

variable {m : (ℓ : Loc nD τ sig) → Buf (Elt Ideal) ℓ} {g : ℕ → ℕ}

/-- The admissible tables, over the extended reals. -/
abbrev adm (h : Sizes (gsOf m 0) g) : (pcfg0 (F := Ideal)).Adm := admOf h

theorem grid_lt (h : Sizes (gsOf m 0) g) (t : Fin (cfgA (adm h)).N) : t.val < 111 := t.isLt

theorem coord_eq (t : Fin grid0.N) : (grid0.coords t 0 : Fin 111) = ⟨t.val, t.isLt⟩ := Fin.ext (coords_val t)

/-! ### The tables at a point -/

theorem tile_at (h : Sizes (gsOf m 0) g) (t : Fin (cfgA (adm h)).N) :
    tab (F := Ideal) ((adm h).1 0) (grid0.coords t 0).val (grid0.coords t 0).isLt = BitVec.ofNat 32 (tile g t.val) :=
  (hTile_word h (grid0.coords t 0)).trans (congrArg (fun n => BitVec.ofNat 32 (tile g n)) (coords_val t))
theorem lo_at (h : Sizes (gsOf m 0) g) (t : Fin (cfgA (adm h)).N) :
    tab (F := Ideal) ((adm h).1 2) (grid0.coords t 0).val (grid0.coords t 0).isLt = BitVec.ofNat 32 (lo g t.val) :=
  (hLo_word h (grid0.coords t 0)).trans (congrArg (fun n => BitVec.ofNat 32 (lo g n)) (coords_val t))
theorem hi_at (h : Sizes (gsOf m 0) g) (t : Fin (cfgA (adm h)).N) :
    tab (F := Ideal) ((adm h).1 3) (grid0.coords t 0).val (grid0.coords t 0).isLt = BitVec.ofNat 32 (hi g t.val) :=
  (hHi_word h (grid0.coords t 0)).trans (congrArg (fun n => BitVec.ofNat 32 (hi g n)) (coords_val t))

theorem toNat_of {w : BitVec 32} {n : ℕ} (e : w = BitVec.ofNat 32 n) (h : n < 2 ^ 32) : w.toNat = n := by
  rw [e, BitVec.toNat_ofNat]; omega

theorem tile_nat (h : Sizes (gsOf m 0) g) (t : Fin (cfgA (adm h)).N) :
    ((adm h).1 0 (ValueIdx.ix1 (n := 111) (grid0.coords t 0)) : BitVec 32).toNat = tile g t.val :=
  toNat_of (tile_at h t) (by have := tile_lt h.total t.val; omega)
theorem group_nat (h : Sizes (gsOf m 0) g) (t : Fin (cfgA (adm h)).N) :
    ((adm h).1 1 (ValueIdx.ix1 (n := 111) (grid0.coords t 0)) : BitVec 32).toNat = grp g t.val :=
  toNat_of ((hGroup_word h (grid0.coords t 0)).trans (congrArg (fun n => BitVec.ofNat 32 (grp g n)) (coords_val t)))
    (by have := (grp_spec h.total t.val).1; omega)

theorem index0 (h : Sizes (gsOf m 0) g) (t : Fin (cfgA (adm h)).N) : (win0 (adm h) 0).index t = ![tile g t.val, 0] :=
  (tr0_eq (adm h).1 (grid0.coords t)).trans (congrArg (fun n : ℕ => (![n, 0] : Fin 2 → ℕ)) (tile_nat h t))
theorem index3 (h : Sizes (gsOf m 0) g) (t : Fin (cfgA (adm h)).N) : (win0 (adm h) 3).index t = ![tile g t.val, 0] :=
  (tr3_eq (adm h).1 (grid0.coords t)).trans (congrArg (fun n : ℕ => (![n, 0] : Fin 2 → ℕ)) (tile_nat h t))
theorem index1 (h : Sizes (gsOf m 0) g) (t : Fin (cfgA (adm h)).N) : (win0 (adm h) 1).index t = ![grp g t.val, 0, 0] :=
  (tr1_eq (adm h).1 (grid0.coords t)).trans (congrArg (fun n : ℕ => (![n, 0, 0] : Fin 3 → ℕ)) (group_nat h t))
theorem index2 (h : Sizes (gsOf m 0) g) (t : Fin (cfgA (adm h)).N) : (win0 (adm h) 2).index t = ![grp g t.val, 0, 0] :=
  (tr2_eq (adm h).1 (grid0.coords t)).trans (congrArg (fun n : ℕ => (![n, 0, 0] : Fin 3 → ℕ)) (group_nat h t))

/-! ### The blocks at a point -/

/-- The row of the arrays under a row of the tile. -/
def rowAt (h : Sizes (gsOf m 0) g) (t : ℕ) (r : Fin 256) : Fin 24576 :=
  ⟨tile g t * 256 + r.val, by have := tile_lt h.total t; omega⟩

/-- The group of a point. -/
def grpAt (h : Sizes (gsOf m 0) g) (t : ℕ) : Fin 16 := ⟨grp g t, (grp_spec h.total t).1⟩

theorem xAt_apply (h : Sizes (gsOf m 0) g) (c : Dev nD) (t : Fin (cfgA (adm h)).N) (r : Fin 256) (k : Fin 6144) :
    xAt m (adm h) c t (ix2 r k) = m ((c.tc : Thread nD τ).loc main_arg0) (ix2 (rowAt h t.val r) k) := by
  refine Eq.trans ?_ (congrFun (V_arg0 m c) (ix2 (rowAt h t.val r) k))
  refine congrArg (V m c (Proc.devRef .tc main_arg0)) (funext fun b => Fin.ext ?_)
  have e := index0 h t
  fin_cases b
  · show (win0 (adm h) 0).index t (0 : Fin 2) * 256 + 1 * r.val = tile g t.val * 256 + r.val
    rw [congrFun e (0 : Fin 2)]; simp
  · show (win0 (adm h) 0).index t (1 : Fin 2) * 6144 + 1 * k.val = k.val
    rw [congrFun e (1 : Fin 2)]; simp

theorem wAt_apply (h : Sizes (gsOf m 0) g) (c : Dev nD) (t : Fin (cfgA (adm h)).N) (k : Fin 6144) (j : Fin 2048) :
    wAt m (adm h) c t (ix3 0 k j) = m ((c.tc : Thread nD τ).loc main_arg2) (ix3 (grpAt h t.val) k j) := by
  refine Eq.trans ?_ (congrFun (V_arg2 m c) (ix3 (grpAt h t.val) k j))
  refine congrArg (V m c (Proc.devRef .tc main_arg2)) (funext fun b => Fin.ext ?_)
  have e := index1 h t
  fin_cases b
  · show (win0 (adm h) 1).index t (0 : Fin 3) * 1 + 1 * 0 = grp g t.val
    rw [congrFun e (0 : Fin 3)]; simp
  · show (win0 (adm h) 1).index t (1 : Fin 3) * 6144 + 1 * k.val = k.val
    rw [congrFun e (1 : Fin 3)]; simp
  · show (win0 (adm h) 1).index t (2 : Fin 3) * 2048 + 1 * j.val = j.val
    rw [congrFun e (2 : Fin 3)]; simp

theorem sAt_apply (h : Sizes (gsOf m 0) g) (c : Dev nD) (t : Fin (cfgA (adm h)).N) (b : Fin 48) (j : Fin 2048) :
    sAt m (adm h) c t (ix3 0 b j) = m ((c.tc : Thread nD τ).loc main_arg3) (ix3 (grpAt h t.val) b ⟨j.val / 128, by omega⟩) := by
  refine Eq.trans ?_ (hScale_apply (scOf m c) (grpAt h t.val) b j)
  refine Eq.trans ?_ (congrFun (V_scale m c) (ix3 (grpAt h t.val) b j))
  refine congrArg (V m c (Proc.devRef .tc main_v46)) (funext fun b => Fin.ext ?_)
  have e := index2 h t
  fin_cases b
  · show (win0 (adm h) 2).index t (0 : Fin 3) * 1 + 1 * 0 = grp g t.val
    rw [congrFun e (0 : Fin 3)]; simp
  · show (win0 (adm h) 2).index t (1 : Fin 3) * 48 + 1 * b.val = b.val
    rw [congrFun e (1 : Fin 3)]; simp
  · show (win0 (adm h) 2).index t (2 : Fin 3) * 2048 + 1 * j.val = j.val
    rw [congrFun e (2 : Fin 3)]; simp

/-- The product of the arguments. -/
def product (h : Sizes (gsOf m 0) g) (c : Dev nD) (r : Fin 24576) (j : Fin 2048) : EReal :=
  result h.total (fun r k => m ((c.tc : Thread nD τ).loc main_arg0) (ix2 r k)) (fun e k j => m ((c.tc : Thread nD τ).loc main_arg2) (ix3 e k j))
    (fun e a b => m ((c.tc : Thread nD τ).loc main_arg3) (ix3 e a b)) r j

/-- What a point leaves at an entry of its tile: the product where the point's group owns the row, what was there
    elsewhere. -/
theorem leftAt_apply (h : Sizes (gsOf m 0) g) (c : Dev nD) (t : Fin (cfgA (adm h)).N) (Y : Vec Ideal S256x2048 .bf16) (r : Fin 256) (j : Fin 2048) :
    leftAt m (adm h) c t Y (ix2 r j)
      = if lo g t.val ≤ tile g t.val * 256 + r.val ∧ tile g t.val * 256 + r.val < hi g t.val then product h c (rowAt h t.val r) j else Y (ix2 r j) := by
  have hl : lo g t.val ≤ 24576 := h.total ▸ psum_mono g (by have := (grp_spec h.total t.val).1; omega)
  have hh : hi g t.val ≤ 24576 := h.total ▸ psum_mono g (by have := (grp_spec h.total t.val).1; omega)
  have hr : tile g t.val * 256 + r.val ≤ 24576 := (rowAt h t.val r).isLt.le
  unfold leftAt
  rw [outStep_apply]
  unfold maskAt rowMask
  rw [tile_at, lo_at, hi_at, pay8_apply]
  unfold Scalar.select
  rw [show (1 : BitVec 1) = 1#1 from rfl]
  by_cases hm : lo g t.val ≤ tile g t.val * 256 + r.val ∧ tile g t.val * 256 + r.val < hi g t.val
  · rw [if_pos ((mask_bit hr hl hh).mpr hm), if_pos hm]
    unfold product result
    rw [ownerOf_eq h.total (rowAt h t.val r) (grpAt h t.val) hm]
    unfold row
    refine Finset.sum_congr rfl fun k _ => ?_
    rw [quantTile_apply, wAt_apply, sAt_apply]
    simp only [xAt_apply]
    rfl
  · rw [if_neg fun e => hm ((mask_bit hr hl hh).mp e), if_neg hm]

theorem leftAt_in (h : Sizes (gsOf m 0) g) (c : Dev nD) (t : Fin (cfgA (adm h)).N) (Y : Vec Ideal S256x2048 .bf16) (r : Fin 256) (j : Fin 2048)
    (hm : lo g t.val ≤ tile g t.val * 256 + r.val ∧ tile g t.val * 256 + r.val < hi g t.val) :
    leftAt m (adm h) c t Y (ix2 r j) = product h c (rowAt h t.val r) j := (leftAt_apply h c t Y r j).trans (if_pos hm)

theorem leftAt_out (h : Sizes (gsOf m 0) g) (c : Dev nD) (t : Fin (cfgA (adm h)).N) (Y : Vec Ideal S256x2048 .bf16) (r : Fin 256) (j : Fin 2048)
    (hm : ¬ lo g t.val ≤ tile g t.val * 256 + r.val) :
    leftAt m (adm h) c t Y (ix2 r j) = Y (ix2 r j) := (leftAt_apply h c t Y r j).trans (if_neg fun e => hm e.1)

/-! ### What a point leaves -/

/-- A point leaves the product in every row of its tile before the end of its group. -/
theorem leaves_ok (h : Sizes (gsOf m 0) g) (c : Dev nD) : ∀ (n : ℕ) (hn : n < (cfgA (adm h)).N) (X : Vec Ideal S256x2048 .bf16),
    (rdat m (adm h) c).Leaves 3 ⟨n, hn⟩ X → ∀ (r : Fin 256) (j : Fin 2048), tile g n * 256 + r.val < hi g n → X (ix2 r j) = product h c (rowAt h n r) j := by
  intro n
  induction n with
  | zero =>
    intro hn X ⟨Y, hY, hX⟩ r j hr
    obtain rfl : X = leftAt m (adm h) c ⟨0, hn⟩ Y := hX
    exact leftAt_in h c ⟨0, hn⟩ Y r j ⟨by show lo g 0 ≤ _; rw [(first_point h.total).2]; exact Nat.zero_le _, hr⟩
  | succ n ih =>
    intro hn X ⟨Y, hY, hX⟩ r j hr
    obtain rfl : X = leftAt m (adm h) c ⟨n + 1, hn⟩ Y := hX
    by_cases hlo : lo g (n + 1) ≤ tile g (n + 1) * 256 + r.val
    · exact leftAt_in h c ⟨n + 1, hn⟩ Y r j ⟨hlo, hr⟩
    · refine (leftAt_out h c ⟨n + 1, hn⟩ Y r j hlo).trans ?_
      obtain ⟨s1, s2⟩ := step h.total n
      by_cases ht : tile g (n + 1) = tile g n
      · have hle := s1 ht
        have hout : ((cfgA (adm h)).win 3).isOut = true := rfl
        rcases ((rdat m (adm h) c).finds_of_pos (Pipeline.Window.fetch_out _ hout ⟨n + 1, hn⟩) (Nat.succ_ne_zero n) Y).mp hY with hf | hL
        · exfalso
          rcases (Pipeline.Window.flush_out _ hout _).mp hf with he | ⟨h', he⟩
          · have hN : (n + 1 - 1) + 1 = (cfgA (adm h)).N := he
            omega
          · refine he ?_
            have e1 := index3 h ⟨n + 1, hn⟩
            have e2 := index3 h ⟨n, Nat.lt_of_succ_lt hn⟩
            exact e1.trans (Eq.trans (by dsimp only; rw [ht]) e2.symm)
        · have := ih (Nat.lt_of_succ_lt hn) Y hL r j (by rw [← ht]; omega)
          refine Eq.trans this (congrArg (fun z => product h c z j) (Fin.ext ?_))
          show tile g n * 256 + r.val = tile g (n + 1) * 256 + r.val
          rw [ht]
      · have := (s2 ht).1; omega

/-- At a point that writes its tile back, the whole tile is the product. -/
theorem flushed_ok (h : Sizes (gsOf m 0) g) (c : Dev nD) (t : Fin (cfgA (adm h)).N) (hf : ((cfgA (adm h)).win 3).flush t = true)
    (X : Vec Ideal S256x2048 .bf16) (hX : (rdat m (adm h) c).Leaves 3 t X) (r : Fin 256) (j : Fin 2048) :
    X (ix2 r j) = product h c (rowAt h t.val r) j := by
  refine leaves_ok h c t.val t.isLt X hX r j ?_
  have hr := r.isLt
  rcases (Pipeline.Window.flush_out _ rfl t).mp hf with he | ⟨h', he⟩
  · have e : t.val = 110 := by
      have hN : t.val + 1 = 111 := he
      omega
    have := last_point h.total
    rw [e]; omega
  · obtain ⟨s1, s2⟩ := step h.total t.val
    have hne : tile g (t.val + 1) ≠ tile g t.val := fun e => he (by
      have e1 := index3 h ⟨t.val + 1, h'⟩
      have e2 := index3 h t
      exact e1.trans (Eq.trans (by dsimp only; rw [e]) e2.symm))
    have := (s2 hne).2.1
    omega

/-- Every entry of the output is in the tile of a point that writes it back. -/
theorem covered (h : Sizes (gsOf m 0) g) (c : Dev nD) (i : (main_v61.ty).Idx) :
    ∃ t : Fin (cfgA (adm h)).N, ((cfgA (adm h)).win 3).flush t = true ∧ i ∈ (((cfgA (adm h)).win 3).blk t).view.set := by
  have h0 : (i 0).val < 24576 := (i 0).isLt
  have h1 : (i 1).val < 2048 := (i 1).isLt
  obtain ⟨t, ht, hu, hn⟩ := Schedule.cover h.total (u := (i 0).val / 256) (by omega)
  refine ⟨⟨t, ht⟩, (Pipeline.Window.flush_out _ rfl _).mpr ?_, ?_⟩
  · by_cases hl : t < 110
    · refine .inr ⟨show t + 1 < 111 by omega, fun e => hn hl ?_⟩
      have e1 := index3 h ⟨t + 1, show t + 1 < 111 by omega⟩
      have e2 := index3 h ⟨t, ht⟩
      exact congrFun (e1.symm.trans (e.trans e2)) (0 : Fin 2)
    · exact .inl (show t + 1 = 111 by omega)
  · refine (((cfgA (adm h)).win 3).emb_mem_blk_iff ⟨t, ht⟩ i rfl).mpr fun b => ?_
    have e := index3 h ⟨t, ht⟩
    fin_cases b
    · show (win0 (adm h) 3).index ⟨t, ht⟩ (0 : Fin 2) * 256 ≤ (i 0).val ∧ (i 0).val < (win0 (adm h) 3).index ⟨t, ht⟩ (0 : Fin 2) * 256 + 256
      rw [congrFun e (0 : Fin 2)]
      show tile g t * 256 ≤ (i 0).val ∧ (i 0).val < tile g t * 256 + 256
      omega
    · show (win0 (adm h) 3).index ⟨t, ht⟩ (1 : Fin 2) * 2048 ≤ (i 1).val ∧ (i 1).val < (win0 (adm h) 3).index ⟨t, ht⟩ (1 : Fin 2) * 2048 + 2048
      rw [congrFun e (1 : Fin 2)]
      show 0 * 2048 ≤ (i 1).val ∧ (i 1).val < 0 * 2048 + 2048
      omega

/-- The output array after the run. -/
theorem output (h : Sizes (gsOf m 0) g) {r : PUnit × MemSt nD τ sig (Elt Ideal)}
    (hr : RDat.FramePost (cfgA (adm h)) (fun c => rdat m (adm h) c) (entry m) r) (c : Dev nD) :
    r.2.mem ((c : Thread nD τ).loc main_v61) = fun i : S24576x2048.Idx => product h c (i 0) (i 1) := by
  obtain ⟨after, hL, hA⟩ := RDat.FramePost.exists_exact hr c
  refine (hA 3).trans (Dat.arrAt_eq_of_emb _ 3 _ (fun t hf => ?_) (covered h c))
  intro (y : S256x2048.Idx)
  have hX := flushed_ok h c t hf (after 3 t) (hL 3 t hf) (y 0) (y 1)
  have e := index3 h t
  refine Eq.trans (Eq.trans (congrArg (after 3 t) (funext fun b => ?_)) hX) (congrArg₂ (product h c) (Fin.ext ?_) (Fin.ext ?_))
  · fin_cases b <;> rfl
  · show tile g t.val * 256 + (y 0).val = (win0 (adm h) 3).index t (0 : Fin 2) * 256 + 1 * (y 0).val
    rw [congrFun e (0 : Fin 2)]; simp
  · show (y 1).val = (win0 (adm h) 3).index t (1 : Fin 2) * 2048 + 1 * (y 1).val
    rw [congrFun e (1 : Fin 2)]; simp

end Cert.KernelIdeal.Hand

end
-- ==== Proof.RefOut.lean ====
/-
  The reference kernel's one store, as a fold over the sixteen experts: at each step the rows between the expert's
  first and last row take the product of the dequantised activations with that expert's dequantised weights.
-/
module

public import proofs.«01_k».proof.Proof.Gen.ReferenceIdeal.Value

@[expose] public section

set_option maxRecDepth 16384

noncomputable section

namespace Cert.ReferenceIdeal.Hand

open Cert.ReferenceIdeal.Gen
open Idealize.ShloMosaic Idealize.ShloMosaic.TcCoe

variable {F : FTy → Type} [FloatOps F]

/-- The first row after the first `e` groups, as the reference counts it. -/
def startW (word : Fin 16 → BitVec 32) : (e : ℕ) → e ≤ 16 → BitVec 32
  | 0, _ => 0#32
  | e + 1, h => Scalar.addi (startW word e (by omega)) (word ⟨e, h⟩)

/-- The rows of one group. -/
def rowsOf (lo hi : BitVec 32) : IVec S24576x1 1 :=
  andi (cmpi .sge (iota .tc S24576x1 32 [0] iota_S24576x1_d0_w32) (broadcast S24576x1 lo))
    (cmpi .slt (iota .tc S24576x1 32 [0] iota_S24576x1_d0_w32) (broadcast S24576x1 hi))

/-- One expert's step. -/
def step (x : FVec F S24576x6144 .bf16) (lo hi : BitVec 32) (w : FVec F S6144x2048 .bf16) (acc : FVec F S24576x2048 .f32) :
    FVec F S24576x2048 .f32 :=
  select (broadcastTo S24576x2048 (shapeCast S24576x1 (rowsOf lo hi) shapeCasts_S24576x1_S24576x1) broadcasts_S24576x1_S24576x2048)
    (matmul dot_S24576x6144_S6144x2048_S24576x2048_1_0_0_1_n_n none x w (constant S24576x2048 .f32 0x00000000#32)) acc

/-- The product after the first `e` experts. -/
def acc (x : FVec F S24576x6144 .bf16) (word : Fin 16 → BitVec 32) (s : Fin 16 → Vec F S1x48x16 .f32)
    (w : Fin 16 → Vec F S1x6144x2048 .fp8e4m3) : (e : ℕ) → e ≤ 16 → FVec F S24576x2048 .f32
  | 0, _ => k0_pay3
  | e + 1, h => step x (startW word e (by omega)) (startW word (e + 1) h) (k0_pay7 (s ⟨e, h⟩) (w ⟨e, h⟩)) (acc x word s w e (by omega))

/-- What the reference stores. -/
def out (x : Vec F S24576x6144 .bf16) (word : Fin 16 → BitVec 32) (s : Fin 16 → Vec F S1x48x16 .f32)
    (w : Fin 16 → Vec F S1x6144x2048 .fp8e4m3) : FVec F S24576x2048 .bf16 :=
  truncf .bf16 (acc (k0_pay2 x) word s w 16 le_rfl) bitsLt_bf16_f32

theorem inb_word (e : Fin 16) : ∀ a, (![e.val] : Fin S16.rank → ℕ) a + S1.size a ≤ S16.size a := by
  intro a; have := e.isLt; fin_cases a; show e.val + 1 ≤ 16; omega
theorem inb_scale (e : Fin 16) : ∀ a, (![e.val, 0, 0] : Fin S16x48x16.rank → ℕ) a + S1x48x16.size a ≤ S16x48x16.size a := by
  intro a; have := e.isLt; fin_cases a
  · show e.val + 1 ≤ 16; omega
  · exact le_rfl
  · exact le_rfl
theorem inb_weight (e : Fin 16) : ∀ a, (![e.val, 0, 0] : Fin S16x6144x2048.rank → ℕ) a + S1x6144x2048.size a ≤ S16x6144x2048.size a := by
  intro a; have := e.isLt; fin_cases a
  · show e.val + 1 ≤ 16; omega
  · exact le_rfl
  · exact le_rfl

theorem pieces (c : Dev nD) (arg0 : Memref sig .tc .smem S16 .i32) (harg0 : arg0.IsWhole) (arg1 : Memref sig .tc .vmem S24576x6144 .bf16) (harg1 : arg1.IsWhole) (arg2 : Memref sig .tc .vmem S16x6144x2048 .fp8e4m3) (harg2 : arg2.IsWhole) (arg3 : Memref sig .tc .vmem S16x48x16 .f32) (harg3 : arg3.IsWhole) (arg4 : Memref sig .tc .vmem S24576x2048 .bf16) (harg4 : arg4.IsWhole)
    (x0 : Vec F S16 .i32) (x1 : Vec F S24576x6144 .bf16) (x2 : Vec F S16x6144x2048 .fp8e4m3) (x3 : Vec F S16x48x16 .f32) :
    (kernelRun0_A c arg0 harg0 arg1 harg1 arg2 harg2 arg3 harg3 arg4 harg4 x0 x1 x2 x3).1
      = [⟨Rect.unit (s := S24576x2048) ![0, 0] S24576x2048.size inb_S24576x2048_S24576x2048_0_0,
          out (View.readAt (Elt F) arg1.view (Rect.unit (s := S24576x6144) ![0, 0] S24576x6144.size inb_S24576x6144_S24576x6144_0_0).toLoadRect (harg1.unread x1))
            (fun e => View.readAt (Elt F) arg0.view (Rect.unit (s := S16) ![e.val] S1.size (inb_word e)).toLoadRect (harg0.unread x0) (Shape.Idx.first (numel1_S1.symm ▸ Nat.one_pos)))
            (fun e => View.readAt (Elt F) arg3.view (Rect.unit (s := S16x48x16) ![e.val, 0, 0] S1x48x16.size (inb_scale e)).toLoadRect (harg3.unread x3))
            (fun e => View.readAt (Elt F) arg2.view (Rect.unit (s := S16x6144x2048) ![e.val, 0, 0] S1x6144x2048.size (inb_weight e)).toLoadRect (harg2.unread x2))⟩] := by
  rfl

end Cert.ReferenceIdeal.Hand

end
-- ==== Proof.RefVal.lean ====
/-
  The reference kernel's payloads at an index, over the extended reals.
-/
module

public import proofs.«01_k».proof.Proof.RefOut
public import proofs.«01_k».proof.Proof.Product
public import proofs.«01_k».proof.Proof.Sizes
public import Idealize.ShloMosaic.Lib.Pointwise
public import Idealize.ShloMosaic.Lib.MatmulPlain
public import Idealize.ShloMosaic.Lib.WholeRead

@[expose] public section

set_option maxRecDepth 16384

noncomputable section

namespace Cert.ReferenceIdeal.Hand

open Cert.ReferenceIdeal.Gen
open Idealize.ShloMosaic Idealize.ShloMosaic.TcCoe
open Cert.Quant Cert.Product Cert.Schedule

/-- The greatest magnitudes of the groups. -/
def amaxOf (v : FVec Ideal S24576x48x128 .f32) : FVec Ideal S24576x48x1 .f32 :=
  shapeCast S24576x48x1 (multiReduction .maximumf [2] S24576x48 (absf v) 0xFF800000#32 reduces_S24576x48x128_S24576x48 (.inl rfl) rfl) shapeCasts_S24576x48_S24576x48x1

/-- The exponents of the groups. -/
def expoOf (v5 : FVec Ideal S24576x48x1 .f32) : FVec Ideal S24576x48x1 .f32 :=
  minimumf (select (cmpf .oeq v5 (broadcast S24576x48x1 (Scalar.ofBits .f32 0x00000000#32))) (broadcast S24576x48x1 (Scalar.ofBits .f32 0x00000000#32))
    (addf (floor (divf (log (divf v5 (broadcast S24576x48x1 (Scalar.ofBits .f32 0x43E00000#32)))) (log (broadcast S24576x48x1 (Scalar.ofBits .f32 0x40000000#32)))))
      (broadcast S24576x48x1 (Scalar.ofBits .f32 0x3F800000#32)))) (broadcast S24576x48x1 (Scalar.ofBits .f32 0x42F00000#32))

/-- The groups scaled, clipped and scaled back. -/
def clipOf (v2 : FVec Ideal S24576x48x128 .f32) (e : FVec Ideal S24576x48x1 .f32) : FVec Ideal S24576x48x128 .bf16 :=
  mulf (extf .bf16 (truncf .fp8e4m3 (minimumf (broadcast S24576x48x128 (Scalar.ofBits .f32 0x43E00000#32)) (maximumf (broadcast S24576x48x128 (Scalar.ofBits .f32 0xC3E00000#32))
    (mulf v2 (broadcastTo S24576x48x128 (exp2 (subf (broadcast S24576x48x1 (Scalar.ofBits .f32 0x00000000#32)) e)) broadcasts_S24576x48x1_S24576x48x128)))) bitsLt_fp8e4m3_f32) bitsLt_fp8e4m3_bf16)
    (broadcastTo S24576x48x128 (truncf .bf16 (exp2 e) bitsLt_bf16_f32) broadcasts_S24576x48x1_S24576x48x128)

theorem pay2_eq (x : Vec Ideal S24576x6144 .bf16) :
    k0_pay2 x = shapeCast S24576x6144 (clipOf (shapeCast S24576x48x128 (extf .f32 x bitsLt_bf16_f32) shapeCasts_S24576x6144_S24576x48x128)
      (expoOf (amaxOf (shapeCast S24576x48x128 (extf .f32 x bitsLt_bf16_f32) shapeCasts_S24576x6144_S24576x48x128)))) shapeCasts_S24576x48x128_S24576x6144 := rfl

theorem expoOf_apply (v : FVec Ideal S24576x48x1 .f32) (j0 : Fin 24576) (j1 : Fin 48) (j2 : Fin 1) : expoOf v (ix3 j0 j1 j2) = expo (v (ix3 j0 j1 j2)) := by
  unfold expoOf
  pointwise
  rw [c448, c2, c120]
  rfl

theorem clipOf_apply (v : FVec Ideal S24576x48x128 .f32) (e : FVec Ideal S24576x48x1 .f32) (j0 : Fin 24576) (j1 : Fin 48) (j2 : Fin 128) :
    clipOf v e (ix3 j0 j1 j2) = clipBack (Ideal.exp2 (e (ix3 j0 j1 0))) (Ideal.exp2 (0 - e (ix3 j0 j1 0))) (v (ix3 j0 j1 j2)) := by
  unfold clipOf
  pointwise
  rw [c448, cn448]
  rfl

theorem amaxOf_apply (v : FVec Ideal S24576x48x128 .f32) (j0 : Fin 24576) (j1 : Fin 48) (j2 : Fin 1) :
    amaxOf v (ix3 j0 j1 j2) = amax fun l => v (ix3 j0 j1 l) := by
  unfold amaxOf
  pointwise
  rw [cbot]
  rfl

theorem grouped_apply (x : FVec Ideal S24576x6144 .bf16) (j0 : Fin 24576) (j1 : Fin 48) (j2 : Fin 128) :
    shapeCast S24576x48x128 (extf .f32 x bitsLt_bf16_f32) shapeCasts_S24576x6144_S24576x48x128 (ix3 j0 j1 j2)
      = x (ix2 j0 ⟨j1.val * 128 + j2.val, by omega⟩) := by
  pointwise
  try rfl

theorem ungrouped_apply (v : FVec Ideal S24576x48x128 .bf16) (j0 : Fin 24576) (j1 : Fin 6144) :
    shapeCast S24576x6144 v shapeCasts_S24576x48x128_S24576x6144 (ix2 j0 j1)
      = v (ix3 j0 ⟨j1.val / 128, by omega⟩ ⟨j1.val % 128, by omega⟩) := by
  pointwise
  try rfl

/-- The reference's dequantised activations. -/
theorem pay2_apply (x : Vec Ideal S24576x6144 .bf16) (j0 : Fin 24576) (j1 : Fin 6144) :
    k0_pay2 x (ix2 j0 j1) = act (fun k => x (ix2 j0 k)) j1 := by
  rw [pay2_eq, ungrouped_apply, clipOf_apply, expoOf_apply, amaxOf_apply]
  simp only [grouped_apply]
  rfl

/-- The reference's dequantised weights. -/
theorem pay7_apply (s : Vec Ideal S1x48x16 .f32) (w : Vec Ideal S1x6144x2048 .fp8e4m3) (j0 : Fin 6144) (j1 : Fin 2048) :
    k0_pay7 s w (ix2 j0 j1) = wt (fun k c => w (ix3 0 k c)) (fun a b => s (ix3 0 a b)) j0 j1 := by
  unfold k0_pay7
  pointwise
  rfl

theorem step_apply (x : FVec Ideal S24576x6144 .bf16) (lo hi : BitVec 32) (w : FVec Ideal S6144x2048 .bf16) (a : FVec Ideal S24576x2048 .f32)
    (j0 : Fin 24576) (j1 : Fin 2048) :
    step x lo hi w a (ix2 j0 j1) = Scalar.select (IntOp.andi (IntOp.cmpi .sge (BitVec.ofNat 32 j0.val) lo) (IntOp.cmpi .slt (BitVec.ofNat 32 j0.val) hi))
      (∑ k : Fin 6144, x (ix2 j0 k) * w (ix2 k j1)) (a (ix2 j0 j1)) := by
  unfold step rowsOf
  pointwise

theorem startW_eq {g : ℕ → ℕ} (word : Fin 16 → BitVec 32) (hw : ∀ e : Fin 16, word e = BitVec.ofNat 32 (g e.val)) :
    ∀ (e : ℕ) (h : e ≤ 16), startW word e h = BitVec.ofNat 32 (psum g e)
  | 0, _ => rfl
  | e + 1, h => by
    unfold startW
    rw [startW_eq word hw e, hw, psum_succ, BitVec.ofNat_add]
    rfl

/-- After `n` experts, a row one of them owns holds its product. -/
theorem acc_apply {g : ℕ → ℕ} (hg : psum g 16 = 24576) (x : Vec Ideal S24576x6144 .bf16) (word : Fin 16 → BitVec 32)
    (hw : ∀ e : Fin 16, word e = BitVec.ofNat 32 (g e.val)) (s : Fin 16 → Vec Ideal S1x48x16 .f32) (w : Fin 16 → Vec Ideal S1x6144x2048 .fp8e4m3)
    (r : Fin 24576) (c : Fin 2048) (e : Fin 16) (he : Owns g e.val r.val) :
    ∀ (n : ℕ) (h : n ≤ 16), e.val < n → acc (k0_pay2 x) word s w n h (ix2 r c)
      = row (fun k => x (ix2 r k)) (fun k c => w e (ix3 0 k c)) (fun a b => s e (ix3 0 a b)) c
  | 0, _, hl => absurd hl (Nat.not_lt_zero _)
  | n + 1, h, hl => by
    have hle : ∀ k, k ≤ 16 → psum g k ≤ 24576 := fun k hk => hg ▸ psum_mono g hk
    unfold acc
    rw [step_apply, startW_eq word hw, startW_eq word hw]
    unfold Scalar.select
    rw [show (1 : BitVec 1) = 1#1 from rfl]
    by_cases hn : e.val = n
    · subst hn
      rw [if_pos ((mask_bit (by omega) (hle _ (by omega)) (hle _ h)).mpr he)]
      unfold row
      refine Finset.sum_congr rfl fun k _ => ?_
      rw [pay2_apply, pay7_apply]
    · rw [if_neg fun hm => hn (owns_unique he ((mask_bit (by omega) (hle _ (by omega)) (hle _ h)).mp hm))]
      exact acc_apply hg x word hw s w r c e he n _ (by omega)

end Cert.ReferenceIdeal.Hand

end
-- ==== Proof.RefValue.lean ====
/-
  What the reference's output array holds after its run: each row the product of its dequantised activations with the
  dequantised weights of the group that owns it.
-/
module

public import proofs.«01_k».proof.Proof.RefVal

@[expose] public section

set_option maxRecDepth 16384

noncomputable section

namespace Cert.ReferenceIdeal.Hand

open Cert.ReferenceIdeal.Gen
open Idealize.ShloMosaic Idealize.ShloMosaic.TcCoe Idealize.SL.Sem
open Cert.Quant Cert.Product Cert.Schedule

variable {g : ℕ → ℕ}

/-- What the reference stores, at an entry. -/
theorem out_apply (hg : psum g 16 = 24576) (x : Vec Ideal S24576x6144 .bf16) (word : Fin 16 → BitVec 32)
    (hw : ∀ e : Fin 16, word e = BitVec.ofNat 32 (g e.val)) (s : Fin 16 → Vec Ideal S1x48x16 .f32) (w : Fin 16 → Vec Ideal S1x6144x2048 .fp8e4m3)
    (r : Fin 24576) (c : Fin 2048) :
    out x word s w (ix2 r c) = result hg (fun r k => x (ix2 r k)) (fun e k c => w e (ix3 0 k c)) (fun e a b => s e (ix3 0 a b)) r c :=
  acc_apply hg x word hw s w r c (ownerOf hg r) (ownerOf_owns hg r) 16 le_rfl (ownerOf hg r).isLt

/-- What the run leaves in the output's staging buffer, of the contents of the others. -/
theorem out0_apply (c : Dev nD) (arg0 : Memref sig .tc .smem S16 .i32) (harg0 : arg0.IsWhole) (arg1 : Memref sig .tc .vmem S24576x6144 .bf16) (harg1 : arg1.IsWhole) (arg2 : Memref sig .tc .vmem S16x6144x2048 .fp8e4m3) (harg2 : arg2.IsWhole) (arg3 : Memref sig .tc .vmem S16x48x16 .f32) (harg3 : arg3.IsWhole) (arg4 : Memref sig .tc .vmem S24576x2048 .bf16) (harg4 : arg4.IsWhole)
    (x0 : Vec Ideal S16 .i32) (x1 : Vec Ideal S24576x6144 .bf16) (x2 : Vec Ideal S16x6144x2048 .fp8e4m3) (x3 : Vec Ideal S16x48x16 .f32)
    (h : Sizes x0 g) (r : Fin 24576) (j : Fin 2048) :
    out0_A_4 (F := Ideal) c arg0 harg0 arg1 harg1 arg2 harg2 arg3 harg3 arg4 harg4 x0 x1 x2 x3 (ix2 r j)
      = result h.total (fun r k => x1 (ix2 r k)) (fun e k c => x2 (ix3 e k c)) (fun e a b => x3 (ix3 e a b)) r j := by
  unfold out0_A_4
  rw [pieces]
  refine Eq.trans (View.read_writes_apply_of_pieces _ _
    (out (F := Ideal) (View.readAt (Elt Ideal) arg1.view (Rect.unit (s := S24576x6144) ![0, 0] S24576x6144.size inb_S24576x6144_S24576x6144_0_0).toLoadRect (harg1.unread x1))
      (fun e => View.readAt (Elt Ideal) arg0.view (Rect.unit (s := S16) ![e.val] S1.size (inb_word e)).toLoadRect (harg0.unread x0) (Shape.Idx.first (numel1_S1.symm ▸ Nat.one_pos)))
      (fun e => View.readAt (Elt Ideal) arg3.view (Rect.unit (s := S16x48x16) ![e.val, 0, 0] S1x48x16.size (inb_scale e)).toLoadRect (harg3.unread x3))
      (fun e => View.readAt (Elt Ideal) arg2.view (Rect.unit (s := S16x6144x2048) ![e.val, 0, 0] S1x6144x2048.size (inb_weight e)).toLoadRect (harg2.unread x2)) :
      S24576x2048.Idx → Elt Ideal .bf16) _ (fun p hp x => ?_) (ix2 r j) ?_) ?_
  · obtain rfl := List.mem_singleton.mp hp
    refine congrArg _ (funext fun a => Fin.ext ?_)
    fin_cases a
    · show (x 0).val = 0 + 1 * (x 0).val; omega
    · show (x 1).val = 0 + 1 * (x 1).val; omega
  · refine ⟨_, List.mem_singleton.mpr rfl, ?_⟩
    refine (Rect.mem_set_unit (inb := inb_S24576x2048_S24576x2048_0_0)).mpr fun a => ?_
    fin_cases a
    · exact ⟨Nat.zero_le _, by show r.val < 0 + 24576; omega⟩
    · exact ⟨Nat.zero_le _, by show j.val < 0 + 2048; omega⟩
  · refine (out_apply h.total _ _ (fun e => ?_) _ _ r j).trans ?_
    · rw [← h.word e, harg0.readAt_unread]
      refine congrArg x0 (funext fun a => Fin.ext ?_)
      fin_cases a
      show e.val + 1 * 0 = e.val
      omega
    · refine congrFun (congrFun (congr (congr (congrArg (result h.total) ?_) ?_) ?_) r) j
      · funext r k
        rw [harg1.readAt_unread]
        refine congrArg x1 (funext fun a => Fin.ext ?_)
        fin_cases a
        · show 0 + 1 * r.val = r.val; omega
        · show 0 + 1 * k.val = k.val; omega
      · funext e k c
        rw [harg2.readAt_unread]
        refine congrArg x2 (funext fun a => Fin.ext ?_)
        fin_cases a
        · show e.val + 1 * 0 = e.val; omega
        · show 0 + 1 * k.val = k.val; omega
        · show 0 + 1 * c.val = c.val; omega
      · funext e a b
        rw [harg3.readAt_unread]
        refine congrArg x3 (funext fun d => Fin.ext ?_)
        fin_cases d
        · show e.val + 1 * 0 = e.val; omega
        · show 0 + 1 * a.val = a.val; omega
        · show 0 + 1 * b.val = b.val; omega

/-! ### The blocks are the arrays -/

theorem blk0 (m : (ℓ : Loc nD τ sig) → Buf (Elt Ideal) ℓ) (c : Dev nD) (t : Fin cfg0.N) : iblk m c 0 t = m ((c.tc : Thread nD τ).loc main_arg1) := by
  funext i
  refine congrArg (m ((c.tc : Thread nD τ).loc main_arg1)) (funext fun a => Fin.ext ?_)
  fin_cases a
  show 0 * 16 + 1 * (i (0 : Fin 1)).val = (i (0 : Fin 1)).val
  omega
theorem blk1 (m : (ℓ : Loc nD τ sig) → Buf (Elt Ideal) ℓ) (c : Dev nD) (t : Fin cfg0.N) : iblk m c 1 t = m ((c.tc : Thread nD τ).loc main_arg0) := by
  funext i
  refine congrArg (m ((c.tc : Thread nD τ).loc main_arg0)) (funext fun a => Fin.ext ?_)
  fin_cases a
  · show 0 * 24576 + 1 * (i (0 : Fin 2)).val = (i (0 : Fin 2)).val; omega
  · show 0 * 6144 + 1 * (i (1 : Fin 2)).val = (i (1 : Fin 2)).val; omega
theorem blk2 (m : (ℓ : Loc nD τ sig) → Buf (Elt Ideal) ℓ) (c : Dev nD) (t : Fin cfg0.N) : iblk m c 2 t = m ((c.tc : Thread nD τ).loc main_arg2) := by
  funext i
  refine congrArg (m ((c.tc : Thread nD τ).loc main_arg2)) (funext fun a => Fin.ext ?_)
  fin_cases a
  · show 0 * 16 + 1 * (i (0 : Fin 3)).val = (i (0 : Fin 3)).val; omega
  · show 0 * 6144 + 1 * (i (1 : Fin 3)).val = (i (1 : Fin 3)).val; omega
  · show 0 * 2048 + 1 * (i (2 : Fin 3)).val = (i (2 : Fin 3)).val; omega
theorem blk3 (m : (ℓ : Loc nD τ sig) → Buf (Elt Ideal) ℓ) (c : Dev nD) (t : Fin cfg0.N) : iblk m c 3 t = m ((c.tc : Thread nD τ).loc main_arg3) := by
  funext i
  refine congrArg (m ((c.tc : Thread nD τ).loc main_arg3)) (funext fun a => Fin.ext ?_)
  fin_cases a
  · show 0 * 16 + 1 * (i (0 : Fin 3)).val = (i (0 : Fin 3)).val; omega
  · show 0 * 48 + 1 * (i (1 : Fin 3)).val = (i (1 : Fin 3)).val; omega
  · show 0 * 16 + 1 * (i (2 : Fin 3)).val = (i (2 : Fin 3)).val; omega

/-- The reference's run. -/
theorem run (m : (ℓ : Loc nD τ sig) → Buf (Elt Ideal) ℓ) (ρ : Dev nD → PrngReg) (h : ∀ c : Dev nD, Sizes (m ((c.tc : Thread nD τ).loc main_arg1)) g) :
    θ_run defs (onTc (τ := τ) (main (F := Ideal))) ⟨m, fun _ => 0, ρ⟩ fun r => ∀ c : Dev nD,
      r.2.mem ((c : Thread nD τ).loc main_v0) = (fun i : S24576x2048.Idx => result (h c).total (fun r k => m ((c.tc : Thread nD τ).loc main_arg0) (ix2 r k))
        (fun e k j => m ((c.tc : Thread nD τ).loc main_arg2) (ix3 e k j)) (fun e a b => m ((c.tc : Thread nD τ).loc main_arg3) (ix3 e a b)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run _ _ _).mono (fun r hr c => ⟨(hr c).1.trans ?_, (hr c).2⟩) (Cert.ReferenceIdeal.Value.run_blocks m ρ)
  let t : Fin cfg0.N := ⟨0, by decide⟩
  have hf : (cfg0.win 4).flush t = true := by decide +kernel
  have hb := (Cert.ReferenceIdeal.Value.blocks4 m c t hf).trans (Cert.ReferenceIdeal.Value.flushed4_A m c t)
  rw [blk0, blk1, blk2, blk3] at hb
  have ho := out0_apply c (ms0_0 t) (hs0_0 t) (ms0_1 t) (hs0_1 t) (ms0_2 t) (hs0_2 t) (ms0_3 t) (hs0_3 t) (ms0_4 t) (hs0_4 t)
    (m ((c.tc : Thread nD τ).loc main_arg1)) (m ((c.tc : Thread nD τ).loc main_arg0)) (m ((c.tc : Thread nD τ).loc main_arg2)) (m ((c.tc : Thread nD τ).loc main_arg3)) (h c)
  generalize out0_A_4 (F := Ideal) c (ms0_0 t) (hs0_0 t) (ms0_1 t) (hs0_1 t) (ms0_2 t) (hs0_2 t) (ms0_3 t) (hs0_3 t) (ms0_4 t) (hs0_4 t)
    (m ((c.tc : Thread nD τ).loc main_arg1)) (m ((c.tc : Thread nD τ).loc main_arg0)) (m ((c.tc : Thread nD τ).loc main_arg2)) (m ((c.tc : Thread nD τ).loc main_arg3)) = O at hb ho
  generalize (dats m 0 c).arrAt 4 cfg0.N = G at hb ⊢
  funext (i : S24576x2048.Idx)
  have hi := congrFun hb i
  have e1 : ((cfg0.win 4).blk t).view.emb i = i := funext fun a => Fin.ext (by
    fin_cases a
    · show 0 * 24576 + 1 * (i (0 : Fin 2)).val = (i (0 : Fin 2)).val; omega
    · show 0 * 2048 + 1 * (i (1 : Fin 2)).val = (i (1 : Fin 2)).val; omega)
  have e2 : i = ix2 (i 0) (i 1) := funext fun a => by fin_cases a <;> rfl
  have e3 : G i = O i := (congrArg G e1).symm.trans hi
  exact e3.trans ((congrArg O e2).trans (ho (i 0) (i 1)))

end Cert.ReferenceIdeal.Hand

end
-- ==== Proof.lean ====
/-
  The certificate: every claim of the file, assembled from the modules that prove them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_full_groups
public import proofs.«01_k».proof.Proof.Launch
public import proofs.«01_k».proof.Proof.Ideal.Value
public import proofs.«01_k».proof.Proof.RefValue
public import Idealize.ShloMosaic.Adequacy
public import Idealize.ShloMosaic.Init

@[expose] public section

noncomputable section

namespace Cert.Proof

open Idealize.ShloMosaic Idealize.SL.Sem

theorem frame_Kernel : Cert.quiescent_Kernel (hKernel := Cert.Kernel.Gen.facts) (hPre_full_groups := Cert.Pre_full_groups.Gen.facts) :=
  fun m ρ h => Cert.Kernel.Hand.frame m ρ (Cert.Schedule.sizes_of_pre _ _ _ _ (h 0))

theorem frame_KernelIdeal : Cert.quiescent_KernelIdeal (hKernelIdeal := Cert.KernelIdeal.Gen.facts) (hPre_full_groups := Cert.Pre_full_groups.Gen.facts) :=
  fun m ρ h => Cert.KernelIdeal.Hand.frame m ρ (Cert.Schedule.sizes_of_pre _ _ _ _ (h 0))

/-- The two programs end with the same product. -/
theorem algebraic : Cert.algebraic_KernelIdeal_ReferenceIdeal (hKernelIdeal := Cert.KernelIdeal.Gen.facts) (hReferenceIdeal := Cert.ReferenceIdeal.Gen.facts)
    (hPre_full_groups := Cert.Pre_full_groups.Gen.facts) := by
  intro m ρ m' ρ' hpre hargs
  have h := Cert.Schedule.sizes_of_pre _ _ _ _ (hpre 0)
  have h' : ∀ c : Dev Cert.ReferenceIdeal.nD, Cert.Schedule.Sizes (m' ((c.tc : Thread Cert.ReferenceIdeal.nD Cert.ReferenceIdeal.τ).loc Cert.ReferenceIdeal.main_arg1))
      (Cert.Schedule.sizesOf (m (((0 : Dev Cert.KernelIdeal.nD).tc : Thread Cert.KernelIdeal.nD Cert.KernelIdeal.τ).loc Cert.KernelIdeal.main_arg1))) := fun c => by
    obtain rfl : c = 0 := Subsingleton.elim _ _
    rw [(hargs 0).2.1]
    exact h
  refine ⟨fun c i => Cert.KernelIdeal.Hand.product h c (i 0) (i 1), ?_, ?_⟩
  · refine (θ_run _ _ _).mono (fun r hr c => ⟨Cert.KernelIdeal.Hand.output h hr.1 c, ?_, ?_, ?_, ?_⟩) (Cert.KernelIdeal.Hand.run_main m ρ h)
    · exact Cert.KernelIdeal.Hand.kept0 hr.1 c
    · exact Cert.KernelIdeal.Hand.kept1 hr.1 c
    · exact Cert.KernelIdeal.Hand.kept2 hr.1 c
    · exact Cert.KernelIdeal.Hand.kept3 hr.1 c
  · refine (θ_run _ _ _).mono (fun r hr c => ⟨(hr c).1.trans ?_, (hr c).2⟩) (Cert.ReferenceIdeal.Hand.run m' ρ' h')
    obtain ⟨a0, a1, a2, a3⟩ := hargs c
    unfold Cert.KernelIdeal.Hand.product
    rw [a0, a2, a3]
    rfl

theorem claim : Cert.Claim :=
  ⟨Cert.Kernel.Gen.facts, Cert.KernelIdeal.Gen.facts, Cert.ReferenceIdeal.Gen.facts, Cert.Pre_full_groups.Gen.facts,
    frame_Kernel, frame_KernelIdeal, fun m ρ _ => Cert.ReferenceIdeal.Gen.frame m ρ, fun m ρ _ => Cert.ReferenceIdeal.Gen.frame m ρ, trivial, algebraic⟩

end Cert.Proof

end
